-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_keys [hPre_finite_keys : Cert.Pre_finite_keys.Facts] (m : (ℓ : Loc Cert.CrossIdeal.nD Cert.CrossIdeal.τ Cert.CrossIdeal.sig) → Buf (Elt Ideal) ℓ) : Prop :=
  ∀ c : Dev Cert.CrossIdeal.nD,
    (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).1 = (fun _ => 1#1)
    ∧ (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).2.1 = (fun _ => 1#1)
    ∧ (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).2.2 = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_keys [hPre_finite_keys : Cert.Pre_finite_keys.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_keys.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7)) (m ((c.tc : Thread Cert.CrossReferenceIdeal.nD Cert.CrossReferenceIdeal.τ).loc Cert.CrossReferenceIdeal.main_arg8)) (m ((c.tc : Thread Cert.CrossReferenceIdeal.nD Cert.CrossReferenceIdeal.τ).loc Cert.CrossReferenceIdeal.main_arg9)) (m ((c.tc : Thread Cert.CrossReferenceIdeal.nD Cert.CrossReferenceIdeal.τ).loc Cert.CrossReferenceIdeal.main_arg10))).1 = (fun _ => 1#1)
    ∧ (Cert.Pre_finite_keys.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7)) (m ((c.tc : Thread Cert.CrossReferenceIdeal.nD Cert.CrossReferenceIdeal.τ).loc Cert.CrossReferenceIdeal.main_arg8)) (m ((c.tc : Thread Cert.CrossReferenceIdeal.nD Cert.CrossReferenceIdeal.τ).loc Cert.CrossReferenceIdeal.main_arg9)) (m ((c.tc : Thread Cert.CrossReferenceIdeal.nD Cert.CrossReferenceIdeal.τ).loc Cert.CrossReferenceIdeal.main_arg10))).2.1 = (fun _ => 1#1)
    ∧ (Cert.Pre_finite_keys.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7)) (m ((c.tc : Thread Cert.CrossReferenceIdeal.nD Cert.CrossReferenceIdeal.τ).loc Cert.CrossReferenceIdeal.main_arg8)) (m ((c.tc : Thread Cert.CrossReferenceIdeal.nD Cert.CrossReferenceIdeal.τ).loc Cert.CrossReferenceIdeal.main_arg9)) (m ((c.tc : Thread Cert.CrossReferenceIdeal.nD Cert.CrossReferenceIdeal.τ).loc Cert.CrossReferenceIdeal.main_arg10))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9)
      ∧ r.2.mem ((c.tc : Thread Cert.Cross.nD Cert.Cross.τ).loc Cert.Cross.main_arg10) = m ((c.tc : Thread Cert.Cross.nD Cert.Cross.τ).loc Cert.Cross.main_arg10))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossIdeal_pre_finite_keys [hCrossIdeal : Cert.CrossIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_keys m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6)
      ∧ r.2.mem ((c.tc : Thread Cert.CrossReferenceIdeal.nD Cert.CrossReferenceIdeal.τ).loc Cert.CrossReferenceIdeal.main_arg7) = m ((c.tc : Thread Cert.CrossReferenceIdeal.nD Cert.CrossReferenceIdeal.τ).loc Cert.CrossReferenceIdeal.main_arg7)
      ∧ r.2.mem ((c.tc : Thread Cert.CrossReferenceIdeal.nD Cert.CrossReferenceIdeal.τ).loc Cert.CrossReferenceIdeal.main_arg8) = m ((c.tc : Thread Cert.CrossReferenceIdeal.nD Cert.CrossReferenceIdeal.τ).loc Cert.CrossReferenceIdeal.main_arg8)
      ∧ r.2.mem ((c.tc : Thread Cert.CrossReferenceIdeal.nD Cert.CrossReferenceIdeal.τ).loc Cert.CrossReferenceIdeal.main_arg9) = m ((c.tc : Thread Cert.CrossReferenceIdeal.nD Cert.CrossReferenceIdeal.τ).loc Cert.CrossReferenceIdeal.main_arg9)
      ∧ r.2.mem ((c.tc : Thread Cert.CrossReferenceIdeal.nD Cert.CrossReferenceIdeal.τ).loc Cert.CrossReferenceIdeal.main_arg10) = m ((c.tc : Thread Cert.CrossReferenceIdeal.nD Cert.CrossReferenceIdeal.τ).loc Cert.CrossReferenceIdeal.main_arg10))
      ∧ r.2.sem = fun _ => 0)

def quiescent_CrossReferenceIdeal_pre_finite_keys [hCrossReferenceIdeal : Cert.CrossReferenceIdeal.Facts] [hPre_finite_keys : Cert.Pre_finite_keys.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_keys m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6)
      ∧ r.2.mem ((c.tc : Thread Cert.CrossReferenceIdeal.nD Cert.CrossReferenceIdeal.τ).loc Cert.CrossReferenceIdeal.main_arg7) = m ((c.tc : Thread Cert.CrossReferenceIdeal.nD Cert.CrossReferenceIdeal.τ).loc Cert.CrossReferenceIdeal.main_arg7)
      ∧ r.2.mem ((c.tc : Thread Cert.CrossReferenceIdeal.nD Cert.CrossReferenceIdeal.τ).loc Cert.CrossReferenceIdeal.main_arg8) = m ((c.tc : Thread Cert.CrossReferenceIdeal.nD Cert.CrossReferenceIdeal.τ).loc Cert.CrossReferenceIdeal.main_arg8)
      ∧ r.2.mem ((c.tc : Thread Cert.CrossReferenceIdeal.nD Cert.CrossReferenceIdeal.τ).loc Cert.CrossReferenceIdeal.main_arg9) = m ((c.tc : Thread Cert.CrossReferenceIdeal.nD Cert.CrossReferenceIdeal.τ).loc Cert.CrossReferenceIdeal.main_arg9)
      ∧ r.2.mem ((c.tc : Thread Cert.CrossReferenceIdeal.nD Cert.CrossReferenceIdeal.τ).loc Cert.CrossReferenceIdeal.main_arg10) = m ((c.tc : Thread Cert.CrossReferenceIdeal.nD Cert.CrossReferenceIdeal.τ).loc Cert.CrossReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "slope0_log2e" .f32 0x3CB8AA3B#32 (((1 / 64) * (Real.log 2)⁻¹ : ℝ) : EReal)
  ∧ IdealRules.named_const.Statement Cert.KernelIdeal.κ "slope1_log2e" .f32 0x3C68A9CD#32 (((1321123 / 134217728) * (Real.log 2)⁻¹ : ℝ) : EReal)
  ∧ IdealRules.named_const.Statement Cert.KernelIdeal.κ "slope2_log2e" .f32 0x3C129195#32 (((13316085 / 2147483648) * (Real.log 2)⁻¹ : ℝ) : EReal)
  ∧ IdealRules.named_const.Statement Cert.KernelIdeal.κ "slope3_log2e" .f32 0x3BB8AA3B#32 (((1 / 256) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Cross_CrossIdeal : Prop :=
  IdealRules.named_const.Statement Cert.CrossIdeal.κ "xscale_log2e" .f32 0x3DB8AA3B#32 (((1 / 16) * (Real.log 2)⁻¹ : ℝ) : EReal)

def algebraic_CrossIdeal_CrossReferenceIdeal_pre_finite_keys [hCrossIdeal : Cert.CrossIdeal.Facts] [hCrossReferenceIdeal : Cert.CrossReferenceIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_keys m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)
      ∧ m' ((c.tc : Thread Cert.CrossReferenceIdeal.nD Cert.CrossReferenceIdeal.τ).loc Cert.CrossReferenceIdeal.main_arg7) = m ((c.tc : Thread Cert.CrossIdeal.nD Cert.CrossIdeal.τ).loc Cert.CrossIdeal.main_arg7)
      ∧ m' ((c.tc : Thread Cert.CrossReferenceIdeal.nD Cert.CrossReferenceIdeal.τ).loc Cert.CrossReferenceIdeal.main_arg8) = m ((c.tc : Thread Cert.CrossIdeal.nD Cert.CrossIdeal.τ).loc Cert.CrossIdeal.main_arg8)
      ∧ m' ((c.tc : Thread Cert.CrossReferenceIdeal.nD Cert.CrossReferenceIdeal.τ).loc Cert.CrossReferenceIdeal.main_arg9) = m ((c.tc : Thread Cert.CrossIdeal.nD Cert.CrossIdeal.τ).loc Cert.CrossIdeal.main_arg9)
      ∧ m' ((c.tc : Thread Cert.CrossReferenceIdeal.nD Cert.CrossReferenceIdeal.τ).loc Cert.CrossReferenceIdeal.main_arg10) = m ((c.tc : Thread Cert.CrossIdeal.nD Cert.CrossIdeal.τ).loc Cert.CrossIdeal.main_arg10)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
          ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v76) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6)
          ∧ r.2.mem ((c.tc : Thread Cert.CrossReferenceIdeal.nD Cert.CrossReferenceIdeal.τ).loc Cert.CrossReferenceIdeal.main_arg7) = m' ((c.tc : Thread Cert.CrossReferenceIdeal.nD Cert.CrossReferenceIdeal.τ).loc Cert.CrossReferenceIdeal.main_arg7)
          ∧ r.2.mem ((c.tc : Thread Cert.CrossReferenceIdeal.nD Cert.CrossReferenceIdeal.τ).loc Cert.CrossReferenceIdeal.main_arg8) = m' ((c.tc : Thread Cert.CrossReferenceIdeal.nD Cert.CrossReferenceIdeal.τ).loc Cert.CrossReferenceIdeal.main_arg8)
          ∧ r.2.mem ((c.tc : Thread Cert.CrossReferenceIdeal.nD Cert.CrossReferenceIdeal.τ).loc Cert.CrossReferenceIdeal.main_arg9) = m' ((c.tc : Thread Cert.CrossReferenceIdeal.nD Cert.CrossReferenceIdeal.τ).loc Cert.CrossReferenceIdeal.main_arg9)
          ∧ r.2.mem ((c.tc : Thread Cert.CrossReferenceIdeal.nD Cert.CrossReferenceIdeal.τ).loc Cert.CrossReferenceIdeal.main_arg10) = m' ((c.tc : Thread Cert.CrossReferenceIdeal.nD Cert.CrossReferenceIdeal.τ).loc Cert.CrossReferenceIdeal.main_arg10))

def preserves_Proj_ProjIdeal : Prop :=
  IdealRules.named_const.Statement Cert.ProjIdeal.κ "diff_log2e" .f32 0x3E8293EE#32 (((Real.log 2)⁻¹ * (Real.sqrt 32)⁻¹ : ℝ) : EReal)
  ∧ IdealRules.named_const.Statement Cert.ProjIdeal.κ "swa_log2e" .f32 0x3E38AA3B#32 (((Real.log 2)⁻¹ * (Real.sqrt 64)⁻¹ : ℝ) : EReal)
  ∧ IdealRules.named_const.Statement Cert.ProjIdeal.κ "mla_log2e" .f32 0x3E16C740#32 (((Real.log 2)⁻¹ * (Real.sqrt 96)⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v74_0)) (v1 : (c : Dev Cert.ProjIdeal.nD) → Buf (Elt Ideal) ((c.tc : Thread Cert.ProjIdeal.nD Cert.ProjIdeal.τ).loc Cert.ProjIdeal.main_v74_1)) (v2 : (c : Dev Cert.ProjIdeal.nD) → Buf (Elt Ideal) ((c.tc : Thread Cert.ProjIdeal.nD Cert.ProjIdeal.τ).loc Cert.ProjIdeal.main_v74_2)) (v3 : (c : Dev Cert.ProjIdeal.nD) → Buf (Elt Ideal) ((c.tc : Thread Cert.ProjIdeal.nD Cert.ProjIdeal.τ).loc Cert.ProjIdeal.main_v74_3)) (v4 : (c : Dev Cert.ProjIdeal.nD) → Buf (Elt Ideal) ((c.tc : Thread Cert.ProjIdeal.nD Cert.ProjIdeal.τ).loc Cert.ProjIdeal.main_v74_4)) (v5 : (c : Dev Cert.ProjIdeal.nD) → Buf (Elt Ideal) ((c.tc : Thread Cert.ProjIdeal.nD Cert.ProjIdeal.τ).loc Cert.ProjIdeal.main_v74_5)) (v6 : (c : Dev Cert.ProjIdeal.nD) → Buf (Elt Ideal) ((c.tc : Thread Cert.ProjIdeal.nD Cert.ProjIdeal.τ).loc Cert.ProjIdeal.main_v74_6)) (v7 : (c : Dev Cert.ProjIdeal.nD) → Buf (Elt Ideal) ((c.tc : Thread Cert.ProjIdeal.nD Cert.ProjIdeal.τ).loc Cert.ProjIdeal.main_v74_7)) (v8 : (c : Dev Cert.ProjIdeal.nD) → Buf (Elt Ideal) ((c.tc : Thread Cert.ProjIdeal.nD Cert.ProjIdeal.τ).loc Cert.ProjIdeal.main_v74_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v74_0) = v0 c
          ∧ r.2.mem ((c.tc : Thread Cert.ProjIdeal.nD Cert.ProjIdeal.τ).loc Cert.ProjIdeal.main_v74_1) = v1 c
          ∧ r.2.mem ((c.tc : Thread Cert.ProjIdeal.nD Cert.ProjIdeal.τ).loc Cert.ProjIdeal.main_v74_2) = v2 c
          ∧ r.2.mem ((c.tc : Thread Cert.ProjIdeal.nD Cert.ProjIdeal.τ).loc Cert.ProjIdeal.main_v74_3) = v3 c
          ∧ r.2.mem ((c.tc : Thread Cert.ProjIdeal.nD Cert.ProjIdeal.τ).loc Cert.ProjIdeal.main_v74_4) = v4 c
          ∧ r.2.mem ((c.tc : Thread Cert.ProjIdeal.nD Cert.ProjIdeal.τ).loc Cert.ProjIdeal.main_v74_5) = v5 c
          ∧ r.2.mem ((c.tc : Thread Cert.ProjIdeal.nD Cert.ProjIdeal.τ).loc Cert.ProjIdeal.main_v74_6) = v6 c
          ∧ r.2.mem ((c.tc : Thread Cert.ProjIdeal.nD Cert.ProjIdeal.τ).loc Cert.ProjIdeal.main_v74_7) = v7 c
          ∧ r.2.mem ((c.tc : Thread Cert.ProjIdeal.nD Cert.ProjIdeal.τ).loc Cert.ProjIdeal.main_v74_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v137) = v0 c
          ∧ r.2.mem ((c.tc : Thread Cert.ProjReferenceIdeal.nD Cert.ProjReferenceIdeal.τ).loc Cert.ProjReferenceIdeal.main_v138) = v1 c
          ∧ r.2.mem ((c.tc : Thread Cert.ProjReferenceIdeal.nD Cert.ProjReferenceIdeal.τ).loc Cert.ProjReferenceIdeal.main_v139) = v2 c
          ∧ r.2.mem ((c.tc : Thread Cert.ProjReferenceIdeal.nD Cert.ProjReferenceIdeal.τ).loc Cert.ProjReferenceIdeal.main_v140) = v3 c
          ∧ r.2.mem ((c.tc : Thread Cert.ProjReferenceIdeal.nD Cert.ProjReferenceIdeal.τ).loc Cert.ProjReferenceIdeal.main_v141) = v4 c
          ∧ r.2.mem ((c.tc : Thread Cert.ProjReferenceIdeal.nD Cert.ProjReferenceIdeal.τ).loc Cert.ProjReferenceIdeal.main_v142) = v5 c
          ∧ r.2.mem ((c.tc : Thread Cert.ProjReferenceIdeal.nD Cert.ProjReferenceIdeal.τ).loc Cert.ProjReferenceIdeal.main_v143) = v6 c
          ∧ r.2.mem ((c.tc : Thread Cert.ProjReferenceIdeal.nD Cert.ProjReferenceIdeal.τ).loc Cert.ProjReferenceIdeal.main_v144) = v7 c
          ∧ r.2.mem ((c.tc : Thread Cert.ProjReferenceIdeal.nD Cert.ProjReferenceIdeal.τ).loc Cert.ProjReferenceIdeal.main_v145) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hCross : Cert.Cross.Facts) (hCrossIdeal : Cert.CrossIdeal.Facts) (hCrossReferenceIdeal : Cert.CrossReferenceIdeal.Facts) (hProj : Cert.Proj.Facts) (hProjIdeal : Cert.ProjIdeal.Facts) (hProjReferenceIdeal : Cert.ProjReferenceIdeal.Facts) (hPre_finite : Cert.Pre_finite.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Cross (hCross := hCross)
    ∧ quiescent_CrossIdeal (hCrossIdeal := hCrossIdeal)
    ∧ quiescent_CrossIdeal_pre_finite_keys (hCrossIdeal := hCrossIdeal) (hPre_finite_keys := hPre_finite_keys)
    ∧ quiescent_CrossReferenceIdeal (hCrossReferenceIdeal := hCrossReferenceIdeal)
    ∧ quiescent_CrossReferenceIdeal_pre_finite_keys (hCrossReferenceIdeal := hCrossReferenceIdeal) (hPre_finite_keys := hPre_finite_keys)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Cross_CrossIdeal
    ∧ algebraic_CrossIdeal_CrossReferenceIdeal_pre_finite_keys (hCrossIdeal := hCrossIdeal) (hCrossReferenceIdeal := hCrossReferenceIdeal) (hPre_finite_keys := hPre_finite_keys)
    ∧ preserves_Proj_ProjIdeal
    ∧ algebraic_ProjIdeal_ProjReferenceIdeal (hProjIdeal := hProjIdeal) (hProjReferenceIdeal := hProjReferenceIdeal)
-- ==== Pre_finite.lean ====
abbrev S2x256x16384 : Shape := ⟨3, ![2, 256, 16384]⟩
abbrev S2x16384x256 : Shape := ⟨3, ![2, 16384, 256]⟩
abbrev S2x512x16384 : Shape := ⟨3, ![2, 512, 16384]⟩
abbrev S2x16384x512 : Shape := ⟨3, ![2, 16384, 512]⟩
abbrev S2x16384 : Shape := ⟨2, ![2, 16384]⟩
abbrev S4x32 : Shape := ⟨2, ![4, 32]⟩
abbrev S64x1 : Shape := ⟨2, ![64, 1]⟩
abbrev S1x1 : Shape := ⟨2, ![1, 1]⟩
abbrev S_ : Shape := ⟨0, ![]⟩

class Facts : Prop where
  bitsLt_bf16_f32 : FTy.bits .bf16 < FTy.bits .f32
  bcast_S_S2x256x16384 : S_.BroadcastsInDim S2x256x16384 (![] : Fin 0 → Fin S2x256x16384.rank)
  bcast_S_S2x16384x256 : S_.BroadcastsInDim S2x16384x256 (![] : Fin 0 → Fin S2x16384x256.rank)
  bcast_S_S2x512x16384 : S_.BroadcastsInDim S2x512x16384 (![] : Fin 0 → Fin S2x512x16384.rank)
  bcast_S_S2x16384x512 : S_.BroadcastsInDim S2x16384x512 (![] : Fin 0 → Fin S2x16384x512.rank)
  bcast_S_S4x32 : S_.BroadcastsInDim S4x32 (![] : Fin 0 → Fin S4x32.rank)
  bcast_S_S1x1 : S_.BroadcastsInDim S1x1 (![] : Fin 0 → Fin S1x1.rank)

variable [Facts]

def fn_part1 {F : FTy → Type} [FloatOps F] (main_arg5 : FVec F S2x256x16384 .bf16) (main_arg7 : FVec F S4x32 .f32) (main_arg9 : FVec F S1x1 .f32) (main_v3 : IVec S2x256x16384 1) (main_v7 : IVec S2x16384x256 1) (main_v11 : IVec S2x256x16384 1) (main_v15 : IVec S2x512x16384 1) (main_v17 : FVec F S2x16384x512 .f32) (main_v18 : FVec F S2x16384x512 .f32) : IVec S2x256x16384 1 × IVec S2x16384x256 1 × IVec S2x256x16384 1 × IVec S2x512x16384 1 × IVec S2x16384x512 1 × IVec S2x256x16384 1 × IVec S4x32 1 × IVec S1x1 1 :=
  let main_v19 : IVec S2x16384x512 1 := cmpf .olt main_v17 main_v18
  let main_v20 : FVec F S2x256x16384 .f32 := (extf .f32 · bitsLt_bf16_f32) main_arg5
  let main_v21 : FVec F S2x256x16384 .f32 := Host.absf main_v20
  let main_cst_4 : FVec F S_ .f32 := constant S_ .f32 0x7F800000#32
  let main_v22 : FVec F S2x256x16384 .f32 := broadcastInDim S2x256x16384 ![] bcast_S_S2x256x16384 main_cst_4
  let main_v23 : IVec S2x256x16384 1 := cmpf .olt main_v21 main_v22
  let main_v24 : FVec F S4x32 .f32 := Host.absf main_arg7
  let main_cst_5 : FVec F S_ .f32 := constant S_ .f32 0x7F800000#32
  let main_v25 : FVec F S4x32 .f32 := broadcastInDim S4x32 ![] bcast_S_S4x32 main_cst_5
  let main_v26 : IVec S4x32 1 := cmpf .olt main_v24 main_v25
  let main_v27 : FVec F S1x1 .f32 := Host.absf main_arg9
  let main_cst_6 : FVec F S_ .f32 := constant S_ .f32 0x7F800000#32
  let main_v28 : FVec F S1x1 .f32 := broadcastInDim S1x1 ![] bcast_S_S1x1 main_cst_6
  let main_v29 : IVec S1x1 1 := cmpf .olt main_v27 main_v28
  (main_v3, main_v7, main_v11, main_v15, main_v19, main_v23, main_v26, main_v29)

def fn {F : FTy → Type} [FloatOps F] (main_arg0 : FVec F S2x256x16384 .bf16) (main_arg1 : FVec F S2x16384x256 .bf16) (main_arg2 : FVec F S2x256x16384 .bf16) (main_arg3 : FVec F S2x512x16384 .bf16) (main_arg4 : FVec F S2x16384x512 .bf16) (main_arg5 : FVec F S2x256x16384 .bf16) (main_arg6 : IVec S2x16384 32) (main_arg7 : FVec F S4x32 .f32) (main_arg8 : FVec F S64x1 .f32) (main_arg9 : FVec F S1x1 .f32) : IVec S2x256x16384 1 × IVec S2x16384x256 1 × IVec S2x256x16384 1 × IVec S2x512x16384 1 × IVec S2x16384x512 1 × IVec S2x256x16384 1 × IVec S4x32 1 × IVec S1x1 1 :=
  let main_v0 : FVec F S2x256x16384 .f32 := (extf .f32 · bitsLt_bf16_f32) main_arg0
  let main_v1 : FVec F S2x256x16384 .f32 := Host.absf main_v0
  let main_cst : FVec F S_ .f32 := constant S_ .f32 0x7F800000#32
  let main_v2 : FVec F S2x256x16384 .f32 := broadcastInDim S2x256x16384 ![] bcast_S_S2x256x16384 main_cst
  let main_v3 : IVec S2x256x16384 1 := cmpf .olt main_v1 main_v2
  let main_v4 : FVec F S2x16384x256 .f32 := (extf .f32 · bitsLt_bf16_f32) main_arg1
  let main_v5 : FVec F S2x16384x256 .f32 := Host.absf main_v4
  let main_cst_0 : FVec F S_ .f32 := constant S_ .f32 0x7F800000#32
  let main_v6 : FVec F S2x16384x256 .f32 := broadcastInDim S2x16384x256 ![] bcast_S_S2x16384x256 main_cst_0
  let main_v7 : IVec S2x16384x256 1 := cmpf .olt main_v5 main_v6
  let main_v8 : FVec F S2x256x16384 .f32 := (extf .f32 · bitsLt_bf16_f32) main_arg2
  let main_v9 : FVec F S2x256x16384 .f32 := Host.absf main_v8
  let main_cst_1 : FVec F S_ .f32 := constant S_ .f32 0x7F800000#32
  let main_v10 : FVec F S2x256x16384 .f32 := broadcastInDim S2x256x16384 ![] bcast_S_S2x256x16384 main_cst_1
  let main_v11 : IVec S2x256x16384 1 := cmpf .olt main_v9 main_v10
  let main_v12 : FVec F S2x512x16384 .f32 := (extf .f32 · bitsLt_bf16_f32) main_arg3
  let main_v13 : FVec F S2x512x16384 .f32 := Host.absf main_v12
  let main_cst_2 : FVec F S_ .f32 := constant S_ .f32 0x7F800000#32
  let main_v14 : FVec F S2x512x16384 .f32 := broadcastInDim S2x512x16384 ![] bcast_S_S2x512x16384 main_cst_2
  let main_v15 : IVec S2x512x16384 1 := cmpf .olt main_v13 main_v14
  let main_v16 : FVec F S2x16384x512 .f32 := (extf .f32 · bitsLt_bf16_f32) main_arg4
  let main_v17 : FVec F S2x16384x512 .f32 := Host.absf main_v16
  let main_cst_3 : FVec F S_ .f32 := constant S_ .f32 0x7F800000#32
  let main_v18 : FVec F S2x16384x512 .f32 := broadcastInDim S2x16384x512 ![] bcast_S_S2x16384x512 main_cst_3
  fn_part1 (F := F) main_arg5 main_arg7 main_arg9 main_v3 main_v7 main_v11 main_v15 main_v17 main_v18
-- ==== Pre_finite_keys.lean ====
abbrev S2x16384x1024 : Shape := ⟨3, ![2, 16384, 1024]⟩
abbrev S2x16384x256 : Shape := ⟨3, ![2, 16384, 256]⟩
abbrev S2x16384x512 : Shape := ⟨3, ![2, 16384, 512]⟩
abbrev S1024x1024 : Shape := ⟨2, ![1024, 1024]⟩
abbrev S1x1024 : Shape := ⟨2, ![1, 1024]⟩
abbrev S2x256x2048 : Shape := ⟨3, ![2, 256, 2048]⟩
abbrev S2x256x1024 : Shape := ⟨3, ![2, 256, 1024]⟩
abbrev S_ : Shape := ⟨0, ![]⟩

class Facts : Prop where
  slices_S2x256x2048_S2x256x1024_0_0_0 : S2x256x2048.Slices ![0, 0, 0] S2x256x1024
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)
  bcast_S_S2x256x1024 : S_.BroadcastsInDim S2x256x1024 (![] : Fin 0 → Fin S2x256x1024.rank)

variable [Facts]

def fn {F : FTy → Type} [FloatOps F] (main_arg0 : FVec F S2x16384x1024 .f32) (main_arg1 : FVec F S2x16384x256 .bf16) (main_arg2 : FVec F S2x16384x256 .bf16) (main_arg3 : FVec F S2x16384x512 .bf16) (main_arg4 : FVec F S1024x1024 .bf16) (main_arg5 : FVec F S1x1024 .f32) (main_arg6 : FVec F S1x1024 .f32) (main_arg7 : FVec F S1024x1024 .bf16) (main_arg8 : FVec F S2x256x2048 .bf16) (main_arg9 : FVec F S1024x1024 .bf16) (main_arg10 : FVec F S1x1024 .f32) : IVec S1x1024 1 × IVec S1024x1024 1 × IVec S2x256x1024 1 :=
  let main_v0 : FVec F S2x256x1024 .bf16 := (extractStridedSlice S2x256x1024 ![0, 0, 0] · slices_S2x256x2048_S2x256x1024_0_0_0) main_arg8
  let main_v1 : FVec F S1x1024 .f32 := Host.absf main_arg6
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_v4 : FVec F S1024x1024 .f32 := (extf .f32 · bitsLt_bf16_f32) main_arg7
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S2x256x1024 .f32 := (extf .f32 · bitsLt_bf16_f32) main_v0
  let main_v9 : FVec F S2x256x1024 .f32 := Host.absf main_v8
  let main_cst_1 : FVec F S_ .f32 := constant S_ .f32 0x7F800000#32
  let main_v10 : FVec F S2x256x1024 .f32 := broadcastInDim S2x256x1024 ![] bcast_S_S2x256x1024 main_cst_1
  let main_v11 : IVec S2x256x1024 1 := cmpf .olt main_v9 main_v10
  (main_v3, main_v7, main_v11)
-- ==== Kernel.lean ====
abbrev S2x256x16384 : Shape := ⟨3, ![2, 256, 16384]⟩
abbrev S2x16384x256 : Shape := ⟨3, ![2, 16384, 256]⟩
abbrev S2x512x16384 : Shape := ⟨3, ![2, 512, 16384]⟩
abbrev S2x16384x512 : Shape := ⟨3, ![2, 16384, 512]⟩
abbrev S2x16384 : Shape := ⟨2, ![2, 16384]⟩
abbrev S4x32 : Shape := ⟨2, ![4, 32]⟩
abbrev S64x1 : Shape := ⟨2, ![64, 1]⟩
abbrev S1x1 : Shape := ⟨2, ![1, 1]⟩
abbrev S2x1x16384 : Shape := ⟨3, ![2, 1, 16384]⟩
abbrev S2x16384x1 : Shape := ⟨3, ![2, 16384, 1]⟩
abbrev S1x256x512 : Shape := ⟨3, ![1, 256, 512]⟩
abbrev S1x512x256 : Shape := ⟨3, ![1, 512, 256]⟩
abbrev S1x512x512 : Shape := ⟨3, ![1, 512, 512]⟩
abbrev S1x1x512 : Shape := ⟨3, ![1, 1, 512]⟩
abbrev S1x512x1 : Shape := ⟨3, ![1, 512, 1]⟩
abbrev S8x128x512 : Shape := ⟨3, ![8, 128, 512]⟩
abbrev S16x512 : Shape := ⟨2, ![16, 512]⟩
abbrev S12x64x512 : Shape := ⟨3, ![12, 64, 512]⟩
abbrev S128x512 : Shape := ⟨2, ![128, 512]⟩
abbrev S1x128x512 : Shape := ⟨3, ![1, 128, 512]⟩
abbrev S512x1 : Shape := ⟨2, ![512, 1]⟩
abbrev S1x512 : Shape := ⟨2, ![1, 512]⟩
abbrev S512x512 : Shape := ⟨2, ![512, 512]⟩
abbrev S1x64x512 : Shape := ⟨3, ![1, 64, 512]⟩
abbrev S64x512 : Shape := ⟨2, ![64, 512]⟩
abbrev S1x512x128 : Shape := ⟨3, ![1, 512, 128]⟩
abbrev S512x128 : Shape := ⟨2, ![512, 128]⟩
abbrev S512 : Shape := ⟨1, ![512]⟩
abbrev S1x32 : Shape := ⟨2, ![1, 32]⟩
abbrev S1 : Shape := ⟨1, ![1]⟩
abbrev S256x512 : Shape := ⟨2, ![256, 512]⟩
abbrev S512x256 : Shape := ⟨2, ![512, 256]⟩

abbrev nBuf : Space → Nat
  | .hbm => 14
  | .vmem => 27
  | .smem => 0
  | _ => 0

abbrev bufTy : (tb : Table) → Fin (tcTables nBuf tb) → BufTy
  | .hbm, ⟨0, _⟩ => ⟨S2x256x16384, .bf16⟩
  | .hbm, ⟨1, _⟩ => ⟨S2x16384x256, .bf16⟩
  | .hbm, ⟨2, _⟩ => ⟨S2x256x16384, .bf16⟩
  | .hbm, ⟨3, _⟩ => ⟨S2x512x16384, .bf16⟩
  | .hbm, ⟨4, _⟩ => ⟨S2x16384x512, .bf16⟩
  | .hbm, ⟨5, _⟩ => ⟨S2x256x16384, .bf16⟩
  | .hbm, ⟨6, _⟩ => ⟨S2x16384, .i32⟩
  | .hbm, ⟨7, _⟩ => ⟨S4x32, .f32⟩
  | .hbm, ⟨8, _⟩ => ⟨S64x1, .f32⟩
  | .hbm, ⟨9, _⟩ => ⟨S1x1, .f32⟩
  | .hbm, ⟨10, _⟩ => ⟨S2x1x16384, .i32⟩
  | .hbm, ⟨11, _⟩ => ⟨S2x16384x1, .i32⟩
  | .hbm, ⟨12, _⟩ => ⟨S2x16384x256, .bf16⟩
  | .hbm, ⟨13, _⟩ => ⟨S2x16384x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x1x512, .i32⟩
  | .local _ .vmem, ⟨13, _⟩ => ⟨S1x1x512, .i32⟩
  | .local _ .vmem, ⟨14, _⟩ => ⟨S1x512x1, .i32⟩
  | .local _ .vmem, ⟨15, _⟩ => ⟨S1x512x1, .i32⟩
  | .local _ .vmem, ⟨16, _⟩ => ⟨S4x32, .f32⟩
  | .local _ .vmem, ⟨17, _⟩ => ⟨S64x1, .f32⟩
  | .local _ .vmem, ⟨18, _⟩ => ⟨S1x1, .f32⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S8x128x512, .bf16⟩
  | .local _ .vmem, ⟨24, _⟩ => ⟨S16x512, .f32⟩
  | .local _ .vmem, ⟨25, _⟩ => ⟨S16x512, .f32⟩
  | .local _ .vmem, ⟨26, _⟩ => ⟨S12x64x512, .f32⟩
  | _, _ => ⟨S2x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![2, 32, 32], ![false, false, false]⟩

def k0_cond2 (i : grid0.Coords) : BitVec 1 :=
  let arg2 : BitVec 32 := BitVec.ofNat 32 (i 2).val
  let c31_i32 : BitVec 32 := 31#32
  let v464 : BitVec 1 := Scalar.cmpi .eq arg2 c31_i32
  let v465 : BitVec 32 := Scalar.extui v464
  let c0_i32_305 : BitVec 32 := 0#32
  let v466 : BitVec 1 := Scalar.cmpi .ne v465 c0_i32_305
  v466

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "slope0_log2e" => some (((1 / 64) * (Real.log 2)⁻¹ : ℝ) : EReal)
  | "slope1_log2e" => some (((1321123 / 134217728) * (Real.log 2)⁻¹ : ℝ) : EReal)
  | "slope2_log2e" => some (((13316085 / 2147483648) * (Real.log 2)⁻¹ : ℝ) : EReal)
  | "slope3_log2e" => some (((1 / 256) * (Real.log 2)⁻¹ : ℝ) : EReal)
  | _ => none
-- ==== ReferenceIdeal.lean ====
abbrev S2x256x16384 : Shape := ⟨3, ![2, 256, 16384]⟩
abbrev S2x16384x256 : Shape := ⟨3, ![2, 16384, 256]⟩
abbrev S2x512x16384 : Shape := ⟨3, ![2, 512, 16384]⟩
abbrev S2x16384x512 : Shape := ⟨3, ![2, 16384, 512]⟩
abbrev S2x16384 : Shape := ⟨2, ![2, 16384]⟩
abbrev S4x32 : Shape := ⟨2, ![4, 32]⟩
abbrev S64x1 : Shape := ⟨2, ![64, 1]⟩
abbrev S1x1 : Shape := ⟨2, ![1, 1]⟩
abbrev S_ : Shape := ⟨0, ![]⟩
abbrev S1 : Shape := ⟨1, ![1]⟩
abbrev S4 : Shape := ⟨1, ![4]⟩
abbrev S1x32 : Shape := ⟨2, ![1, 32]⟩
abbrev S32 : Shape := ⟨1, ![32]⟩
abbrev S2x16384x4x64 : Shape := ⟨4, ![2, 16384, 4, 64]⟩
abbrev S2x16384x4x2x32 : Shape := ⟨5, ![2, 16384, 4, 2, 32]⟩
abbrev S2x2x4x16384x16384 : Shape := ⟨5, ![2, 2, 4, 16384, 16384]⟩
abbrev S2x16384x1 : Shape := ⟨3, ![2, 16384, 1]⟩
abbrev S2x1x16384 : Shape := ⟨3, ![2, 1, 16384]⟩
abbrev S2x16384x16384 : Shape := ⟨3, ![2, 16384, 16384]⟩
abbrev S1x1x4x1x1 : Shape := ⟨5, ![1, 1, 4, 1, 1]⟩
abbrev S2x1x1x16384x16384 : Shape := ⟨5, ![2, 1, 1, 16384, 16384]⟩
abbrev S2x1x4x16384x16384 : Shape := ⟨5, ![2, 1, 4, 16384, 16384]⟩
abbrev S2x2x4x16384 : Shape := ⟨4, ![2, 2, 4, 16384]⟩
abbrev S2x2x4x16384x1 : Shape := ⟨5, ![2, 2, 4, 16384, 1]⟩
abbrev S2x4x16384x16384 : Shape := ⟨4, ![2, 4, 16384, 16384]⟩
abbrev S2x4x64x16384 : Shape := ⟨4, ![2, 4, 64, 16384]⟩
abbrev S64 : Shape := ⟨1, ![64]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x16384x4x128 : Shape := ⟨4, ![2, 16384, 4, 128]⟩
abbrev S2x4x16384 : Shape := ⟨3, ![2, 4, 16384]⟩
abbrev S2x4x16384x1 : Shape := ⟨4, ![2, 4, 16384, 1]⟩

abbrev nBuf : Space → Nat
  | .hbm => 161
  | .vmem => 0
  | .smem => 0
  | _ => 0

abbrev hbmTy0_0 (i : Nat) : BufTy := match i % 128 with
  | 0 => ⟨S2x256x16384, .bf16⟩
  | 1 => ⟨S2x16384x256, .bf16⟩
  | 2 => ⟨S2x256x16384, .bf16⟩
  | 3 => ⟨S2x512x16384, .bf16⟩
  | 4 => ⟨S2x16384x512, .bf16⟩
  | 5 => ⟨S2x256x16384, .bf16⟩
  | 6 => ⟨S2x16384, .i32⟩
  | 7 => ⟨S4x32, .f32⟩
  | 8 => ⟨S64x1, .f32⟩
  | 9 => ⟨S1x1, .f32⟩
  | 10 => ⟨S2x256x16384, .f32⟩
  | 11 => ⟨S2x16384x256, .f32⟩
  | 12 => ⟨S2x256x16384, .f32⟩
  | 13 => ⟨S2x512x16384, .f32⟩
  | 14 => ⟨S2x16384x512, .f32⟩
  | 15 => ⟨S2x256x16384, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S4, .f32⟩
  | 25 => ⟨S_, .f32⟩
  | 26 => ⟨S_, .f32⟩
  | 27 => ⟨S1x32, .f32⟩
  | 28 => ⟨S32, .f32⟩
  | 29 => ⟨S1x32, .f32⟩
  | 30 => ⟨S32, .f32⟩
  | 31 => ⟨S32, .f32⟩
  | 32 => ⟨S_, .f32⟩
  | 33 => ⟨S_, .f32⟩
  | 34 => ⟨S_, .f32⟩
  | 35 => ⟨S1x32, .f32⟩
  | 36 => ⟨S32, .f32⟩
  | 37 => ⟨S1x32, .f32⟩
  | 38 => ⟨S32, .f32⟩
  | 39 => ⟨S32, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S2x256x16384, .f32⟩
  | 50 => ⟨S2x256x16384, .f32⟩
  | 51 => ⟨S2x16384x256, .f32⟩
  | 52 => ⟨S2x16384x4x64, .f32⟩
  | 53 => ⟨S2x16384x4x64, .f32⟩
  | 54 => ⟨S2x16384x256, .f32⟩
  | 55 => ⟨S2x16384x4x64, .f32⟩
  | 56 => ⟨S_, .f32⟩
  | 57 => ⟨S_, .f32⟩
  | 58 => ⟨S_, .f32⟩
  | 59 => ⟨S_, .f32⟩
  | 60 => ⟨S2x16384x4x2x32, .f32⟩
  | 61 => ⟨S2x16384x4x2x32, .f32⟩
  | 62 => ⟨S2x2x4x16384x16384, .f32⟩
  | 63 => ⟨S2x2x4x16384x16384, .f32⟩
  | 64 => ⟨S2x2x4x16384x16384, .f32⟩
  | 65 => ⟨S2x16384x1, .i32⟩
  | 66 => ⟨S2x1x16384, .i32⟩
  | 67 => ⟨S2x16384x16384, .i32⟩
  | 68 => ⟨S2x16384x16384, .i32⟩
  | 69 => ⟨S2x16384x16384, .i32⟩
  | 70 => ⟨S2x16384x16384, .i32⟩
  | 71 => ⟨S2x16384x16384, .f32⟩
  | 72 => ⟨S1x1x4x1x1, .f32⟩
  | 73 => ⟨S2x1x1x16384x16384, .f32⟩
  | 74 => ⟨S2x1x4x16384x16384, .f32⟩
  | 75 => ⟨S2x1x4x16384x16384, .f32⟩
  | 76 => ⟨S2x1x4x16384x16384, .f32⟩
  | 77 => ⟨S2x2x4x16384x16384, .f32⟩
  | 78 => ⟨S2x2x4x16384x16384, .f32⟩
  | 79 => ⟨S_, .f32⟩
  | 80 => ⟨S2x2x4x16384, .f32⟩
  | 81 => ⟨S_, .f32⟩
  | 82 => ⟨S2x2x4x16384, .f32⟩
  | 83 => ⟨S2x2x4x16384, .f32⟩
  | 84 => ⟨S2x2x4x16384x1, .f32⟩
  | 85 => ⟨S2x2x4x16384x16384, .f32⟩
  | 86 => ⟨S2x2x4x16384x16384, .f32⟩
  | 87 => ⟨S2x2x4x16384x16384, .f32⟩
  | 88 => ⟨S_, .f32⟩
  | 89 => ⟨S2x2x4x16384, .f32⟩
  | 90 => ⟨S2x2x4x16384x1, .f32⟩
  | 91 => ⟨S2x2x4x16384x16384, .f32⟩
  | 92 => ⟨S2x2x4x16384x16384, .f32⟩
  | 93 => ⟨S2x1x4x16384x16384, .f32⟩
  | 94 => ⟨S2x4x16384x16384, .f32⟩
  | 95 => ⟨S2x1x4x16384x16384, .f32⟩
  | 96 => ⟨S2x4x16384x16384, .f32⟩
  | 97 => ⟨S2x4x16384x16384, .f32⟩
  | 98 => ⟨S2x4x16384x16384, .f32⟩
  | 99 => ⟨S2x4x16384x16384, .f32⟩
  | 100 => ⟨S2x4x64x16384, .f32⟩
  | 101 => ⟨S2x16384x4x64, .f32⟩
  | 102 => ⟨S64, .f32⟩
  | 103 => ⟨S2x16384x4x64, .f32⟩
  | 104 => ⟨S_, .f32⟩
  | 105 => ⟨S2x16384x4, .f32⟩
  | 106 => ⟨S2x16384x4x1, .f32⟩
  | 107 => ⟨S_, .f32⟩
  | 108 => ⟨S2x16384x4x1, .f32⟩
  | 109 => ⟨S2x16384x4x1, .f32⟩
  | 110 => ⟨S_, .f32⟩
  | 111 => ⟨S2x16384x4x1, .f32⟩
  | 112 => ⟨S2x16384x4x1, .f32⟩
  | 113 => ⟨S2x16384x4x1, .f32⟩
  | 114 => ⟨S2x16384x4x64, .f32⟩
  | 115 => ⟨S2x16384x4x64, .f32⟩
  | 116 => ⟨S1x1x1x64, .f32⟩
  | 117 => ⟨S2x16384x4x64, .f32⟩
  | 118 => ⟨S2x16384x4x64, .f32⟩
  | 119 => ⟨S_, .f32⟩
  | 120 => ⟨S_, .f32⟩
  | 121 => ⟨S_, .f32⟩
  | 122 => ⟨S2x16384x4x64, .f32⟩
  | 123 => ⟨S2x16384x4x64, .f32⟩
  | 124 => ⟨S2x16384x256, .f32⟩
  | 125 => ⟨S_, .f32⟩
  | 126 => ⟨S_, .f32⟩
  | 127 => ⟨S_, .f32⟩
  | _ => ⟨S2x256x16384, .bf16⟩

abbrev hbmTy0_1 (i : Nat) : BufTy := match i % 128 with
  | 0 => ⟨S2x512x16384, .f32⟩
  | 1 => ⟨S2x512x16384, .f32⟩
  | 2 => ⟨S2x16384x512, .f32⟩
  | 3 => ⟨S2x16384x4x128, .f32⟩
  | 4 => ⟨S2x16384x4x128, .f32⟩
  | 5 => ⟨S2x16384x256, .f32⟩
  | 6 => ⟨S2x16384x4x64, .f32⟩
  | 7 => ⟨S_, .f32⟩
  | 8 => ⟨S_, .f32⟩
  | 9 => ⟨S_, .f32⟩
  | 10 => ⟨S_, .f32⟩
  | 11 => ⟨S2x4x16384x16384, .f32⟩
  | 12 => ⟨S2x4x16384x16384, .f32⟩
  | 13 => ⟨S2x4x16384x16384, .f32⟩
  | 14 => ⟨S_, .f32⟩
  | 15 => ⟨S2x4x16384, .f32⟩
  | 16 => ⟨S_, .f32⟩
  | 17 => ⟨S2x4x16384, .f32⟩
  | 18 => ⟨S2x4x16384, .f32⟩
  | 19 => ⟨S2x4x16384x1, .f32⟩
  | 20 => ⟨S2x4x16384x16384, .f32⟩
  | 21 => ⟨S2x4x16384x16384, .f32⟩
  | 22 => ⟨S2x4x16384x16384, .f32⟩
  | 23 => ⟨S_, .f32⟩
  | 24 => ⟨S2x4x16384, .f32⟩
  | 25 => ⟨S2x4x16384x1, .f32⟩
  | 26 => ⟨S2x4x16384x16384, .f32⟩
  | 27 => ⟨S2x4x16384x16384, .f32⟩
  | 28 => ⟨S2x4x64x16384, .f32⟩
  | 29 => ⟨S2x16384x4x64, .f32⟩
  | 30 => ⟨S2x16384x256, .f32⟩
  | 31 => ⟨S2x16384x256, .bf16⟩
  | 32 => ⟨S2x16384x256, .bf16⟩
  | _ => ⟨S2x256x16384, .bf16⟩

abbrev hbmTy (i : Nat) : BufTy := match i / 128 with
  | 0 => hbmTy0_0 i
  | 1 => hbmTy0_1 i
  | _ => ⟨S2x256x16384, .bf16⟩

abbrev bufTy : (tb : Table) → Fin (tcTables nBuf tb) → BufTy
  | .hbm, ⟨i, _⟩ => hbmTy i
  | _, _ => ⟨S2x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_17 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_19 : Ref sig .tc := ⟨.hbm, 142, rfl⟩
abbrev main_v112 : Ref sig .tc := ⟨.hbm, 143, rfl⟩
abbrev main_cst_20 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_21 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]
-- ==== Ffn.lean ====
abbrev S2x16384x1024 : Shape := ⟨3, ![2, 16384, 1024]⟩
abbrev S1x1024 : Shape := ⟨2, ![1, 1024]⟩
abbrev S1024x5632 : Shape := ⟨2, ![1024, 5632]⟩
abbrev S2816x1024 : Shape := ⟨2, ![2816, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 6
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S2x16384x1024 : Shape := ⟨3, ![2, 16384, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S2x16384x5632, .f32⟩
  | .hbm, ⟨25, _⟩ => ⟨S2x16384x2816, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S_, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x1024, .f32⟩
  | .hbm, ⟨38, _⟩ => ⟨S1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Cross.lean ====
abbrev S2x16384x1024 : Shape := ⟨3, ![2, 16384, 1024]⟩
abbrev S2x16384x256 : Shape := ⟨3, ![2, 16384, 256]⟩
abbrev S2x16384x512 : Shape := ⟨3, ![2, 16384, 512]⟩
abbrev S1024x1024 : Shape := ⟨2, ![1024, 1024]⟩
abbrev S1x1024 : Shape := ⟨2, ![1, 1024]⟩
abbrev S2x256x2048 : Shape := ⟨3, ![2, 256, 2048]⟩
abbrev S1x512x1024 : Shape := ⟨3, ![1, 512, 1024]⟩
abbrev S1x512x256 : Shape := ⟨3, ![1, 512, 256]⟩
abbrev S1x512x512 : Shape := ⟨3, ![1, 512, 512]⟩
abbrev S1x256x2048 : Shape := ⟨3, ![1, 256, 2048]⟩
abbrev S512x256 : Shape := ⟨2, ![512, 256]⟩
abbrev S256x1024 : Shape := ⟨2, ![256, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 12
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .bf16⟩
  | .hbm, ⟨2, _⟩ => ⟨S2x16384x256, .bf16⟩
  | .hbm, ⟨3, _⟩ => ⟨S2x16384x512, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S2x256x2048, .bf16⟩
  | .hbm, ⟨9, _⟩ => ⟨S1024x1024, .bf16⟩
  | .hbm, ⟨10, _⟩ => ⟨S1x1024, .f32⟩
  | .hbm, ⟨11, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x256x2048, .bf16⟩
  | .local _ .vmem, ⟨13, _⟩ => ⟨S1x256x2048, .bf16⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== CrossIdeal.lean ====
variable {F : FTy → Type} [FloatOps F] [Named F]
def κ : String → Option EReal := fun
  | "xscale_log2e" => some (((1 / 16) * (Real.log 2)⁻¹ : ℝ) : EReal)
  | _ => none
-- ==== CrossReferenceIdeal.lean ====
abbrev S2x16384x1024 : Shape := ⟨3, ![2, 16384, 1024]⟩
abbrev S2x16384x256 : Shape := ⟨3, ![2, 16384, 256]⟩
abbrev S2x16384x512 : Shape := ⟨3, ![2, 16384, 512]⟩
abbrev S1024x1024 : Shape := ⟨2, ![1024, 1024]⟩
abbrev S1x1024 : Shape := ⟨2, ![1, 1024]⟩
abbrev S2x256x2048 : Shape := ⟨3, ![2, 256, 2048]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x256x1024 : Shape := ⟨3, ![2, 256, 1024]⟩
abbrev S2x16384x4x256 : Shape := ⟨4, ![2, 16384, 4, 256]⟩
abbrev S2x256x4x256 : Shape := ⟨4, ![2, 256, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .bf16⟩
  | .hbm, ⟨2, _⟩ => ⟨S2x16384x256, .bf16⟩
  | .hbm, ⟨3, _⟩ => ⟨S2x16384x512, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S2x256x2048, .bf16⟩
  | .hbm, ⟨9, _⟩ => ⟨S1024x1024, .bf16⟩
  | .hbm, ⟨10, _⟩ => ⟨S1x1024, .f32⟩
  | .hbm, ⟨11, _⟩ => ⟨S2x16384x256, .f32⟩
  | .hbm, ⟨12, _⟩ => ⟨S2x16384x256, .f32⟩
  | .hbm, ⟨13, _⟩ => ⟨S2x16384x512, .f32⟩
  | .hbm, ⟨14, _⟩ => ⟨S1024x1024, .f32⟩
  | .hbm, ⟨15, _⟩ => ⟨S1024x1024, .f32⟩
  | .hbm, ⟨16, _⟩ => ⟨S2x256x2048, .f32⟩
  | .hbm, ⟨17, _⟩ => ⟨S1024x1024, .f32⟩
  | .hbm, ⟨18, _⟩ => ⟨S2x16384x1024, .f32⟩
  | .hbm, ⟨19, _⟩ => ⟨S2x16384x1024, .f32⟩
  | .hbm, ⟨20, _⟩ => ⟨S1024, .f32⟩
  | .hbm, ⟨21, _⟩ => ⟨S2x16384x1024, .f32⟩
  | .hbm, ⟨22, _⟩ => ⟨S_, .f32⟩
  | .hbm, ⟨23, _⟩ => ⟨S2x16384, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S1x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x256x1024, .f32⟩
  | .hbm, ⟨39, _⟩ => ⟨S2x256x1024, .f32⟩
  | .hbm, ⟨40, _⟩ => ⟨S1024, .f32⟩
  | .hbm, ⟨41, _⟩ => ⟨S2x16384x1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x4x256, .f32⟩
  | .hbm, ⟨59, _⟩ => ⟨S2x256x4x256, .f32⟩
  | .hbm, ⟨60, _⟩ => ⟨S2x256x4x256, .f32⟩
  | .hbm, ⟨61, _⟩ => ⟨S2x4x16384x256, .f32⟩
  | .hbm, ⟨62, _⟩ => ⟨S_, .f32⟩
  | .hbm, ⟨63, _⟩ => ⟨S2x4x16384x256, .f32⟩
  | .hbm, ⟨64, _⟩ => ⟨S2x4x16384x256, .f32⟩
  | .hbm, ⟨65, _⟩ => ⟨S_, .f32⟩
  | .hbm, ⟨66, _⟩ => ⟨S2x4x16384, .f32⟩
  | .hbm, ⟨67, _⟩ => ⟨S_, .f32⟩
  | .hbm, ⟨68, _⟩ => ⟨S2x4x16384, .f32⟩
  | .hbm, ⟨69, _⟩ => ⟨S2x4x16384, .f32⟩
  | .hbm, ⟨70, _⟩ => ⟨S2x4x16384x1, .f32⟩
  | .hbm, ⟨71, _⟩ => ⟨S2x4x16384x256, .f32⟩
  | .hbm, ⟨72, _⟩ => ⟨S2x4x16384x256, .f32⟩
  | .hbm, ⟨73, _⟩ => ⟨S2x4x16384x256, .f32⟩
  | .hbm, ⟨74, _⟩ => ⟨S_, .f32⟩
  | .hbm, ⟨75, _⟩ => ⟨S2x4x16384, .f32⟩
  | .hbm, ⟨76, _⟩ => ⟨S2x4x16384x1, .f32⟩
  | .hbm, ⟨77, _⟩ => ⟨S2x4x16384x256, .f32⟩
  | .hbm, ⟨78, _⟩ => ⟨S2x4x16384x256, .f32⟩
  | .hbm, ⟨79, _⟩ => ⟨S2x4x256x16384, .f32⟩
  | .hbm, ⟨80, _⟩ => ⟨S2x16384x4x256, .f32⟩
  | .hbm, ⟨81, _⟩ => ⟨S2x16384x1024, .f32⟩
  | .hbm, ⟨82, _⟩ => ⟨S2x16384x1024, .f32⟩
  | .hbm, ⟨83, _⟩ => ⟨S1024, .f32⟩
  | .hbm, ⟨84, _⟩ => ⟨S2x16384x1024, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x1024, .f32⟩
  | .hbm, ⟨96, _⟩ => ⟨S2x16384x1024, .f32⟩
  | .hbm, ⟨97, _⟩ => ⟨S1x1x1024, .f32⟩
  | .hbm, ⟨98, _⟩ => ⟨S2x16384x1024, .f32⟩
  | .hbm, ⟨99, _⟩ => ⟨S2x16384x1024, .f32⟩
  | .hbm, ⟨100, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Proj.lean ====
abbrev S2x16384x1024 : Shape := ⟨3, ![2, 16384, 1024]⟩
abbrev S2x16384 : Shape := ⟨2, ![2, 16384]⟩
abbrev S1024 : Shape := ⟨1, ![1024]⟩
abbrev S1024x1952 : Shape := ⟨2, ![1024, 1952]⟩
abbrev S256 : Shape := ⟨1, ![256]⟩
abbrev S256x384 : Shape := ⟨2, ![256, 384]⟩
abbrev S128 : Shape := ⟨1, ![128]⟩
abbrev S128x512 : Shape := ⟨2, ![128, 512]⟩
abbrev S16 : Shape := ⟨1, ![16]⟩
abbrev S_ : Shape := ⟨0, ![]⟩
abbrev S2x16384x1 : Shape := ⟨3, ![2, 16384, 1]⟩
abbrev S1x1x16 : Shape := ⟨3, ![1, 1, 16]⟩
abbrev S2x16384x16 : Shape := ⟨3, ![2, 16384, 16]⟩
abbrev S2x16384x32 : Shape := ⟨3, ![2, 16384, 32]⟩
abbrev S2x16384x64 : Shape := ⟨3, ![2, 16384, 64]⟩
abbrev S2x16384x128 : Shape := ⟨3, ![2, 16384, 128]⟩
abbrev S2x32x16384 : Shape := ⟨3, ![2, 32, 16384]⟩
abbrev S1024x32 : Shape := ⟨2, ![1024, 32]⟩
abbrev S1024x256 : Shape := ⟨2, ![1024, 256]⟩
abbrev S1024x128 : Shape := ⟨2, ![1024, 128]⟩
abbrev S1024x16 : Shape := ⟨2, ![1024, 16]⟩
abbrev S1024x64 : Shape := ⟨2, ![1024, 64]⟩
abbrev S1024x896 : Shape := ⟨2, ![1024, 896]⟩
abbrev S1024x512 : Shape := ⟨2, ![1024, 512]⟩
abbrev S1024x1152 : Shape := ⟨2, ![1024, 1152]⟩
abbrev S1152x1024 : Shape := ⟨2, ![1152, 1024]⟩
abbrev S256x4x96 : Shape := ⟨3, ![256, 4, 96]⟩
abbrev S256x4x32 : Shape := ⟨3, ![256, 4, 32]⟩
abbrev S256x4x128 : Shape := ⟨3, ![256, 4, 128]⟩
abbrev S256x512 : Shape := ⟨2, ![256, 512]⟩
abbrev S512x256 : Shape := ⟨2, ![512, 256]⟩
abbrev S256x4x16 : Shape := ⟨3, ![256, 4, 16]⟩
abbrev S256x128 : Shape := ⟨2, ![256, 128]⟩
abbrev S128x256 : Shape := ⟨2, ![128, 256]⟩
abbrev S128x4x128 : Shape := ⟨3, ![128, 4, 128]⟩
abbrev S128x4x64 : Shape := ⟨3, ![128, 4, 64]⟩
abbrev S1x256 : Shape := ⟨2, ![1, 256]⟩
abbrev S1x128 : Shape := ⟨2, ![1, 128]⟩
abbrev S1x1024 : Shape := ⟨2, ![1, 1024]⟩
abbrev S2x256x16384 : Shape := ⟨3, ![2, 256, 16384]⟩
abbrev S2x16384x256 : Shape := ⟨3, ![2, 16384, 256]⟩
abbrev S2x512x16384 : Shape := ⟨3, ![2, 512, 16384]⟩
abbrev S2x16384x512 : Shape := ⟨3, ![2, 16384, 512]⟩
abbrev S2x128x16384 : Shape := ⟨3, ![2, 128, 16384]⟩
abbrev S1x512x1024 : Shape := ⟨3, ![1, 512, 1024]⟩
abbrev S1x512x128 : Shape := ⟨3, ![1, 512, 128]⟩
abbrev S1x32x512 : Shape := ⟨3, ![1, 32, 512]⟩
abbrev S1x256x512 : Shape := ⟨3, ![1, 256, 512]⟩
abbrev S1x512x256 : Shape := ⟨3, ![1, 512, 256]⟩
abbrev S1x512x512 : Shape := ⟨3, ![1, 512, 512]⟩
abbrev S1x128x512 : Shape := ⟨3, ![1, 128, 512]⟩
abbrev S512x1024 : Shape := ⟨2, ![512, 1024]⟩
abbrev S512 : Shape := ⟨1, ![512]⟩
abbrev S512x1 : Shape := ⟨2, ![512, 1]⟩
abbrev S512x896 : Shape := ⟨2, ![512, 896]⟩
abbrev S1152x512 : Shape := ⟨2, ![1152, 512]⟩
abbrev S512x512 : Shape := ⟨2, ![512, 512]⟩
abbrev S512x128 : Shape := ⟨2, ![512, 128]⟩
abbrev S32x512 : Shape := ⟨2, ![32, 512]⟩
abbrev S64x512 : Shape := ⟨2, ![64, 512]⟩
abbrev S1x64x512 : Shape := ⟨3, ![1, 64, 512]⟩

abbrev nBuf : Space → Nat
  | .hbm => 103
  | .vmem => 36
  | .smem => 0
  | _ => 0

abbrev bufTy : (tb : Table) → Fin (tcTables nBuf tb) → BufTy
  | .hbm, ⟨0, _⟩ => ⟨S2x16384x1024, .f32⟩
  | .hbm, ⟨1, _⟩ => ⟨S2x16384, .i32⟩
  | .hbm, ⟨2, _⟩ => ⟨S1024, .f32⟩
  | .hbm, ⟨3, _⟩ => ⟨S1024x1952, .f32⟩
  | .hbm, ⟨4, _⟩ => ⟨S256, .f32⟩
  | .hbm, ⟨5, _⟩ => ⟨S256x384, .f32⟩
  | .hbm, ⟨6, _⟩ => ⟨S128, .f32⟩
  | .hbm, ⟨7, _⟩ => ⟨S128x512, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2x16384, .f32⟩
  | .hbm, ⟨17, _⟩ => ⟨S2x16384x1, .f32⟩
  | .hbm, ⟨18, _⟩ => ⟨S1x1x16, .f32⟩
  | .hbm, ⟨19, _⟩ => ⟨S2x16384x16, .f32⟩
  | .hbm, ⟨20, _⟩ => ⟨S2x16384x16, .f32⟩
  | .hbm, ⟨21, _⟩ => ⟨S2x16384x16, .f32⟩
  | .hbm, ⟨22, _⟩ => ⟨S2x16384x16, .f32⟩
  | .hbm, ⟨23, _⟩ => ⟨S2x16384x16, .f32⟩
  | .hbm, ⟨24, _⟩ => ⟨S2x16384x32, .f32⟩
  | .hbm, ⟨25, _⟩ => ⟨S2x16384x16, .f32⟩
  | .hbm, ⟨26, _⟩ => ⟨S2x16384x32, .f32⟩
  | .hbm, ⟨27, _⟩ => ⟨S_, .f32⟩
  | .hbm, ⟨28, _⟩ => ⟨S2x16384x64, .f32⟩
  | .hbm, ⟨29, _⟩ => ⟨S2x16384x128, .f32⟩
  | .hbm, ⟨30, _⟩ => ⟨S2x32x16384, .f32⟩
  | .hbm, ⟨31, _⟩ => ⟨S2x32x16384, .f32⟩
  | .hbm, ⟨32, _⟩ => ⟨S1024x32, .f32⟩
  | .hbm, ⟨33, _⟩ => ⟨S1024x256, .f32⟩
  | .hbm, ⟨34, _⟩ => ⟨S1024x256, .f32⟩
  | .hbm, ⟨35, _⟩ => ⟨S1024x128, .f32⟩
  | .hbm, ⟨36, _⟩ => ⟨S1024x16, .f32⟩
  | .hbm, ⟨37, _⟩ => ⟨S1024x16, .f32⟩
  | .hbm, ⟨38, _⟩ => ⟨S_, .f32⟩
  | .hbm, ⟨39, _⟩ => ⟨S1024x64, .f32⟩
  | .hbm, ⟨40, _⟩ => ⟨S1024x128, .f32⟩
  | .hbm, ⟨41, _⟩ => ⟨S1024x896, .f32⟩
  | .hbm, ⟨42, _⟩ => ⟨S1024x256, .f32⟩
  | .hbm, ⟨43, _⟩ => ⟨S1024x256, .f32⟩
  | .hbm, ⟨44, _⟩ => ⟨S1024x512, .f32⟩
  | .hbm, ⟨45, _⟩ => ⟨S1024x128, .f32⟩
  | .hbm, ⟨46, _⟩ => ⟨S1024x1152, .f32⟩
  | .hbm, ⟨47, _⟩ => ⟨S1152x1024, .f32⟩
  | .hbm, ⟨48, _⟩ => ⟨S256x4x96, .f32⟩
  | .hbm, ⟨49, _⟩ => ⟨S_, .f32⟩
  | .hbm, ⟨50, _⟩ => ⟨S256x4x32, .f32⟩
  | .hbm, ⟨51, _⟩ => ⟨S256x4x128, .f32⟩
  | .hbm, ⟨52, _⟩ => ⟨S256x512, .f32⟩
  | .hbm, ⟨53, _⟩ => ⟨S512x256, .f32⟩
  | .hbm, ⟨54, _⟩ => ⟨S256x4x16, .f32⟩
  | .hbm, ⟨55, _⟩ => ⟨S256x4x16, .f32⟩
  | .hbm, ⟨56, _⟩ => ⟨S256x4x32, .f32⟩
  | .hbm, ⟨57, _⟩ => ⟨S256x128, .f32⟩
  | .hbm, ⟨58, _⟩ => ⟨S128x256, .f32⟩
  | .hbm, ⟨59, _⟩ => ⟨S128x4x128, .f32⟩
  | .hbm, ⟨60, _⟩ => ⟨S128x4x64, .f32⟩
  | .hbm, ⟨61, _⟩ => ⟨S_, .f32⟩
  | .hbm, ⟨62, _⟩ => ⟨S128x4x64, .f32⟩
  | .hbm, ⟨63, _⟩ => ⟨S128x4x128, .f32⟩
  | .hbm, ⟨64, _⟩ => ⟨S128x512, .f32⟩
  | .hbm, ⟨65, _⟩ => ⟨S128x4x64, .f32⟩
  | .hbm, ⟨66, _⟩ => ⟨S128x256, .f32⟩
  | .hbm, ⟨67, _⟩ => ⟨S256x128, .f32⟩
  | .hbm, ⟨68, _⟩ => ⟨S128x4x128, .i32⟩
  | .hbm, ⟨69, _⟩ => ⟨S128x4x128, .i32⟩
  | .hbm, ⟨70, _⟩ => ⟨S_, .i32⟩
  | .hbm, ⟨71, _⟩ => ⟨S128x4x128, .i32⟩
  | .hbm, ⟨72, _⟩ => ⟨S128x4x128, .i1⟩
  | .hbm, ⟨73, _⟩ => ⟨S_, .i32⟩
  | .hbm, ⟨74, _⟩ => ⟨S128x4x128, .i32⟩
  | .hbm, ⟨75, _⟩ => ⟨S128x4x128, .i32⟩
  | .hbm, ⟨76, _⟩ => ⟨S128x4x128, .i1⟩
  | .hbm, ⟨77, _⟩ => ⟨S128x4x128, .i1⟩
  | .hbm, ⟨78, _⟩ => ⟨S_, .f32⟩
  | .hbm, ⟨79, _⟩ => ⟨S_, .f32⟩
  | .hbm, ⟨80, _⟩ => ⟨S128x4x128, .f32⟩
  | .hbm, ⟨81, _⟩ => ⟨S128x4x128, .f32⟩
  | .hbm, ⟨82, _⟩ => ⟨S128x4x128, .f32⟩
  | .hbm, ⟨83, _⟩ => ⟨S128x512, .f32⟩
  | .hbm, ⟨84, _⟩ => ⟨S1024x896, .bf16⟩
  | .hbm, ⟨85, _⟩ => ⟨S1152x1024, .bf16⟩
  | .hbm, ⟨86, _⟩ => ⟨S1x256, .f32⟩
  | .hbm, ⟨87, _⟩ => ⟨S1x128, .f32⟩
  | .hbm, ⟨88, _⟩ => ⟨S512x256, .bf16⟩
  | .hbm, ⟨89, _⟩ => ⟨S128x256, .bf16⟩
  | .hbm, ⟨90, _⟩ => ⟨S128x512, .bf16⟩
  | .hbm, ⟨91, _⟩ => ⟨S256x128, .bf16⟩
  | .hbm, ⟨92, _⟩ => ⟨S128x512, .bf16⟩
  | .hbm, ⟨93, _⟩ => ⟨S1x1024, .f32⟩
  | .hbm, ⟨94, _⟩ => ⟨S2x256x16384, .bf16⟩
  | .hbm, ⟨95, _⟩ => ⟨S2x16384x256, .bf16⟩
  | .hbm, ⟨96, _⟩ => ⟨S2x256x16384, .bf16⟩
  | .hbm, ⟨97, _⟩ => ⟨S2x512x16384, .bf16⟩
  | .hbm, ⟨98, _⟩ => ⟨S2x16384x512, .bf16⟩
  | .hbm, ⟨99, _⟩ => ⟨S2x256x16384, .bf16⟩
  | .hbm, ⟨100, _⟩ => ⟨S2x512x16384, .bf16⟩
  | .hbm, ⟨101, _⟩ => ⟨S2x16384x128, .bf16⟩
  | .hbm, ⟨102, _⟩ => ⟨S2x128x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x896, .bf16⟩
  | .local _ .vmem, ⟨4, _⟩ => ⟨S1152x1024, .bf16⟩
  | .local _ .vmem, ⟨5, _⟩ => ⟨S1x256, .f32⟩
  | .local _ .vmem, ⟨6, _⟩ => ⟨S1x128, .f32⟩
  | .local _ .vmem, ⟨7, _⟩ => ⟨S512x256, .bf16⟩
  | .local _ .vmem, ⟨8, _⟩ => ⟨S128x256, .bf16⟩
  | .local _ .vmem, ⟨9, _⟩ => ⟨S128x512, .bf16⟩
  | .local _ .vmem, ⟨10, _⟩ => ⟨S256x128, .bf16⟩
  | .local _ .vmem, ⟨11, _⟩ => ⟨S128x512, .bf16⟩
  | .local _ .vmem, ⟨12, _⟩ => ⟨S1x512x128, .f32⟩
  | .local _ .vmem, ⟨13, _⟩ => ⟨S1x512x128, .f32⟩
  | .local _ .vmem, ⟨14, _⟩ => ⟨S1x32x512, .f32⟩
  | .local _ .vmem, ⟨15, _⟩ => ⟨S1x32x512, .f32⟩
  | .local _ .vmem, ⟨16, _⟩ => ⟨S1x32x512, .f32⟩
  | .local _ .vmem, ⟨17, _⟩ => ⟨S1x32x512, .f32⟩
  | .local _ .vmem, ⟨18, _⟩ => ⟨S1x256x512, .bf16⟩
  | .local _ .vmem, ⟨19, _⟩ => ⟨S1x256x512, .bf16⟩
  | .local _ .vmem, ⟨20, _⟩ => ⟨S1x512x256, .bf16⟩
  | .local _ .vmem, ⟨21, _⟩ => ⟨S1x512x256, .bf16⟩
  | .local _ .vmem, ⟨22, _⟩ => ⟨S1x256x512, .bf16⟩
  | .local _ .vmem, ⟨23, _⟩ => ⟨S1x256x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x128, .bf16⟩
  | .local _ .vmem, ⟨33, _⟩ => ⟨S1x512x128, .bf16⟩
  | .local _ .vmem, ⟨34, _⟩ => ⟨S1x128x512, .bf16⟩
  | .local _ .vmem, ⟨35, _⟩ => ⟨S1x128x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_v56 : Ref sig .tc := ⟨.hbm, 71, rfl⟩
abbrev main_v57 : Ref sig .tc := ⟨.hbm, 72, rfl⟩
abbrev main_c_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_cst_7 : Ref sig .tc := ⟨.hbm, 79, rfl⟩
abbrev main_call0_v0 : Ref sig .tc := ⟨.hbm, 80, rfl⟩
abbrev main_call0_v1 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74_0 : Ref sig .tc := ⟨.hbm, 94, rfl⟩
abbrev main_v74_1 : Ref sig .tc := ⟨.hbm, 95, rfl⟩
abbrev main_v74_2 : Ref sig .tc := ⟨.hbm, 96, rfl⟩
abbrev main_v74_3 : Ref sig .tc := ⟨.hbm, 97, rfl⟩
abbrev main_v74_4 : Ref sig .tc := ⟨.hbm, 98, rfl⟩
abbrev main_v74_5 : Ref sig .tc := ⟨.hbm, 99, rfl⟩
abbrev main_v74_6 : Ref sig .tc := ⟨.hbm, 100, rfl⟩
abbrev main_v74_7 : Ref sig .tc := ⟨.hbm, 101, rfl⟩
abbrev main_v74_8 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjIdeal.lean ====
variable {F : FTy → Type} [FloatOps F] [Named F]
def κ : String → Option EReal := fun
  | "diff_log2e" => some (((Real.log 2)⁻¹ * (Real.sqrt 32)⁻¹ : ℝ) : EReal)
  | "mla_log2e" => some (((Real.log 2)⁻¹ * (Real.sqrt 96)⁻¹ : ℝ) : EReal)
  | "swa_log2e" => some (((Real.log 2)⁻¹ * (Real.sqrt 64)⁻¹ : ℝ) : EReal)
  | _ => none
-- ==== ProjReferenceIdeal.lean ====
abbrev S2x16384x1024 : Shape := ⟨3, ![2, 16384, 1024]⟩
abbrev S2x16384 : Shape := ⟨2, ![2, 16384]⟩
abbrev S1024 : Shape := ⟨1, ![1024]⟩
abbrev S1024x1952 : Shape := ⟨2, ![1024, 1952]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S2x16384x1 : Shape := ⟨3, ![2, 16384, 1]⟩
abbrev S1x1x1024 : Shape := ⟨3, ![1, 1, 1024]⟩
abbrev S2x16384x1952 : Shape := ⟨3, ![2, 16384, 1952]⟩
abbrev S2x16384x256 : Shape := ⟨3, ![2, 16384, 256]⟩
abbrev S2x16384x128 : Shape := ⟨3, ![2, 16384, 128]⟩
abbrev S2x16384x32 : Shape := ⟨3, ![2, 16384, 32]⟩
abbrev S2x16384x512 : Shape := ⟨3, ![2, 16384, 512]⟩
abbrev S1x1x256 : Shape := ⟨3, ![1, 1, 256]⟩
abbrev S2x16384x384 : Shape := ⟨3, ![2, 16384, 384]⟩
abbrev S2x16384x4x96 : Shape := ⟨4, ![2, 16384, 4, 96]⟩
abbrev S2x16384x4x64 : Shape := ⟨4, ![2, 16384, 4, 64]⟩
abbrev S2x16384x4x32 : Shape := ⟨4, ![2, 16384, 4, 32]⟩
abbrev S16 : Shape := ⟨1, ![16]⟩
abbrev S1x1x16 : Shape := ⟨3, ![1, 1, 16]⟩
abbrev S2x16384x16 : Shape := ⟨3, ![2, 16384, 16]⟩
abbrev S2x16384x1x16 : Shape := ⟨4, ![2, 16384, 1, 16]⟩
abbrev S2x16384x4x16 : Shape := ⟨4, ![2, 16384, 4, 16]⟩
abbrev S1x1x128 : Shape := ⟨3, ![1, 1, 128]⟩
abbrev S2x16384x4x128 : Shape := ⟨4, ![2, 16384, 4, 128]⟩
abbrev S2x16384x1x32 : Shape := ⟨4, ![2, 16384, 1, 32]⟩
abbrev S2x256x16384 : Shape := ⟨3, ![2, 256, 16384]⟩
abbrev S2x512x16384 : Shape := ⟨3, ![2, 512, 16384]⟩
abbrev S2x128x16384 : Shape := ⟨3, ![2, 128, 16384]⟩

abbrev nBuf : Space → Nat
  | .hbm => 172
  | .vmem => 0
  | .smem => 0
  | _ => 0

abbrev hbmTy0_0 (i : Nat) : BufTy := match i % 128 with
  | 0 => ⟨S2x16384x1024, .f32⟩
  | 1 => ⟨S2x16384, .i32⟩
  | 2 => ⟨S1024, .f32⟩
  | 3 => ⟨S1024x1952, .f32⟩
  | 4 => ⟨S256, .f32⟩
  | 5 => ⟨S256x384, .f32⟩
  | 6 => ⟨S128, .f32⟩
  | 7 => ⟨S128x512, .f32⟩
  | 8 => ⟨S2x16384x1024, .f32⟩
  | 9 => ⟨S_, .f32⟩
  | 10 => ⟨S2x16384, .f32⟩
  | 11 => ⟨S2x16384x1, .f32⟩
  | 12 => ⟨S_, .f32⟩
  | 13 => ⟨S2x16384x1, .f32⟩
  | 14 => ⟨S2x16384x1, .f32⟩
  | 15 => ⟨S_, .f32⟩
  | 16 => ⟨S2x16384x1, .f32⟩
  | 17 => ⟨S2x16384x1, .f32⟩
  | 18 => ⟨S2x16384x1, .f32⟩
  | 19 => ⟨S2x16384x1024, .f32⟩
  | 20 => ⟨S2x16384x1024, .f32⟩
  | 21 => ⟨S1x1x1024, .f32⟩
  | 22 => ⟨S2x16384x1024, .f32⟩
  | 23 => ⟨S2x16384x1024, .f32⟩
  | 24 => ⟨S2x16384x1952, .f32⟩
  | 25 => ⟨S2x16384x256, .f32⟩
  | 26 => ⟨S2x16384x256, .f32⟩
  | 27 => ⟨S2x16384x256, .f32⟩
  | 28 => ⟨S2x16384x256, .f32⟩
  | 29 => ⟨S2x16384x128, .f32⟩
  | 30 => ⟨S2x16384x32, .f32⟩
  | 31 => ⟨S2x16384x512, .f32⟩
  | 32 => ⟨S2x16384x128, .f32⟩
  | 33 => ⟨S2x16384x128, .f32⟩
  | 34 => ⟨S2x16384x256, .f32⟩
  | 35 => ⟨S_, .f32⟩
  | 36 => ⟨S2x16384, .f32⟩
  | 37 => ⟨S2x16384x1, .f32⟩
  | 38 => ⟨S_, .f32⟩
  | 39 => ⟨S2x16384x1, .f32⟩
  | 40 => ⟨S2x16384x1, .f32⟩
  | 41 => ⟨S_, .f32⟩
  | 42 => ⟨S2x16384x1, .f32⟩
  | 43 => ⟨S2x16384x1, .f32⟩
  | 44 => ⟨S2x16384x1, .f32⟩
  | 45 => ⟨S2x16384x256, .f32⟩
  | 46 => ⟨S2x16384x256, .f32⟩
  | 47 => ⟨S1x1x256, .f32⟩
  | 48 => ⟨S2x16384x256, .f32⟩
  | 49 => ⟨S2x16384x256, .f32⟩
  | 50 => ⟨S2x16384x384, .f32⟩
  | 51 => ⟨S2x16384x4x96, .f32⟩
  | 52 => ⟨S2x16384x4x64, .f32⟩
  | 53 => ⟨S2x16384x4x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S2x16384, .f32⟩
  | 63 => ⟨S2x16384x1, .f32⟩
  | 64 => ⟨S1x1x16, .f32⟩
  | 65 => ⟨S2x16384x16, .f32⟩
  | 66 => ⟨S2x16384x16, .f32⟩
  | 67 => ⟨S2x16384x16, .f32⟩
  | 68 => ⟨S2x16384x1x16, .f32⟩
  | 69 => ⟨S2x16384x1x16, .f32⟩
  | 70 => ⟨S2x16384x1x16, .f32⟩
  | 71 => ⟨S2x16384x4x16, .f32⟩
  | 72 => ⟨S2x16384x4x16, .f32⟩
  | 73 => ⟨S2x16384x4x16, .f32⟩
  | 74 => ⟨S2x16384x4x16, .f32⟩
  | 75 => ⟨S2x16384x4x16, .f32⟩
  | 76 => ⟨S2x16384x4x16, .f32⟩
  | 77 => ⟨S2x16384x4x16, .f32⟩
  | 78 => ⟨S2x16384x4x16, .f32⟩
  | 79 => ⟨S2x16384x4x16, .f32⟩
  | 80 => ⟨S2x16384x4x16, .f32⟩
  | 81 => ⟨S2x16384x4x16, .f32⟩
  | 82 => ⟨S2x16384x4x16, .f32⟩
  | 83 => ⟨S2x16384x4x32, .f32⟩
  | 84 => ⟨S2x16384x4x96, .f32⟩
  | 85 => ⟨S2x16384x128, .f32⟩
  | 86 => ⟨S_, .f32⟩
  | 87 => ⟨S2x16384, .f32⟩
  | 88 => ⟨S2x16384x1, .f32⟩
  | 89 => ⟨S_, .f32⟩
  | 90 => ⟨S2x16384x1, .f32⟩
  | 91 => ⟨S2x16384x1, .f32⟩
  | 92 => ⟨S_, .f32⟩
  | 93 => ⟨S2x16384x1, .f32⟩
  | 94 => ⟨S2x16384x1, .f32⟩
  | 95 => ⟨S2x16384x1, .f32⟩
  | 96 => ⟨S2x16384x128, .f32⟩
  | 97 => ⟨S2x16384x128, .f32⟩
  | 98 => ⟨S1x1x128, .f32⟩
  | 99 => ⟨S2x16384x128, .f32⟩
  | 100 => ⟨S2x16384x128, .f32⟩
  | 101 => ⟨S2x16384x512, .f32⟩
  | 102 => ⟨S2x16384x4x128, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S2x16384, .f32⟩
  | 112 => ⟨S2x16384x1, .f32⟩
  | 113 => ⟨S1x1x16, .f32⟩
  | 114 => ⟨S2x16384x16, .f32⟩
  | 115 => ⟨S2x16384x16, .f32⟩
  | 116 => ⟨S2x16384x16, .f32⟩
  | 117 => ⟨S2x16384x16, .f32⟩
  | 118 => ⟨S2x16384x16, .f32⟩
  | 119 => ⟨S2x16384x16, .f32⟩
  | 120 => ⟨S2x16384x16, .f32⟩
  | 121 => ⟨S2x16384x16, .f32⟩
  | 122 => ⟨S2x16384x16, .f32⟩
  | 123 => ⟨S2x16384x16, .f32⟩
  | 124 => ⟨S2x16384x16, .f32⟩
  | 125 => ⟨S2x16384x16, .f32⟩
  | 126 => ⟨S2x16384x16, .f32⟩
  | 127 => ⟨S2x16384x32, .f32⟩
  | _ => ⟨S2x16384x1024, .f32⟩

abbrev hbmTy0_1 (i : Nat) : BufTy := match i % 128 with
  | 0 => ⟨S2x16384x1x32, .f32⟩
  | 1 => ⟨S2x16384x4x32, .f32⟩
  | 2 => ⟨S2x16384x4x64, .f32⟩
  | 3 => ⟨S2x16384x4x96, .f32⟩
  | 4 => ⟨S2x16384x4x64, .f32⟩
  | 5 => ⟨S2x16384x256, .f32⟩
  | 6 => ⟨S_, .f32⟩
  | 7 => ⟨S_, .f32⟩
  | 8 => ⟨S_, .f32⟩
  | 9 => ⟨S_, .f32⟩
  | 10 => ⟨S_, .f32⟩
  | 11 => ⟨S2x16384x256, .f32⟩
  | 12 => ⟨S2x16384x256, .f32⟩
  | 13 => ⟨S_, .f32⟩
  | 14 => ⟨S_, .f32⟩
  | 15 => ⟨S_, .f32⟩
  | 16 => ⟨S2x16384x4x96, .f32⟩
  | 17 => ⟨S2x16384x4x96, .f32⟩
  | 18 => ⟨S_, .f32⟩
  | 19 => ⟨S_, .f32⟩
  | 20 => ⟨S_, .f32⟩
  | 21 => ⟨S2x16384x512, .f32⟩
  | 22 => ⟨S2x16384x512, .f32⟩
  | 23 => ⟨S_, .f32⟩
  | 24 => ⟨S2x16384x4x32, .f32⟩
  | 25 => ⟨S2x16384x4x128, .f32⟩
  | 26 => ⟨S2x16384x512, .f32⟩
  | 27 => ⟨S2x16384x4x128, .f32⟩
  | 28 => ⟨S2x16384x512, .f32⟩
  | 29 => ⟨S2x256x16384, .f32⟩
  | 30 => ⟨S2x256x16384, .f32⟩
  | 31 => ⟨S2x512x16384, .f32⟩
  | 32 => ⟨S2x256x16384, .f32⟩
  | 33 => ⟨S2x512x16384, .f32⟩
  | 34 => ⟨S2x128x16384, .f32⟩
  | 35 => ⟨S2x256x16384, .bf16⟩
  | 36 => ⟨S2x16384x256, .bf16⟩
  | 37 => ⟨S2x256x16384, .bf16⟩
  | 38 => ⟨S2x512x16384, .bf16⟩
  | 39 => ⟨S2x16384x512, .bf16⟩
  | 40 => ⟨S2x256x16384, .bf16⟩
  | 41 => ⟨S2x512x16384, .bf16⟩
  | 42 => ⟨S2x16384x128, .bf16⟩
  | 43 => ⟨S2x128x16384, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_12 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_14 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_15 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_16 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩

abbrev nD : Nat := 1
abbrev τ : Topo := Topo.v7x

variable {F : FTy → Type} [FloatOps F]
-- ==== Proof.ProjIdealRun.lean ====
/- The body of the input projection's point, run on whole blocks: what its stores leave in each block of a result, as pieces. -/
module

public import proofs.«01_k».proof.Proof.Gen.ProjIdeal.Frame.Runs

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in

noncomputable def kernelRun0_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) :
    Σ' (L14 : List (View.Piece (Elt F) S1x256x512 .bf16)), Σ' (L15 : List (View.Piece (Elt F) S1x512x256 .bf16)), Σ' (L16 : List (View.Piece (Elt F) S1x256x512 .bf16)), Σ' (L17 : List (View.Piece (Elt F) S1x512x512 .bf16)), Σ' (L18 : List (View.Piece (Elt F) S1x512x512 .bf16)), Σ' (L19 : List (View.Piece (Elt F) S1x256x512 .bf16)), Σ' (L20 : List (View.Piece (Elt F) S1x512x512 .bf16)), Σ' (L21 : List (View.Piece (Elt F) S1x512x128 .bf16)), { L22 : List (View.Piece (Elt F) S1x128x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_in_proj_eq_skeleton]; unfold cc0_in_proj_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.ProjIdeal.Gen

end
-- ==== Proof.ProjIdealFrame.lean ====
/- The input projection's run over its grid: each point's blocks, the body at a point, and the arguments kept. -/
module

public import proofs.«01_k».proof.Proof.ProjIdealRun
public import Idealize.ShloMosaic.Lib.Claim

@[expose] public section

set_option maxHeartbeats 16000000

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cover0_A_14 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).1 S1x256x512.size (by sl_kernel_rfl) y

def out0_A_14 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x256x512 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).1)

theorem cover0_A_15 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.1 S1x512x256.size (by sl_kernel_rfl) y

def out0_A_15 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x512x256 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.1)

theorem cover0_A_16 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.1 S1x256x512.size (by sl_kernel_rfl) y

def out0_A_16 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x256x512 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.1)

theorem cover0_A_17 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.1 ![1, 32, 512] (by sl_kernel_rfl) y

def out0_A_17 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x512x512 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.1)

theorem cover0_A_18 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.1 S1x512x512.size (by sl_kernel_rfl) y

def out0_A_18 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x512x512 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.1)

theorem cover0_A_19 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.1 S1x256x512.size (by sl_kernel_rfl) y

def out0_A_19 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x256x512 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.1)

theorem cover0_A_20 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.1 S1x512x512.size (by sl_kernel_rfl) y

def out0_A_20 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x512x512 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.1)

theorem cover0_A_21 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.1 S1x512x128.size (by sl_kernel_rfl) y

def out0_A_21 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x512x128 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.1)

theorem cover0_A_22 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) (y : S1x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.2.1 S1x128x512.size (by sl_kernel_rfl) y

def out0_A_22 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
    (x0 : Vec F S1x512x1024 .f32) (x1 : Vec F S1x1024 .f32) (x2 : Vec F S1024x896 .bf16) (x3 : Vec F S1152x1024 .bf16) (x4 : Vec F S1x256 .f32) (x5 : Vec F S1x128 .f32) (x6 : Vec F S512x256 .bf16) (x7 : Vec F S128x256 .bf16) (x8 : Vec F S128x512 .bf16) (x9 : Vec F S256x128 .bf16) (x10 : Vec F S128x512 .bf16) (x11 : Vec F S1x512x128 .f32) (x12 : Vec F S1x32x512 .f32) (x13 : Vec F S1x32x512 .f32) : Vec F S1x128x512 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13).2.2.2.2.2.2.2.2.1)

def outsAt0 (c : Dev nD) (t : Fin cfg0.N) : Vec F S1x256x512 .bf16 × Vec F S1x512x256 .bf16 × Vec F S1x256x512 .bf16 × Vec F S1x512x512 .bf16 × Vec F S1x512x512 .bf16 × Vec F S1x256x512 .bf16 × Vec F S1x512x512 .bf16 × Vec F S1x512x128 .bf16 × Vec F S1x128x512 .bf16 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 16000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjIdeal.Gen

end
-- ==== Proof.ProjIdealValue.lean ====
/- The input projection's nine result arrays after the run, from what each point leaves in its blocks. -/
module

public import proofs.«01_k».proof.Proof.ProjIdealFrame
public import Idealize.ShloMosaic.Lib.Pipeline.Value

@[expose] public section

set_option maxHeartbeats 16000000

noncomputable section

namespace Cert.ProjIdeal.Value

open Cert.ProjIdeal Cert.ProjIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post14 (r : PUnit × MemSt nD τ sig (Elt F)) (h : Pipeline.FramePost cfgs (dats m) 0 (V m) r) (c : Dev nD) :
    r.2.mem ((c : Thread nD τ).loc main_v74_0) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v74_1) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v74_2) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v74_3) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v74_4) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v74_5) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v74_6) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v74_7) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v74_8) = (dats m 0 c).arrAt 22 cfg0.N :=
  (h c).1 22

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 16000000 in

theorem run_blocks : θ_run defs (onTc (τ := τ) (main (F := F))) ⟨m, fun _ => 0, ρ⟩ fun r => ∀ c : Dev nD,
      r.2.mem ((c : Thread nD τ).loc main_v74_0) = (dats m 0 c).arrAt 14 cfg0.N
      ∧ r.2.mem ((c : Thread nD τ).loc main_v74_1) = (dats m 0 c).arrAt 15 cfg0.N
      ∧ r.2.mem ((c : Thread nD τ).loc main_v74_2) = (dats m 0 c).arrAt 16 cfg0.N
      ∧ r.2.mem ((c : Thread nD τ).loc main_v74_3) = (dats m 0 c).arrAt 17 cfg0.N
      ∧ r.2.mem ((c : Thread nD τ).loc main_v74_4) = (dats m 0 c).arrAt 18 cfg0.N
      ∧ r.2.mem ((c : Thread nD τ).loc main_v74_5) = (dats m 0 c).arrAt 19 cfg0.N
      ∧ r.2.mem ((c : Thread nD τ).loc main_v74_6) = (dats m 0 c).arrAt 20 cfg0.N
      ∧ r.2.mem ((c : Thread nD τ).loc main_v74_7) = (dats m 0 c).arrAt 21 cfg0.N
      ∧ r.2.mem ((c : Thread nD τ).loc main_v74_8) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ProjIdeal.Value

end
-- ==== Proof.Ref.lean ====
/- The reference's two results as compositions of its steps: scores, weights, averages, and for the differential heads the normalised difference. -/
module

public import proofs.«01_k».proof.Proof.Gen.ReferenceIdeal.Run
public import Idealize.ShloMosaic.Lib.Pointwise

@[expose] public section

set_option maxRecDepth 16384

noncomputable section

namespace Cert.ReferenceIdeal.Step

open Cert.ReferenceIdeal Cert.ReferenceIdeal.Gen Cert.ReferenceIdeal.Value Idealize.ShloMosaic Idealize.ShloMosaic.TcCoe Idealize.SL.Sem Idealize.ShloMosaic.StableHlo

/-- The latent heads' scores. -/
def scM (X3 : FVec Ideal S2x512x16384 .bf16) (X4 : FVec Ideal S2x16384x512 .bf16) : FVec Ideal S2x4x16384x16384 .f32 :=
  mulf (Host.dotGeneral dot_S2x16384x4x128_S2x16384x4x128_S2x4x16384x16384_3_3_1_1_02_02 none (shapeCast S2x16384x4x128 (transpose S2x16384x512 [0, 2, 1] (mulf (extf .f32 X3 bitsLt_bf16_f32) (broadcastInDim S2x512x16384 ![] bcast_S_S2x512x16384 (mulf (Host.log (constant (F := Ideal) S_ .f32 0x40000000#32)) (Host.sqrt (constant (F := Ideal) S_ .f32 0x42C00000#32))))) transposes_S2x512x16384_S2x16384x512_0_2_1) shapeCasts_S2x16384x512_S2x16384x4x128) (shapeCast S2x16384x4x128 (extf .f32 X4 bitsLt_bf16_f32) shapeCasts_S2x16384x512_S2x16384x4x128)) (broadcastInDim S2x4x16384x16384 ![] bcast_S_S2x4x16384x16384 (Host.divf (constant (F := Ideal) S_ .f32 0x3F800000#32) (Host.sqrt (constant (F := Ideal) S_ .f32 0x42C00000#32))))

/-- Each query's greatest latent score. -/
def maxM (s : FVec Ideal S2x4x16384x16384 .f32) : FVec Ideal S2x4x16384 .f32 :=
  maximumf (broadcastInDim S2x4x16384 ![] bcast_S_S2x4x16384 (constant (F := Ideal) S_ .f32 0xFF800000#32)) (Host.reduce FloatOps.maximumf s (constant (F := Ideal) S_ .f32 0xFF800000#32) reducesTo_S2x4x16384x16384_S2x4x16384_d3 h_S_)

/-- The powers of the latent heads' scores, from each query's greatest. -/
def expM (s : FVec Ideal S2x4x16384x16384 .f32) : FVec Ideal S2x4x16384x16384 .f32 :=
  Host.exp (subf s (broadcastInDim S2x4x16384x16384 ![0, 1, 2, 3] bcast_S2x4x16384x1_S2x4x16384x16384_0_1_2_3 (broadcastInDim S2x4x16384x1 ![0, 1, 2] bcast_S2x4x16384_S2x4x16384x1_0_1_2 (maxM s))))

/-- The latent heads' weights. -/
def wM (s : FVec Ideal S2x4x16384x16384 .f32) : FVec Ideal S2x4x16384x16384 .f32 :=
  Host.divf (expM s) (broadcastInDim S2x4x16384x16384 ![0, 1, 2, 3] bcast_S2x4x16384x1_S2x4x16384x16384_0_1_2_3 (broadcastInDim S2x4x16384x1 ![0, 1, 2] bcast_S2x4x16384_S2x4x16384x1_0_1_2 (Host.reduceAdd (expM s) (constant (F := Ideal) S_ .f32 0x00000000#32) reducesTo_S2x4x16384x16384_S2x4x16384_d3 h_S_)))

/-- The latent heads' averages. -/
def outM (X5 : FVec Ideal S2x256x16384 .bf16) (p : FVec Ideal S2x4x16384x16384 .f32) : FVec Ideal S2x16384x256 .bf16 :=
  truncf .bf16 (shapeCast S2x16384x256 (transpose S2x16384x4x64 [0, 3, 1, 2] (Host.dotGeneral dot_S2x16384x4x64_S2x4x16384x16384_S2x4x64x16384_1_3_3_2_02_01 none (shapeCast S2x16384x4x64 (transpose S2x16384x256 [0, 2, 1] (extf .f32 X5 bitsLt_bf16_f32) transposes_S2x256x16384_S2x16384x256_0_2_1) shapeCasts_S2x16384x256_S2x16384x4x64) p) transposes_S2x4x64x16384_S2x16384x4x64_0_3_1_2) shapeCasts_S2x16384x4x64_S2x16384x256) bitsLt_bf16_f32

/-- The differential maps' scores. -/
def scD (X0 : FVec Ideal S2x256x16384 .bf16) (X1 : FVec Ideal S2x16384x256 .bf16) (X6 : IVec S2x16384 32) : FVec Ideal S2x2x4x16384x16384 .f32 :=
  subf (mulf (Host.dotGeneral dot_S2x16384x4x2x32_S2x16384x4x2x32_S2x2x4x16384x16384_4_4_1_1_032_032 none (shapeCast S2x16384x4x2x32 (shapeCast S2x16384x4x64 (transpose S2x16384x256 [0, 2, 1] (mulf (extf .f32 X0 bitsLt_bf16_f32) (broadcastInDim S2x256x16384 ![] bcast_S_S2x256x16384 (mulf (Host.log (constant (F := Ideal) S_ .f32 0x40000000#32)) (Host.sqrt (constant (F := Ideal) S_ .f32 0x42000000#32))))) transposes_S2x256x16384_S2x16384x256_0_2_1) shapeCasts_S2x16384x256_S2x16384x4x64) shapeCasts_S2x16384x4x64_S2x16384x4x2x32) (shapeCast S2x16384x4x2x32 (shapeCast S2x16384x4x64 (extf .f32 X1 bitsLt_bf16_f32) shapeCasts_S2x16384x256_S2x16384x4x64) shapeCasts_S2x16384x4x64_S2x16384x4x2x32)) (broadcastInDim S2x2x4x16384x16384 ![] bcast_S_S2x2x4x16384x16384 (Host.divf (constant (F := Ideal) S_ .f32 0x3F800000#32) (Host.sqrt (constant (F := Ideal) S_ .f32 0x42000000#32))))) (broadcastInDim S2x2x4x16384x16384 ![0, 1, 2, 3, 4] bcast_S2x1x4x16384x16384_S2x2x4x16384x16384_0_1_2_3_4 (mulf (broadcastInDim S2x1x4x16384x16384 ![0, 1, 2, 3, 4] bcast_S1x1x4x1x1_S2x1x4x16384x16384_0_1_2_3_4 (broadcastInDim S1x1x4x1x1 ![2] bcast_S4_S1x1x4x1x1_2 ((concatenate S4 0 [⟨S1, ((broadcastInDim S1 ![] bcast_S_S1 (constant (F := Ideal) S_ .f32 0x3C800000#32)) : (⟨S1, .f32⟩ : BufTy).Contents (Elt Ideal))⟩, ⟨S1, ((broadcastInDim S1 ![] bcast_S_S1 (constant (F := Ideal) S_ .f32 0x3C214518#32)) : (⟨S1, .f32⟩ : BufTy).Contents (Elt Ideal))⟩, ⟨S1, ((broadcastInDim S1 ![] bcast_S_S1 (constant (F := Ideal) S_ .f32 0x3BCB2FF5#32)) : (⟨S1, .f32⟩ : BufTy).Contents (Elt Ideal))⟩, ⟨S1, ((broadcastInDim S1 ![] bcast_S_S1 (constant (F := Ideal) S_ .f32 0x3B800000#32)) : (⟨S1, .f32⟩ : BufTy).Contents (Elt Ideal))⟩] concatenates_S1_S1_S1_S1_S4_d0 : (⟨S4, .f32⟩ : BufTy).Contents (Elt Ideal))))) (broadcastInDim S2x1x4x16384x16384 ![0, 1, 2, 3, 4] bcast_S2x1x1x16384x16384_S2x1x4x16384x16384_0_1_2_3_4 (broadcastInDim S2x1x1x16384x16384 ![0, 3, 4] bcast_S2x16384x16384_S2x1x1x16384x16384_0_3_4 (sitofp .f32 (absi (subi (broadcastInDim S2x16384x16384 ![0, 1, 2] bcast_S2x16384x1_S2x16384x16384_0_1_2 (broadcastInDim S2x16384x1 ![0, 1] bcast_S2x16384_S2x16384x1_0_1 X6)) (broadcastInDim S2x16384x16384 ![0, 1, 2] bcast_S2x1x16384_S2x16384x16384_0_1_2 (broadcastInDim S2x1x16384 ![0, 2] bcast_S2x16384_S2x1x16384_0_2 X6)))))))))

/-- Each query's greatest differential score. -/
def maxD (s : FVec Ideal S2x2x4x16384x16384 .f32) : FVec Ideal S2x2x4x16384 .f32 :=
  maximumf (broadcastInDim S2x2x4x16384 ![] bcast_S_S2x2x4x16384 (constant (F := Ideal) S_ .f32 0xFF800000#32)) (Host.reduce FloatOps.maximumf s (constant (F := Ideal) S_ .f32 0xFF800000#32) reducesTo_S2x2x4x16384x16384_S2x2x4x16384_d4 h_S_)

/-- The powers of the differential maps' scores, from each query's greatest. -/
def expD (s : FVec Ideal S2x2x4x16384x16384 .f32) : FVec Ideal S2x2x4x16384x16384 .f32 :=
  Host.exp (subf s (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (maxD s))))

/-- The differential maps' weights. -/
def wD (s : FVec Ideal S2x2x4x16384x16384 .f32) : FVec Ideal S2x2x4x16384x16384 .f32 :=
  Host.divf (expD s) (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (Host.reduceAdd (expD s) (constant (F := Ideal) S_ .f32 0x00000000#32) reducesTo_S2x2x4x16384x16384_S2x2x4x16384_d4 h_S_)))

/-- The difference's weight. -/
def laD (X7 : FVec Ideal S4x32 .f32) (X9 : FVec Ideal S1x1 .f32) : FVec Ideal S_ .f32 :=
  addf (subf (Host.exp (Host.reduceAdd (mulf (shapeCast S32 (extractStridedSlice S1x32 ![0, 0] X7 slices_S4x32_S1x32_0_0) shapeCasts_S1x32_S32) (shapeCast S32 (extractStridedSlice S1x32 ![1, 0] X7 slices_S4x32_S1x32_1_0) shapeCasts_S1x32_S32)) (constant (F := Ideal) S_ .f32 0x00000000#32) reducesTo_S32_S_d0 h_S_)) (Host.exp (Host.reduceAdd (mulf (shapeCast S32 (extractStridedSlice S1x32 ![2, 0] X7 slices_S4x32_S1x32_2_0) shapeCasts_S1x32_S32) (shapeCast S32 (extractStridedSlice S1x32 ![3, 0] X7 slices_S4x32_S1x32_3_0) shapeCasts_S1x32_S32)) (constant (F := Ideal) S_ .f32 0x00000000#32) reducesTo_S32_S_d0 h_S_))) (shapeCast S_ X9 shapeCasts_S1x1_S_)

/-- The differential heads' averages. -/
def avD (X2 : FVec Ideal S2x256x16384 .bf16) (p : FVec Ideal S2x2x4x16384x16384 .f32) (la : FVec Ideal S_ .f32) : FVec Ideal S2x16384x4x64 .f32 :=
  transpose S2x16384x4x64 [0, 3, 1, 2] (Host.dotGeneral dot_S2x16384x4x64_S2x4x16384x16384_S2x4x64x16384_1_3_3_2_02_01 none (shapeCast S2x16384x4x64 (transpose S2x16384x256 [0, 2, 1] (extf .f32 X2 bitsLt_bf16_f32) transposes_S2x256x16384_S2x16384x256_0_2_1) shapeCasts_S2x16384x256_S2x16384x4x64) (subf (shapeCast S2x4x16384x16384 (extractStridedSlice S2x1x4x16384x16384 ![0, 0, 0, 0, 0] p slices_S2x2x4x16384x16384_S2x1x4x16384x16384_0_0_0_0_0) shapeCasts_S2x1x4x16384x16384_S2x4x16384x16384) (mulf (broadcastInDim S2x4x16384x16384 ![] bcast_S_S2x4x16384x16384 la) (shapeCast S2x4x16384x16384 (extractStridedSlice S2x1x4x16384x16384 ![0, 1, 0, 0, 0] p slices_S2x2x4x16384x16384_S2x1x4x16384x16384_0_1_0_0_0) shapeCasts_S2x1x4x16384x16384_S2x4x16384x16384)))) transposes_S2x4x64x16384_S2x16384x4x64_0_3_1_2

/-- The differential heads' results. -/
def outD (X8 : FVec Ideal S64x1 .f32) (X9 : FVec Ideal S1x1 .f32) (o : FVec Ideal S2x16384x4x64 .f32) : FVec Ideal S2x16384x256 .bf16 :=
  truncf .bf16 (shapeCast S2x16384x256 (mulf (mulf (mulf o (broadcastInDim S2x16384x4x64 ![0, 1, 2, 3] bcast_S2x16384x4x1_S2x16384x4x64_0_1_2_3 (Host.rsqrt (addf (Host.divf (broadcastInDim S2x16384x4x1 ![0, 1, 2] bcast_S2x16384x4_S2x16384x4x1_0_1_2 (Host.reduceAdd (mulf o o) (constant (F := Ideal) S_ .f32 0x00000000#32) reducesTo_S2x16384x4x64_S2x16384x4_d3 h_S_)) (broadcastInDim S2x16384x4x1 ![] bcast_S_S2x16384x4x1 (constant (F := Ideal) S_ .f32 0x42800000#32))) (broadcastInDim S2x16384x4x1 ![] bcast_S_S2x16384x4x1 (constant (F := Ideal) S_ .f32 0x358637BD#32)))))) (broadcastInDim S2x16384x4x64 ![0, 1, 2, 3] bcast_S1x1x1x64_S2x16384x4x64_0_1_2_3 (broadcastInDim S1x1x1x64 ![3] bcast_S64_S1x1x1x64_3 (shapeCast S64 X8 shapeCasts_S64x1_S64)))) (broadcastInDim S2x16384x4x64 ![] bcast_S_S2x16384x4x64 (subf (constant (F := Ideal) S_ .f32 0x3F800000#32) (shapeCast S_ X9 shapeCasts_S1x1_S_)))) shapeCasts_S2x16384x4x64_S2x16384x256) bitsLt_bf16_f32

variable (m : (ℓ : Loc nD τ sig) → Buf (Elt Ideal) ℓ) (c : Dev nD)

theorem out1_eq : res_main_v127 m c = outM (m ((c.tc : Thread nD τ).loc main_arg5)) (wM (scM (m ((c.tc : Thread nD τ).loc main_arg3)) (m ((c.tc : Thread nD τ).loc main_arg4)))) := by
  unfold res_main_v127 outM wM expM maxM scM
  rfl

theorem out0_eq : res_main_v126 m c = outD (m ((c.tc : Thread nD τ).loc main_arg8)) (m ((c.tc : Thread nD τ).loc main_arg9))
    (avD (m ((c.tc : Thread nD τ).loc main_arg2)) (wD (scD (m ((c.tc : Thread nD τ).loc main_arg0)) (m ((c.tc : Thread nD τ).loc main_arg1)) (m ((c.tc : Thread nD τ).loc main_arg6))))
      (laD (m ((c.tc : Thread nD τ).loc main_arg7)) (m ((c.tc : Thread nD τ).loc main_arg9)))) := by
  unfold res_main_v126 outD avD laD wD expD maxD scD
  rfl

end Cert.ReferenceIdeal.Step

end
-- ==== Proof.RefVals.lean ====
/- The reference's steps, entry by entry. -/
module

public import proofs.«01_k».proof.Proof.Ref

@[expose] public section

set_option maxRecDepth 16384

noncomputable section

namespace Cert.ReferenceIdeal.Step

open Cert.ReferenceIdeal Cert.ReferenceIdeal.Gen Cert.ReferenceIdeal.Value Idealize.ShloMosaic Idealize.ShloMosaic.TcCoe Idealize.SL.Sem Idealize.ShloMosaic.StableHlo

theorem scM_at (X3 : FVec Ideal S2x512x16384 .bf16) (X4 : FVec Ideal S2x16384x512 .bf16) (b : Fin 2) (h : Fin 4) (q k : Fin 16384) :
    scM X3 X4 (ix4 b h q k) = (∑ l : Fin 128, (X3 (ix3 b ⟨h.val * 128 + l.val, by omega⟩ q) * (Ideal.log (Ideal.ofBits .f32 0x40000000#32) * Ideal.sqrt (Ideal.ofBits .f32 0x42C00000#32)))
      * X4 (ix3 b k ⟨h.val * 128 + l.val, by omega⟩)) * Ideal.div (Ideal.ofBits .f32 0x3F800000#32) (Ideal.sqrt (Ideal.ofBits .f32 0x42C00000#32)) := by
  pointwise [scM]

theorem expM_at (s : FVec Ideal S2x4x16384x16384 .f32) (b : Fin 2) (h : Fin 4) (q k : Fin 16384) :
    expM s (ix4 b h q k) = Ideal.exp (s (ix4 b h q k) - maxM s (ix3 b h q)) := by
  pointwise [expM]

theorem wM_at (s : FVec Ideal S2x4x16384x16384 .f32) (b : Fin 2) (h : Fin 4) (q k : Fin 16384) :
    wM s (ix4 b h q k) = Ideal.div (expM s (ix4 b h q k)) (∑ k' : Fin 16384, expM s (ix4 b h q k')) := by
  pointwise [wM]

theorem outM_at (X5 : FVec Ideal S2x256x16384 .bf16) (p : FVec Ideal S2x4x16384x16384 .f32) (b : Fin 2) (q : Fin 16384) (h : Fin 4) (d : Fin 64) :
    outM X5 p (ix3 b q ⟨64 * h.val + d.val, by omega⟩) = ∑ k : Fin 16384, X5 (ix3 b ⟨h.val * 64 + d.val, by omega⟩ k) * p (ix4 b h q k) := by
  pointwise [outM]

theorem scD_at (X0 : FVec Ideal S2x256x16384 .bf16) (X1 : FVec Ideal S2x16384x256 .bf16) (X6 : IVec S2x16384 32) (b g : Fin 2) (h : Fin 4) (q k : Fin 16384) :
    scD X0 X1 X6 (ix5 b g h q k) = (∑ l : Fin 32, (X0 (ix3 b ⟨64 * h.val + g.val * 32 + l.val, by omega⟩ q) * (Ideal.log (Ideal.ofBits .f32 0x40000000#32) * Ideal.sqrt (Ideal.ofBits .f32 0x42000000#32)))
      * X1 (ix3 b k ⟨64 * h.val + g.val * 32 + l.val, by omega⟩)) * Ideal.div (Ideal.ofBits .f32 0x3F800000#32) (Ideal.sqrt (Ideal.ofBits .f32 0x42000000#32))
      - (match h with | 0 => Ideal.ofBits .f32 0x3C800000#32 | 1 => Ideal.ofBits .f32 0x3C214518#32 | 2 => Ideal.ofBits .f32 0x3BCB2FF5#32 | 3 => Ideal.ofBits .f32 0x3B800000#32)
        * FloatOps.sitofp (F := Ideal) FTy.f32 (IntOp.absi (IntOp.subi (X6 (ix2 b q)) (X6 (ix2 b k)))) := by
  match h with
  | 0 => pointwise [scD]
  | 1 => pointwise [scD]
  | 2 => pointwise [scD]
  | 3 => pointwise [scD]

theorem expD_at (s : FVec Ideal S2x2x4x16384x16384 .f32) (b g : Fin 2) (h : Fin 4) (q k : Fin 16384) :
    expD s (ix5 b g h q k) = Ideal.exp (s (ix5 b g h q k) - maxD s (ix4 b g h q)) := by
  pointwise [expD]

theorem wD_at (s : FVec Ideal S2x2x4x16384x16384 .f32) (b g : Fin 2) (h : Fin 4) (q k : Fin 16384) :
    wD s (ix5 b g h q k) = Ideal.div (expD s (ix5 b g h q k)) (∑ k' : Fin 16384, expD s (ix5 b g h q k')) := by
  pointwise [wD]

theorem laD_at (X7 : FVec Ideal S4x32 .f32) (X9 : FVec Ideal S1x1 .f32) (i : S_.Idx) :
    laD X7 X9 i = Ideal.exp (∑ l : Fin 32, X7 (ix2 0 l) * X7 (ix2 1 l)) - Ideal.exp (∑ l : Fin 32, X7 (ix2 2 l) * X7 (ix2 3 l)) + X9 (ix2 0 0) := by
  pointwise [laD]

theorem avD_at (X2 : FVec Ideal S2x256x16384 .bf16) (p : FVec Ideal S2x2x4x16384x16384 .f32) (la : FVec Ideal S_ .f32) (b : Fin 2) (q : Fin 16384) (h : Fin 4) (d : Fin 64) :
    avD X2 p la (ix4 b q h d) = ∑ k : Fin 16384, X2 (ix3 b ⟨h.val * 64 + d.val, by omega⟩ k) * (p (ix5 b 0 h q k) - la ix0 * p (ix5 b 1 h q k)) := by
  pointwise [avD]

theorem outD_at (X8 : FVec Ideal S64x1 .f32) (X9 : FVec Ideal S1x1 .f32) (o : FVec Ideal S2x16384x4x64 .f32) (b : Fin 2) (q : Fin 16384) (h : Fin 4) (d : Fin 64) :
    outD X8 X9 o (ix3 b q ⟨64 * h.val + d.val, by omega⟩)
      = o (ix4 b q h d) * Ideal.rsqrt (Ideal.div (∑ x : Fin 64, o (ix4 b q h x) * o (ix4 b q h x)) (Ideal.ofBits FTy.f32 0x42800000#32) + Ideal.ofBits FTy.f32 0x358637BD#32) * X8 (ix2 d 0) * (1 - X9 (ix2 0 0)) := by
  pointwise [outD]

end Cert.ReferenceIdeal.Step

end
-- ==== Proof.Softmax.lean ====
/- Sums of exponentials over the extended reals: what a running softmax holds after some keys, how a block of keys
   extends it, and the quotient it ends with. -/
module

public import Idealize.ShloMosaic.PureOps.Ideal

@[expose] public section

noncomputable section

namespace Cert.Soft

open Idealize.ShloMosaic Finset

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The greatest of finitely many reals is a real: the fold of `max` from the bottom. -/
theorem fold_max_real {ι : Type} [Fintype ι] [Nonempty ι] (f : ι → ℝ) :
    ∃ r : ℝ, (univ : Finset ι).fold max (⊥ : EReal) (fun k => (f k : EReal)) = (r : EReal) := by
  obtain ⟨i⟩ := (inferInstance : Nonempty ι)
  have h1 : (univ : Finset ι).fold max (⊥ : EReal) (fun k => (f k : EReal)) ≠ ⊥ := by
    intro h
    have := (le_fold_max (c := (f i : EReal)) (s := univ) (b := ⊥) (f := fun k => (f k : EReal))).mpr (Or.inr ⟨i, mem_univ i, le_rfl⟩)
    rw [h] at this
    exact absurd this (not_le.mpr (EReal.bot_lt_coe _))
  have h2 : (univ : Finset ι).fold max (⊥ : EReal) (fun k => (f k : EReal)) ≠ ⊤ := by
    refine ne_of_lt ?_
    rw [fold_max_lt]
    exact ⟨bot_lt_top, fun x _ => EReal.coe_lt_top _⟩
  exact ⟨_, (EReal.coe_toReal h2 h1).symm⟩

/-- What a running softmax holds of one query after its first `n` keys, of scores `s` (to the base two) and values `v`:
    some reference point `m`, the sum of the powers from it, and each feature's weighted sum. -/
def Row {D : Type} (s : ℕ → ℝ) (v : D → ℕ → ℝ) (n : ℕ) (M L : EReal) (A : D → EReal) : Prop :=
  ∃ m : ℝ, M = (m : EReal) ∧ L = ((∑ k ∈ range n, Real.rpow 2 (s k - m) : ℝ) : EReal)
    ∧ ∀ d, A d = ((∑ k ∈ range n, v d k * Real.rpow 2 (s k - m) : ℝ) : EReal)

/-- Before any key: any real reference point and zero sums. -/
theorem Row.init {D : Type} (s : ℕ → ℝ) (v : D → ℕ → ℝ) (x : ℝ) : Row s v 0 (x : EReal) 0 (fun _ => 0) :=
  ⟨x, rfl, by simp, fun d => by simp⟩

theorem rpow_shift (x m m' : ℝ) : Real.rpow 2 (m - m') * Real.rpow 2 (x - m) = Real.rpow 2 (x - m') := by
  have := Real.rpow_add (x := 2) (by norm_num) (m - m') (x - m)
  simp only [Real.rpow_eq_pow] at *
  rw [← this]; congr 1; ring

/-- A block of `B` more keys: the reference point moves to the greatest score so far, the sums are rescaled and the
    block's terms added. -/
theorem Row.step {D : Type} {s : ℕ → ℝ} {v : D → ℕ → ℝ} {n B : ℕ} [NeZero B] {M L : EReal} {A : D → EReal} (h : Row s v n M L A)
    {S : Fin B → EReal} (hS : ∀ k : Fin B, S k = (s (n + k) : EReal))
    {W : D → Fin B → EReal} (hW : ∀ d (k : Fin B), W d k = (v d (n + k) : EReal)) {M' : EReal}
    (hM : M' = max M ((univ : Finset (Fin B)).fold max (⊥ : EReal) S)) :
    Row s v (n + B) M' (Ideal.exp2 (M - M') * L + ∑ k, Ideal.exp2 (S k - M'))
      (fun d => Ideal.exp2 (M - M') * A d + ∑ k, W d k * Ideal.exp2 (S k - M')) := by
  obtain ⟨m, rfl, rfl, hA⟩ := h
  obtain ⟨r, hr⟩ := fold_max_real (fun k : Fin B => s (n + k))
  rw [show S = fun k : Fin B => ((s (n + k) : ℝ) : EReal) from funext hS] at hM ⊢
  rw [hr, coe_max] at hM
  subst hM
  refine ⟨max m r, rfl, ?_, fun d => ?_⟩
  · simp only [← EReal.coe_sub, Ideal.exp2_coe]
    rw [← coe_sum, ← EReal.coe_mul, ← EReal.coe_add]
    congr 1
    rw [sum_range_add, mul_sum, ← Fin.sum_univ_eq_sum_range (fun k => Real.rpow 2 (s (n + k) - max m r))]
    congr 1
    exact sum_congr rfl fun k _ => rpow_shift _ _ _
  · simp only [← EReal.coe_sub, Ideal.exp2_coe, hW, hA, ← EReal.coe_mul]
    rw [← coe_sum, ← EReal.coe_add]
    congr 1
    rw [sum_range_add, mul_sum, ← Fin.sum_univ_eq_sum_range (fun k => v d (n + k) * Real.rpow 2 (s (n + k) - max m r))]
    congr 1
    exact sum_congr rfl fun k _ => by rw [← rpow_shift (s k) m (max m r)]; ring

/-- The softmax average of the values `w` under the natural scores `s`. -/
def att (s w : ℕ → ℝ) (n : ℕ) : ℝ := (∑ k ∈ range n, w k * Real.exp (s k)) / ∑ k ∈ range n, Real.exp (s k)

theorem rpow_two (x m : ℝ) : Real.rpow 2 (x - m) = Real.exp (Real.log 2 * x) * Real.exp (-(Real.log 2 * m)) := by
  rw [Real.rpow_eq_pow, Real.rpow_def_of_pos (by norm_num), ← Real.exp_add]; congr 1; ring

theorem sum_exp_pos (s : ℕ → ℝ) {n : ℕ} (hn : 0 < n) : 0 < ∑ k ∈ range n, Real.exp (s k) :=
  sum_pos (fun k _ => Real.exp_pos _) ⟨0, mem_range.mpr hn⟩

/-- The quotient of a running softmax is the average, whatever its reference point. -/
theorem Row.quot {D : Type} {s : ℕ → ℝ} {v : D → ℕ → ℝ} {n : ℕ} (hn : 0 < n) {M L : EReal} {A : D → EReal} (h : Row s v n M L A) (d : D) :
    Ideal.div (A d) L = (att (fun k => Real.log 2 * s k) (v d) n : EReal) := by
  obtain ⟨m, rfl, rfl, hA⟩ := h
  have hp := sum_exp_pos (fun k => Real.log 2 * s k) hn
  have he := Real.exp_pos (-(Real.log 2 * m))
  have hL : ∑ k ∈ range n, Real.rpow 2 (s k - m) = (∑ k ∈ range n, Real.exp (Real.log 2 * s k)) * Real.exp (-(Real.log 2 * m)) := by
    rw [sum_mul]; exact sum_congr rfl fun k _ => rpow_two _ _
  have hW : ∑ k ∈ range n, v d k * Real.rpow 2 (s k - m)
      = (∑ k ∈ range n, v d k * Real.exp (Real.log 2 * s k)) * Real.exp (-(Real.log 2 * m)) := by
    rw [sum_mul]; exact sum_congr rfl fun k _ => by rw [rpow_two]; ring
  rw [hA, hL, Ideal.div_coe (mul_pos hp he).ne', hW, ← EReal.coe_mul]
  congr 1
  rw [att]
  field_simp

/-- One softmax weight of a row of reals, as a quotient by the sum of the exponentials from any real `m`. -/
theorem weight {N : ℕ} (hN : 0 < N) (s : ℕ → ℝ) (m : ℝ) (k : ℕ) :
    Ideal.div (Ideal.exp ((s k : EReal) - (m : EReal))) (∑ j : Fin N, Ideal.exp ((s j : EReal) - (m : EReal)))
      = ((Real.exp (s k) / ∑ j ∈ range N, Real.exp (s j) : ℝ) : EReal) := by
  simp only [← EReal.coe_sub, Ideal.exp_coe]
  rw [← coe_sum, Fin.sum_univ_eq_sum_range (fun j => Real.exp (s j - m))]
  have hp := sum_exp_pos s hN
  have he := Real.exp_pos (-m)
  have h : ∑ j ∈ range N, Real.exp (s j - m) = (∑ j ∈ range N, Real.exp (s j)) * Real.exp (-m) := by
    rw [sum_mul]; exact sum_congr rfl fun j _ => by rw [← Real.exp_add]; rfl
  rw [h, Ideal.div_coe (mul_pos hp he).ne', ← EReal.coe_mul]
  congr 1
  rw [show s k - m = s k + -m by ring, Real.exp_add]
  field_simp

/-- The average by its weights. -/
theorem sum_weight {N : ℕ} (s w : ℕ → ℝ) :
    ∑ k : Fin N, (w k : EReal) * ((Real.exp (s k) / ∑ j ∈ range N, Real.exp (s j) : ℝ) : EReal) = (att s w N : EReal) := by
  simp only [← EReal.coe_mul]
  rw [← coe_sum]
  congr 1
  rw [Fin.sum_univ_eq_sum_range (fun k => w k * (Real.exp (s k) / ∑ j ∈ range N, Real.exp (s j))), att, sum_div]
  exact sum_congr rfl fun k _ => by rw [mul_div_assoc]

/-- The difference of two averages of the same values, by the difference of their weights. -/
theorem sum_weight_sub {N : ℕ} (s t w : ℕ → ℝ) (l : ℝ) :
    ∑ k : Fin N, (w k : EReal) * (((Real.exp (s k) / ∑ j ∈ range N, Real.exp (s j) : ℝ) : EReal)
        - (l : EReal) * ((Real.exp (t k) / ∑ j ∈ range N, Real.exp (t j) : ℝ) : EReal))
      = (att s w N : EReal) - (l : EReal) * (att t w N : EReal) := by
  simp only [← EReal.coe_mul, ← EReal.coe_sub]
  rw [← coe_sum]
  congr 1
  rw [Fin.sum_univ_eq_sum_range (fun k => w k * (Real.exp (s k) / ∑ j ∈ range N, Real.exp (s j) - l * (Real.exp (t k) / ∑ j ∈ range N, Real.exp (t j)))),
    att, att, sum_div, sum_div, mul_sum, ← sum_sub_distrib]
  exact sum_congr rfl fun k _ => by ring

end Cert.Soft

end
-- ==== Proof.RefMax.lean ====
/- The reference's steps, each query's greatest score is a real number when the scores are. -/
module

public import proofs.«01_k».proof.Proof.Ref
public import proofs.«01_k».proof.Proof.Softmax

@[expose] public section

set_option maxRecDepth 16384
set_option pp.proofs false

noncomputable section

namespace Cert.ReferenceIdeal.Step

open Cert.ReferenceIdeal Cert.ReferenceIdeal.Gen Cert.ReferenceIdeal.Value Idealize.ShloMosaic Idealize.ShloMosaic.TcCoe Idealize.SL.Sem Idealize.ShloMosaic.StableHlo

theorem neg_inf : Ideal.ofBits .f32 0xFF800000#32 = (⊥ : EReal) := by
  simp [Ideal.ofBits, Ideal.ieee, -EReal.coe_mul]

/-- The greatest of real numbers along one axis is a real number. -/
theorem reduce_real {s t u : Shape} {a : Fin s.rank} (x : s.Idx → EReal) (init : u.Idx → EReal) (h' : s.ReducesTo [a] t) (h : s.Reduces [a] t) (hu : 0 < u.numel) (hi : ∀ i, init i = ⊥)
    (ha : 0 < s.size a) (hx : ∀ i, ∃ r : ℝ, x i = (r : EReal)) (j : t.Idx) : ∃ r : ℝ, max (⊥ : EReal) (Host.reduce max x init h' hu j) = (r : EReal) := by
  rw [Host.reduce_eq_fold_single max x init h' h hu j, hi]
  choose f hf using hx
  rw [show x ∘ h.lift j = fun k => ((f (h.lift j k) : ℝ) : EReal) from funext fun k => hf _]
  haveI : NeZero (s.size a) := ⟨ha.ne'⟩
  obtain ⟨r, hr⟩ := Soft.fold_max_real (fun k => f (h.lift j k))
  exact ⟨r, by rw [hr]; exact max_eq_right bot_le⟩

/-- The same for the reference's own form, whose starting value is taken in once more. -/
theorem max_real {s t u : Shape} {a : Fin s.rank} (x : FVec Ideal s .f32) (b : FVec Ideal t .f32) (init : FVec Ideal u .f32) (h' : s.ReducesTo [a] t) (h : s.Reduces [a] t) (hu : 0 < u.numel)
    (hb : ∀ j, b j = (⊥ : EReal)) (hi : ∀ i, init i = (⊥ : EReal)) (ha : 0 < s.size a) (hx : ∀ i, ∃ r : ℝ, x i = (r : EReal)) (j : t.Idx) :
    ∃ r : ℝ, maximumf b (Host.reduce FloatOps.maximumf x init h' hu) j = (r : EReal) := by
  obtain ⟨r, hr⟩ := reduce_real x init h' h hu hi ha hx j
  exact ⟨r, (congrArg (fun z => max z (Host.reduce max x init h' hu j)) (hb j)).trans hr⟩

theorem maxM_real (s : FVec Ideal S2x4x16384x16384 .f32) (hs : ∀ i, ∃ r : ℝ, s i = (r : EReal)) (j : S2x4x16384.Idx) : ∃ r : ℝ, maxM s j = (r : EReal) := by
  unfold maxM
  exact max_real (a := 3) s _ _ reducesTo_S2x4x16384x16384_S2x4x16384_d3 ⟨rfl, by decide, reducesTo_S2x4x16384x16384_S2x4x16384_d3.2⟩ h_S_ (fun _ => neg_inf) (fun _ => neg_inf) (by decide) hs j

theorem maxD_real (s : FVec Ideal S2x2x4x16384x16384 .f32) (hs : ∀ i, ∃ r : ℝ, s i = (r : EReal)) (j : S2x2x4x16384.Idx) : ∃ r : ℝ, maxD s j = (r : EReal) := by
  unfold maxD
  exact max_real (a := 4) s _ _ reducesTo_S2x2x4x16384x16384_S2x2x4x16384_d4 ⟨rfl, by decide, reducesTo_S2x2x4x16384x16384_S2x2x4x16384_d4.2⟩ h_S_ (fun _ => neg_inf) (fun _ => neg_inf) (by decide) hs j

end Cert.ReferenceIdeal.Step

end
-- ==== Proof.Step.lean ====
/- One step of the kernel's softmax recurrence for one head, as vector functions: the scores of a block of keys, the running maximum, the running sum and the running weighted sum. -/
module

public import proofs.«01_k».proof.Proof.Gen.KernelIdeal.Skeleton
public import Idealize.ShloMosaic.Lib.WholeRead
public import Idealize.ShloMosaic.Lib.WritesUnit
public import Idealize.ShloMosaic.Lib.Pointwise

@[expose] public section

set_option maxRecDepth 16384

noncomputable section

namespace Cert.KernelIdeal.Step

open Cert.KernelIdeal Cert.KernelIdeal.Gen Idealize.ShloMosaic Idealize.ShloMosaic.TcCoe

/-- The products of a block's keys with the queries. -/
def dotF (k : Vec Ideal S1x512x128 .bf16) (w : Vec Ideal S1x128x512 .bf16) : FVec Ideal S512x512 .f32 :=
  matmul dot_S512x128_S128x512_S512x512_1_0_0_1_n_n none (shapeCast S512x128 k shapeCasts_S1x512x128_S512x128 : FVec Ideal S512x128 .bf16)
    (shapeCast S128x512 w shapeCasts_S1x128x512_S128x512 : FVec Ideal S128x512 .bf16) (constant S512x512 .f32 0x00000000#32)

/-- The distances of the block's keys from the queries. -/
def distF (pk : Vec Ideal S1x512x1 .i32) (pq : Vec Ideal S1x1x512 .i32) : FVec Ideal S512x512 .f32 := k0_pay39 pk pq

/-- The bias of one differential head: the distances by the head's slope. -/
def biasF (c : Ideal .f32) (pk : Vec Ideal S1x512x1 .i32) (pq : Vec Ideal S1x1x512 .i32) : FVec Ideal S512x512 .f32 :=
  mulf (distF pk pq) (broadcast S512x512 c)

/-- The scores of one differential map. -/
def scF (c : Ideal .f32) (pk : Vec Ideal S1x512x1 .i32) (pq : Vec Ideal S1x1x512 .i32) (k : Vec Ideal S1x512x128 .bf16)
    (w : Vec Ideal S1x128x512 .bf16) : FVec Ideal S512x512 .f32 :=
  subf (dotF k w) (biasF c pk pq)

/-- The new running maximum. -/
def mF (s : FVec Ideal S512x512 .f32) (m : Vec Ideal S1x512 .f32) : FVec Ideal S1x512 .f32 :=
  maximumf m (shapeCast S1x512 (multiReduction .maximumf [0] S512 s 0xFF800000#32 reduces_S512x512_S512 (.inl rfl) rfl) shapeCasts_S512_S1x512)

/-- The new running maximum as it is stored. -/
def mS (s : FVec Ideal S512x512 .f32) (m : Vec Ideal S1x512 .f32) : FVec Ideal S1x512 .f32 := shapeCast S1x512 (mF s m) shapeCasts_S1x512_S1x512

/-- The factor that carries the old sums to the new maximum. -/
def alF (s : FVec Ideal S512x512 .f32) (m : Vec Ideal S1x512 .f32) : FVec Ideal S1x512 .f32 := exp2 (subf m (mF s m))

/-- The block's weights. -/
def pF (s : FVec Ideal S512x512 .f32) (m : Vec Ideal S1x512 .f32) : FVec Ideal S512x512 .f32 :=
  exp2 (subf s (broadcastTo S512x512 (mF s m) broadcasts_S1x512_S512x512))

/-- The new running sum of the weights. -/
def lF (s : FVec Ideal S512x512 .f32) (m l : Vec Ideal S1x512 .f32) : FVec Ideal S1x512 .f32 :=
  shapeCast S1x512 (addf (mulf (alF s m) l)
    (shapeCast S1x512 (multiReduction .add [0] S512 (pF s m) 0x00000000#32 reduces_S512x512_S512 (.inl rfl) rfl) shapeCasts_S512_S1x512)) shapeCasts_S1x512_S1x512

/-- The new running weighted sum of the values. -/
def aF (s : FVec Ideal S512x512 .f32) (m : Vec Ideal S1x512 .f32) (v : Vec Ideal S1x64x512 .bf16) (a : Vec Ideal S1x64x512 .f32) : FVec Ideal S1x64x512 .f32 :=
  shapeCast S1x64x512 (addf (mulf (broadcastTo S64x512 (alF s m) broadcasts_S1x512_S64x512) (shapeCast S64x512 a shapeCasts_S1x64x512_S64x512 : FVec Ideal S64x512 .f32))
    (matmul dot_S64x512_S512x512_S64x512_1_0_0_1_n_n none (shapeCast S64x512 v shapeCasts_S1x64x512_S64x512 : FVec Ideal S64x512 .bf16) (truncf .bf16 (pF s m) bitsLt_bf16_f32)
      (constant S64x512 .f32 0x00000000#32))) shapeCasts_S64x512_S1x64x512

/-- The part of an array that a unit-stride rectangle names. -/
def sub {s : Shape} {α : Type} (X : s.Idx → α) (off size : Fin s.rank → ℕ) (inb : ∀ a, off a + size a ≤ s.size a) : (Rect.unit off size inb).shape.Idx → α :=
  fun x => X ((Rect.unit off size inb).toLoadRect.idx x)

variable (x1 : Vec Ideal S1x512x256 .bf16) (x2 : Vec Ideal S1x256x512 .bf16) (x3 : Vec Ideal S1x512x512 .bf16) (x4 : Vec Ideal S1x512x512 .bf16) (x5 : Vec Ideal S1x256x512 .bf16)
  (x6 : Vec Ideal S1x1x512 .i32) (x7 : Vec Ideal S1x512x1 .i32) (w : Fin 8 → Vec Ideal S1x128x512 .bf16)

/-- The scores of each of the twelve maps for one block of keys and one block of queries. -/
def S : Fin 12 → FVec Ideal S512x512 .f32
  | 0 => scF (Named.named κ "slope0_log2e" 0x3CB8AA3B#32) (sub x7 ![0, 0, 0] S1x512x1.size inb_S1x512x1_S1x512x1_0_0_0) (sub x6 ![0, 0, 0] S1x1x512.size inb_S1x1x512_S1x1x512_0_0_0)
      (sub x1 ![0, 0, 0] S1x512x128.size inb_S1x512x256_S1x512x128_0_0_0) (w 0)
  | 1 => scF (Named.named κ "slope0_log2e" 0x3CB8AA3B#32) (sub x7 ![0, 0, 0] S1x512x1.size inb_S1x512x1_S1x512x1_0_0_0) (sub x6 ![0, 0, 0] S1x1x512.size inb_S1x1x512_S1x1x512_0_0_0)
      (sub x1 ![0, 0, 0] S1x512x128.size inb_S1x512x256_S1x512x128_0_0_0) (w 1)
  | 2 => scF (Named.named κ "slope1_log2e" 0x3C68A9CD#32) (sub x7 ![0, 0, 0] S1x512x1.size inb_S1x512x1_S1x512x1_0_0_0) (sub x6 ![0, 0, 0] S1x1x512.size inb_S1x1x512_S1x1x512_0_0_0)
      (sub x1 ![0, 0, 0] S1x512x128.size inb_S1x512x256_S1x512x128_0_0_0) (w 2)
  | 3 => scF (Named.named κ "slope1_log2e" 0x3C68A9CD#32) (sub x7 ![0, 0, 0] S1x512x1.size inb_S1x512x1_S1x512x1_0_0_0) (sub x6 ![0, 0, 0] S1x1x512.size inb_S1x1x512_S1x1x512_0_0_0)
      (sub x1 ![0, 0, 0] S1x512x128.size inb_S1x512x256_S1x512x128_0_0_0) (w 3)
  | 4 => scF (Named.named κ "slope2_log2e" 0x3C129195#32) (sub x7 ![0, 0, 0] S1x512x1.size inb_S1x512x1_S1x512x1_0_0_0) (sub x6 ![0, 0, 0] S1x1x512.size inb_S1x1x512_S1x1x512_0_0_0)
      (sub x1 ![0, 0, 128] S1x512x128.size inb_S1x512x256_S1x512x128_0_0_128) (w 4)
  | 5 => scF (Named.named κ "slope2_log2e" 0x3C129195#32) (sub x7 ![0, 0, 0] S1x512x1.size inb_S1x512x1_S1x512x1_0_0_0) (sub x6 ![0, 0, 0] S1x1x512.size inb_S1x1x512_S1x1x512_0_0_0)
      (sub x1 ![0, 0, 128] S1x512x128.size inb_S1x512x256_S1x512x128_0_0_128) (w 5)
  | 6 => scF (Named.named κ "slope3_log2e" 0x3BB8AA3B#32) (sub x7 ![0, 0, 0] S1x512x1.size inb_S1x512x1_S1x512x1_0_0_0) (sub x6 ![0, 0, 0] S1x1x512.size inb_S1x1x512_S1x1x512_0_0_0)
      (sub x1 ![0, 0, 128] S1x512x128.size inb_S1x512x256_S1x512x128_0_0_128) (w 6)
  | 7 => scF (Named.named κ "slope3_log2e" 0x3BB8AA3B#32) (sub x7 ![0, 0, 0] S1x512x1.size inb_S1x512x1_S1x512x1_0_0_0) (sub x6 ![0, 0, 0] S1x1x512.size inb_S1x1x512_S1x1x512_0_0_0)
      (sub x1 ![0, 0, 128] S1x512x128.size inb_S1x512x256_S1x512x128_0_0_128) (w 7)
  | 8 => dotF (sub x4 ![0, 0, 0] S1x512x128.size inb_S1x512x512_S1x512x128_0_0_0) (sub x3 ![0, 0, 0] S1x128x512.size inb_S1x512x512_S1x128x512_0_0_0)
  | 9 => dotF (sub x4 ![0, 0, 128] S1x512x128.size inb_S1x512x512_S1x512x128_0_0_128) (sub x3 ![0, 128, 0] S1x128x512.size inb_S1x512x512_S1x128x512_0_128_0)
  | 10 => dotF (sub x4 ![0, 0, 256] S1x512x128.size inb_S1x512x512_S1x512x128_0_0_256) (sub x3 ![0, 256, 0] S1x128x512.size inb_S1x512x512_S1x128x512_0_256_0)
  | 11 => dotF (sub x4 ![0, 0, 384] S1x512x128.size inb_S1x512x512_S1x512x128_0_0_384) (sub x3 ![0, 384, 0] S1x128x512.size inb_S1x512x512_S1x128x512_0_384_0)

/-- The values each of the twelve maps weighs. -/
def W : Fin 12 → Vec Ideal S1x64x512 .bf16
  | 0 => sub x2 ![0, 0, 0] S1x64x512.size inb_S1x256x512_S1x64x512_0_0_0
  | 1 => sub x2 ![0, 0, 0] S1x64x512.size inb_S1x256x512_S1x64x512_0_0_0
  | 2 => sub x2 ![0, 64, 0] S1x64x512.size inb_S1x256x512_S1x64x512_0_64_0
  | 3 => sub x2 ![0, 64, 0] S1x64x512.size inb_S1x256x512_S1x64x512_0_64_0
  | 4 => sub x2 ![0, 128, 0] S1x64x512.size inb_S1x256x512_S1x64x512_0_128_0
  | 5 => sub x2 ![0, 128, 0] S1x64x512.size inb_S1x256x512_S1x64x512_0_128_0
  | 6 => sub x2 ![0, 192, 0] S1x64x512.size inb_S1x256x512_S1x64x512_0_192_0
  | 7 => sub x2 ![0, 192, 0] S1x64x512.size inb_S1x256x512_S1x64x512_0_192_0
  | 8 => sub x5 ![0, 0, 0] S1x64x512.size inb_S1x256x512_S1x64x512_0_0_0
  | 9 => sub x5 ![0, 64, 0] S1x64x512.size inb_S1x256x512_S1x64x512_0_64_0
  | 10 => sub x5 ![0, 128, 0] S1x64x512.size inb_S1x256x512_S1x64x512_0_128_0
  | 11 => sub x5 ![0, 192, 0] S1x64x512.size inb_S1x256x512_S1x64x512_0_192_0

/-- A slab of the table of masked queries. -/
def Q (xs : Vec Ideal S8x128x512 .bf16) : Fin 8 → Vec Ideal S1x128x512 .bf16
  | 0 => sub xs ![0, 0, 0] S1x128x512.size inb_S8x128x512_S1x128x512_0_0_0
  | 1 => sub xs ![1, 0, 0] S1x128x512.size inb_S8x128x512_S1x128x512_1_0_0
  | 2 => sub xs ![2, 0, 0] S1x128x512.size inb_S8x128x512_S1x128x512_2_0_0
  | 3 => sub xs ![3, 0, 0] S1x128x512.size inb_S8x128x512_S1x128x512_3_0_0
  | 4 => sub xs ![4, 0, 0] S1x128x512.size inb_S8x128x512_S1x128x512_4_0_0
  | 5 => sub xs ![5, 0, 0] S1x128x512.size inb_S8x128x512_S1x128x512_5_0_0
  | 6 => sub xs ![6, 0, 0] S1x128x512.size inb_S8x128x512_S1x128x512_6_0_0
  | 7 => sub xs ![7, 0, 0] S1x128x512.size inb_S8x128x512_S1x128x512_7_0_0

/-- A row of a per-map table of numbers. -/
def R (xs : Vec Ideal S16x512 .f32) : Fin 12 → Vec Ideal S1x512 .f32
  | 0 => sub xs ![0, 0] S1x512.size inb_S16x512_S1x512_0_0
  | 1 => sub xs ![1, 0] S1x512.size inb_S16x512_S1x512_1_0
  | 2 => sub xs ![2, 0] S1x512.size inb_S16x512_S1x512_2_0
  | 3 => sub xs ![3, 0] S1x512.size inb_S16x512_S1x512_3_0
  | 4 => sub xs ![4, 0] S1x512.size inb_S16x512_S1x512_4_0
  | 5 => sub xs ![5, 0] S1x512.size inb_S16x512_S1x512_5_0
  | 6 => sub xs ![6, 0] S1x512.size inb_S16x512_S1x512_6_0
  | 7 => sub xs ![7, 0] S1x512.size inb_S16x512_S1x512_7_0
  | 8 => sub xs ![8, 0] S1x512.size inb_S16x512_S1x512_8_0
  | 9 => sub xs ![9, 0] S1x512.size inb_S16x512_S1x512_9_0
  | 10 => sub xs ![10, 0] S1x512.size inb_S16x512_S1x512_10_0
  | 11 => sub xs ![11, 0] S1x512.size inb_S16x512_S1x512_11_0

/-- A slab of the per-map table of weighted sums. -/
def A (xs : Vec Ideal S12x64x512 .f32) : Fin 12 → Vec Ideal S1x64x512 .f32
  | 0 => sub xs ![0, 0, 0] S1x64x512.size inb_S12x64x512_S1x64x512_0_0_0
  | 1 => sub xs ![1, 0, 0] S1x64x512.size inb_S12x64x512_S1x64x512_1_0_0
  | 2 => sub xs ![2, 0, 0] S1x64x512.size inb_S12x64x512_S1x64x512_2_0_0
  | 3 => sub xs ![3, 0, 0] S1x64x512.size inb_S12x64x512_S1x64x512_3_0_0
  | 4 => sub xs ![4, 0, 0] S1x64x512.size inb_S12x64x512_S1x64x512_4_0_0
  | 5 => sub xs ![5, 0, 0] S1x64x512.size inb_S12x64x512_S1x64x512_5_0_0
  | 6 => sub xs ![6, 0, 0] S1x64x512.size inb_S12x64x512_S1x64x512_6_0_0
  | 7 => sub xs ![7, 0, 0] S1x64x512.size inb_S12x64x512_S1x64x512_7_0_0
  | 8 => sub xs ![8, 0, 0] S1x64x512.size inb_S12x64x512_S1x64x512_8_0_0
  | 9 => sub xs ![9, 0, 0] S1x64x512.size inb_S12x64x512_S1x64x512_9_0_0
  | 10 => sub xs ![10, 0, 0] S1x64x512.size inb_S12x64x512_S1x64x512_10_0_0
  | 11 => sub xs ![11, 0, 0] S1x64x512.size inb_S12x64x512_S1x64x512_11_0_0

/-- A load of a buffer held at known contents is the named part of the contents. -/
theorem readAt_unread_sub {sig : RefSig} {κ : Kind} {sp : Space} {s : Shape} {e : EltTy} {m : Memref sig κ sp s e} {Val : EltTy → Type} (h : m.IsWhole)
    (X : s.Idx → Val e) (off size : Fin s.rank → ℕ) (inb : ∀ a, off a + size a ≤ s.size a) :
    View.readAt Val m.view (Rect.unit off size inb).toLoadRect (h.unread X) = sub X off size inb :=
  funext fun x => h.readAt_unread X _ x

/-- Whether a lane belongs to the `n`-th group of 32. -/
def keepF (n : BitVec 32) : IVec S128x512 1 :=
  have v479 : IVec S128x512 32 := iota .tc S128x512 32 [0] iota_S128x512_d0_w32
  have v553 : IVec S128x512 32 := broadcast S128x512 32#32
  have v554 : IVec S128x512 32 := divsi v479 v553
  have v555 : IVec S128x512 32 := broadcast S128x512 0#32
  have v556 : IVec S128x512 1 := cmpi .sgt v479 v555
  have v557 : IVec S128x512 32 := extui 32 v556 natLt_1_32
  have v558 : IVec S128x512 32 := broadcast S128x512 0#32
  have v559 : IVec S128x512 1 := cmpi .slt v479 v558
  have v560 : IVec S128x512 32 := extui 32 v559 natLt_1_32
  have v561 : IVec S128x512 32 := subi v557 v560
  let v562 : BitVec 1 := Scalar.cmpi .sgt 32#32 0#32
  let v563 : BitVec 32 := Scalar.extui v562
  let v564 : BitVec 1 := Scalar.cmpi .slt 32#32 0#32
  let v565 : BitVec 32 := Scalar.extui v564
  let v566 : BitVec 32 := Scalar.subi v563 v565
  have v567 : IVec S128x512 32 := broadcast S128x512 v566
  have v568 : IVec S128x512 1 := cmpi .ne v561 v567
  have v569 : IVec S128x512 32 := broadcast S128x512 32#32
  have v570 : IVec S128x512 32 := remsi v479 v569
  have v571 : IVec S128x512 32 := broadcast S128x512 0#32
  have v572 : IVec S128x512 1 := cmpi .ne v570 v571
  have v573 : IVec S128x512 1 := andi v568 v572
  have v574 : IVec S128x512 32 := broadcast S128x512 1#32
  have v575 : IVec S128x512 32 := subi v554 v574
  have v576 : IVec S128x512 32 := select v573 v575 v554
  have v577 : IVec S128x512 32 := broadcast S128x512 n
  have v578 : IVec S128x512 1 := cmpi .eq v576 v577
  v578

/-- A slab of queries with the lanes outside the `n`-th group cleared. -/
def mskF (n : BitVec 32) (v : Vec Ideal S1x128x512 .bf16) : Vec Ideal S1x128x512 .bf16 :=
  shapeCast S1x128x512 (truncf (F := Ideal) .bf16 (select (keepF n) (extf (F := Ideal) .f32 (shapeCast S128x512 v shapeCasts_S1x128x512_S128x512 : FVec Ideal S128x512 .bf16) bitsLt_bf16_f32)
    (broadcast S128x512 (Scalar.ofBits .f32 0x00000000#32 : Ideal .f32) : FVec Ideal S128x512 .f32) : FVec Ideal S128x512 .f32) bitsLt_bf16_f32 : FVec Ideal S128x512 .bf16) shapeCasts_S128x512_S1x128x512

/-- The masked queries of each differential map. -/
def M (x0 : Vec Ideal S1x256x512 .bf16) : Fin 8 → Vec Ideal S1x128x512 .bf16
  | 0 => mskF 0#32 (sub x0 ![0, 0, 0] S1x128x512.size inb_S1x256x512_S1x128x512_0_0_0)
  | 1 => mskF 1#32 (sub x0 ![0, 0, 0] S1x128x512.size inb_S1x256x512_S1x128x512_0_0_0)
  | 2 => mskF 2#32 (sub x0 ![0, 0, 0] S1x128x512.size inb_S1x256x512_S1x128x512_0_0_0)
  | 3 => mskF 3#32 (sub x0 ![0, 0, 0] S1x128x512.size inb_S1x256x512_S1x128x512_0_0_0)
  | 4 => mskF 0#32 (sub x0 ![0, 128, 0] S1x128x512.size inb_S1x256x512_S1x128x512_0_128_0)
  | 5 => mskF 1#32 (sub x0 ![0, 128, 0] S1x128x512.size inb_S1x256x512_S1x128x512_0_128_0)
  | 6 => mskF 2#32 (sub x0 ![0, 128, 0] S1x128x512.size inb_S1x256x512_S1x128x512_0_128_0)
  | 7 => mskF 3#32 (sub x0 ![0, 128, 0] S1x128x512.size inb_S1x256x512_S1x128x512_0_128_0)

section Pieces

variable {sig : RefSig} {κ : Kind} {sp : Space} {e : EltTy} {Val : EltTy → Type}

/-- A row stored last is read back as stored. -/
theorem row_hit (v : View sig κ sp S16x512 e) (f : v.ty.Contents Val) (k : ℕ) (hk : k < 16) (inb : ∀ a, (![k, 0] : Fin 2 → ℕ) a + S1x512.size a ≤ S16x512.size a)
    (w : (Rect.unit (s := S16x512) ![k, 0] S1x512.size inb).shape.Idx → Val e) (L : List (View.Piece Val S16x512 e)) (q : Fin 512) :
    v.read Val (v.writes Val f (⟨Rect.unit (s := S16x512) ![k, 0] S1x512.size inb, w⟩ :: L)) (ix2 (n0 := 16) (n1 := 512) ⟨k, hk⟩ q)
      = w (ix2 (n0 := 1) (n1 := 512) 0 q) :=
  View.read_writes_cons_unit_of_mem v f inb w L _ (ix2 (n0 := 1) (n1 := 512) 0 q) rfl (Fin.forall_fin_two.2 ⟨rfl, (Nat.zero_add _).symm⟩)

/-- A row stored elsewhere is not seen. -/
theorem row_miss (v : View sig κ sp S16x512 e) (f : v.ty.Contents Val) (k h : ℕ) (hh : h < 16) (lt : h < k) (inb : ∀ a, (![k, 0] : Fin 2 → ℕ) a + S1x512.size a ≤ S16x512.size a)
    (w : (Rect.unit (s := S16x512) ![k, 0] S1x512.size inb).shape.Idx → Val e) (L : List (View.Piece Val S16x512 e)) (q : Fin 512) :
    v.read Val (v.writes Val f (⟨Rect.unit (s := S16x512) ![k, 0] S1x512.size inb, w⟩ :: L)) (ix2 (n0 := 16) (n1 := 512) ⟨h, hh⟩ q)
      = v.read Val (v.writes Val f L) (ix2 (n0 := 16) (n1 := 512) ⟨h, hh⟩ q) :=
  View.read_writes_cons_unit_of_not_mem v f inb w L _ rfl (0 : Fin 2) (.inl lt)

/-- A slab stored last is read back as stored. -/
theorem slab_hit (v : View sig κ sp S12x64x512 e) (f : v.ty.Contents Val) (k : ℕ) (hk : k < 12) (inb : ∀ a, (![k, 0, 0] : Fin 3 → ℕ) a + S1x64x512.size a ≤ S12x64x512.size a)
    (w : (Rect.unit (s := S12x64x512) ![k, 0, 0] S1x64x512.size inb).shape.Idx → Val e) (L : List (View.Piece Val S12x64x512 e)) (d : Fin 64) (q : Fin 512) :
    v.read Val (v.writes Val f (⟨Rect.unit (s := S12x64x512) ![k, 0, 0] S1x64x512.size inb, w⟩ :: L)) (ix3 (n0 := 12) (n1 := 64) (n2 := 512) ⟨k, hk⟩ d q)
      = w (ix3 (n0 := 1) (n1 := 64) (n2 := 512) 0 d q) :=
  View.read_writes_cons_unit_of_mem v f inb w L _ (ix3 (n0 := 1) (n1 := 64) (n2 := 512) 0 d q) rfl
    (Fin.forall_fin_succ.2 ⟨rfl, Fin.forall_fin_two.2 ⟨(Nat.zero_add _).symm, (Nat.zero_add _).symm⟩⟩)

/-- A slab stored elsewhere is not seen. -/
theorem slab_miss (v : View sig κ sp S12x64x512 e) (f : v.ty.Contents Val) (k h : ℕ) (hh : h < 12) (lt : h < k) (inb : ∀ a, (![k, 0, 0] : Fin 3 → ℕ) a + S1x64x512.size a ≤ S12x64x512.size a)
    (w : (Rect.unit (s := S12x64x512) ![k, 0, 0] S1x64x512.size inb).shape.Idx → Val e) (L : List (View.Piece Val S12x64x512 e)) (d : Fin 64) (q : Fin 512) :
    v.read Val (v.writes Val f (⟨Rect.unit (s := S12x64x512) ![k, 0, 0] S1x64x512.size inb, w⟩ :: L)) (ix3 (n0 := 12) (n1 := 64) (n2 := 512) ⟨h, hh⟩ d q)
      = v.read Val (v.writes Val f L) (ix3 (n0 := 12) (n1 := 64) (n2 := 512) ⟨h, hh⟩ d q) :=
  View.read_writes_cons_unit_of_not_mem v f inb w L _ rfl (0 : Fin 3) (.inl lt)

/-- A slab of masked queries stored last is read back as stored. -/
theorem mask_hit (v : View sig κ sp S8x128x512 e) (f : v.ty.Contents Val) (k : ℕ) (hk : k < 8) (inb : ∀ a, (![k, 0, 0] : Fin 3 → ℕ) a + S1x128x512.size a ≤ S8x128x512.size a)
    (w : (Rect.unit (s := S8x128x512) ![k, 0, 0] S1x128x512.size inb).shape.Idx → Val e) (L : List (View.Piece Val S8x128x512 e)) (d : Fin 128) (q : Fin 512) :
    v.read Val (v.writes Val f (⟨Rect.unit (s := S8x128x512) ![k, 0, 0] S1x128x512.size inb, w⟩ :: L)) (ix3 (n0 := 8) (n1 := 128) (n2 := 512) ⟨k, hk⟩ d q)
      = w (ix3 (n0 := 1) (n1 := 128) (n2 := 512) 0 d q) :=
  View.read_writes_cons_unit_of_mem v f inb w L _ (ix3 (n0 := 1) (n1 := 128) (n2 := 512) 0 d q) rfl
    (Fin.forall_fin_succ.2 ⟨rfl, Fin.forall_fin_two.2 ⟨(Nat.zero_add _).symm, (Nat.zero_add _).symm⟩⟩)

/-- A slab of masked queries stored elsewhere is not seen. -/
theorem mask_miss (v : View sig κ sp S8x128x512 e) (f : v.ty.Contents Val) (k h : ℕ) (hh : h < 8) (lt : h < k) (inb : ∀ a, (![k, 0, 0] : Fin 3 → ℕ) a + S1x128x512.size a ≤ S8x128x512.size a)
    (w : (Rect.unit (s := S8x128x512) ![k, 0, 0] S1x128x512.size inb).shape.Idx → Val e) (L : List (View.Piece Val S8x128x512 e)) (d : Fin 128) (q : Fin 512) :
    v.read Val (v.writes Val f (⟨Rect.unit (s := S8x128x512) ![k, 0, 0] S1x128x512.size inb, w⟩ :: L)) (ix3 (n0 := 8) (n1 := 128) (n2 := 512) ⟨h, hh⟩ d q)
      = v.read Val (v.writes Val f L) (ix3 (n0 := 8) (n1 := 128) (n2 := 512) ⟨h, hh⟩ d q) :=
  View.read_writes_cons_unit_of_not_mem v f inb w L _ rfl (0 : Fin 3) (.inl lt)

end Pieces

end Cert.KernelIdeal.Step

end
-- ==== Proof.Spec.lean ====
/- The attention's scores, values and averages over the reals, as functions of the arguments' entries. -/
module

public import proofs.«01_k».proof.Proof.Step
public import proofs.«01_k».proof.Proof.Softmax

@[expose] public section

noncomputable section

namespace Cert.Spec

open Cert.KernelIdeal Idealize.ShloMosaic Finset

/-- An entry of a rank-three array as a real, at any three numbers (each taken modulo its extent). -/
def at3 {n0 n1 n2 : ℕ} [NeZero n0] [NeZero n1] [NeZero n2] (X : (⟨3, ![n0, n1, n2]⟩ : Shape).Idx → EReal) (i j k : ℕ) : ℝ :=
  (X (ix3 (Fin.ofNat n0 i) (Fin.ofNat n1 j) (Fin.ofNat n2 k))).toReal

theorem at3_coe {n0 n1 n2 : ℕ} [NeZero n0] [NeZero n1] [NeZero n2] {X : (⟨3, ![n0, n1, n2]⟩ : Shape).Idx → EReal} (fin : ∀ x, X x ≠ ⊤ ∧ X x ≠ ⊥)
    (i : Fin n0) (j : Fin n1) (k : Fin n2) : X (ix3 i j k) = (at3 X i.val j.val k.val : EReal) := by
  unfold at3
  rw [show Fin.ofNat n0 i.val = i from Fin.ext (Nat.mod_eq_of_lt i.isLt), show Fin.ofNat n1 j.val = j from Fin.ext (Nat.mod_eq_of_lt j.isLt),
    show Fin.ofNat n2 k.val = k from Fin.ext (Nat.mod_eq_of_lt k.isLt), EReal.coe_toReal (fin _).1 (fin _).2]

/-- A head's slope. -/
def slope : ℕ → ℝ
  | 0 => 1 / 64
  | 1 => 1321123 / 134217728
  | 2 => 13316085 / 2147483648
  | _ => 1 / 256

variable (a0 : Vec Ideal S2x256x16384 .bf16) (a1 : Vec Ideal S2x16384x256 .bf16) (a2 : Vec Ideal S2x256x16384 .bf16)
  (a3 : Vec Ideal S2x512x16384 .bf16) (a4 : Vec Ideal S2x16384x512 .bf16) (a5 : Vec Ideal S2x256x16384 .bf16) (a6 : Vec Ideal S2x16384 .i32)

/-- The distance of a key's position from a query's. -/
def gap (b k q : ℕ) : ℝ :=
  ((IntOp.absi (IntOp.subi (a6 (ix2 (Fin.ofNat 2 b) (Fin.ofNat 16384 k))) (a6 (ix2 (Fin.ofNat 2 b) (Fin.ofNat 16384 q))))).toInt : ℝ)

/-- The kernel's score of key `k` for query `q` in map `h`, to base two. -/
def score (h b q k : ℕ) : ℝ :=
  if h < 8 then (∑ l ∈ range 32, at3 a1 b k (32 * h + l) * at3 a0 b (32 * h + l) q) - gap a6 b k q * (slope (h / 2) * (Real.log 2)⁻¹)
  else ∑ l ∈ range 128, at3 a4 b k (128 * (h - 8) + l) * at3 a3 b (128 * (h - 8) + l) q

/-- The value of key `k` in map `h`, channel `d`. -/
def value (h b : ℕ) (d : Fin 64) (k : ℕ) : ℝ :=
  if h < 8 then at3 a2 b (64 * (h / 2) + d.val) k else at3 a5 b (64 * (h - 8) + d.val) k

/-- The attention of map `h` for query `q`. -/
def attn (h b q : ℕ) (d : Fin 64) : ℝ :=
  Soft.att (fun k => Real.log 2 * score a0 a1 a3 a4 a6 h b q k) (value a2 a5 h b d) 16384

/-- A sum over 128 lanes that only one group of 32 enters. -/
theorem sum_group (f : ℕ → ℝ) (r : ℕ) (hr : r < 4) : (∑ l : Fin 128, if l.val / 32 = r then f l.val else 0) = ∑ l ∈ range 32, f (32 * r + l) := by
  rw [Fin.sum_univ_eq_sum_range (fun l => if l / 32 = r then f l else 0), ← sum_filter]
  symm
  refine sum_bij (fun l _ => 32 * r + l) ?_ ?_ ?_ ?_
  · intro l hl; simp only [mem_range, mem_filter] at *; omega
  · intro a _ b _ h; simpa using h
  · intro l hl; simp only [mem_range, mem_filter] at hl; exact ⟨l - 32 * r, by simp only [mem_range]; omega, by omega⟩
  · intro l _; rfl

/-- The masked product of 128 lanes is the product of the group's 32. -/
theorem masked (K Q : ℕ → ℝ) (o r : ℕ) (hr : r < 4) (k w : Fin 128 → EReal) (hk : ∀ l, k l = (K (o + l.val) : EReal))
    (hw : ∀ l, w l = if l.val / 32 = r then (Q (o + l.val) : EReal) else 0) :
    ∑ l : Fin 128, k l * w l = ((∑ l ∈ range 32, K (o + (32 * r + l)) * Q (o + (32 * r + l)) : ℝ) : EReal) := by
  rw [← sum_group (fun l => K (o + l) * Q (o + l)) r hr, Soft.coe_sum]
  refine sum_congr rfl fun l _ => ?_
  rw [hk, hw]
  split
  · rw [EReal.coe_mul]
  · simp

end Cert.Spec

end
-- ==== Proof.RefScore.lean ====
/- The reference's scores are the kernel's, times the logarithm of two; its weights are the softmax weights of them. -/
module

public import proofs.«01_k».proof.Proof.RefVals
public import proofs.«01_k».proof.Proof.RefMax
public import proofs.«01_k».proof.Proof.Spec

@[expose] public section

set_option maxRecDepth 16384
set_option pp.proofs false

noncomputable section

namespace Cert.ReferenceIdeal.Step

open Cert.ReferenceIdeal Idealize.ShloMosaic Cert.Spec Finset

theorem lit1 : Ideal.ofBits .f32 0x3F800000#32 = ((1 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit32 : Ideal.ofBits .f32 0x42000000#32 = ((32 : ℝ) : EReal) := by
  simp [Ideal.ofBits, Ideal.ieee, -EReal.coe_mul]; norm_num
theorem lit96 : Ideal.ofBits .f32 0x42C00000#32 = ((96 : ℝ) : EReal) := by
  simp [Ideal.ofBits, Ideal.ieee, -EReal.coe_mul]; norm_num

/-- The reference's slopes are the named constants' logarithms' factors. -/
theorem slope_ref (h : Fin 4) : ((match h with
    | 0 => Ideal.ofBits .f32 0x3C800000#32
    | 1 => Ideal.ofBits .f32 0x3C214518#32
    | 2 => Ideal.ofBits .f32 0x3BCB2FF5#32
    | 3 => Ideal.ofBits .f32 0x3B800000#32 : Ideal .f32) : EReal) = ((Spec.slope h.val : ℝ) : EReal) := by
  match h with
  | 0 => simp [Ideal.ofBits, Ideal.ieee, -EReal.coe_mul, Spec.slope]; norm_num
  | 1 => simp [Ideal.ofBits, Ideal.ieee, -EReal.coe_mul, Spec.slope]; norm_num
  | 2 => simp [Ideal.ofBits, Ideal.ieee, -EReal.coe_mul, Spec.slope]; norm_num
  | 3 => simp [Ideal.ofBits, Ideal.ieee, -EReal.coe_mul, Spec.slope]; norm_num

/-- A distance does not depend on its direction. -/
theorem abs_sub (x y : BitVec 32) : IntOp.absi (IntOp.subi x y) = IntOp.absi (IntOp.subi y x) := by
  have e : IntOp.subi y x = -(IntOp.subi x y) := by
    simp only [IntOp.subi]; rw [BitVec.neg_sub, BitVec.sub_eq_add_neg, BitVec.add_comm]
  rw [e]
  generalize IntOp.subi x y = z
  simp only [IntOp.absi]
  rw [BitVec.msb_neg, BitVec.neg_neg]
  by_cases h0 : z = 0#32
  · subst h0; decide
  by_cases h1 : z = BitVec.intMin 32
  · subst h1; decide
  · cases z.msb <;> simp [h0, h1]

/-- A scaled product of real rows: the query was multiplied by the scale, the product is divided by it. -/
theorem scaled {n : ℕ} (Q K : ℕ → ℝ) (q k : Fin n → EReal) (hq : ∀ l, q l = (Q l.val : EReal)) (hk : ∀ l, k l = (K l.val : EReal)) {x : ℝ} (hx : 0 < x) :
    (∑ l : Fin n, (q l * (Ideal.log ((2 : ℝ) : EReal) * Ideal.sqrt (x : EReal))) * k l) * Ideal.div ((1 : ℝ) : EReal) (Ideal.sqrt (x : EReal))
      = ((Real.log 2 * ∑ l ∈ range n, K l * Q l : ℝ) : EReal) := by
  have hs : Real.sqrt x ≠ 0 := (Real.sqrt_pos.mpr hx).ne'
  simp only [hq, hk, Ideal.log_coe, Ideal.sqrt_coe]
  simp only [if_neg (not_lt.mpr hx.le), if_neg (show ¬(2 : ℝ) ≤ 0 by norm_num)]
  rw [Ideal.div_coe hs]
  simp only [← EReal.coe_mul]
  rw [← Soft.coe_sum, ← EReal.coe_mul, Fin.sum_univ_eq_sum_range (fun l => Q l * (Real.log 2 * Real.sqrt x) * K l), sum_mul, mul_sum]
  congr 1
  refine sum_congr rfl fun l _ => ?_
  field_simp

variable {a0 : Vec Ideal Cert.KernelIdeal.S2x256x16384 .bf16} {a1 : Vec Ideal Cert.KernelIdeal.S2x16384x256 .bf16} {a2 : Vec Ideal Cert.KernelIdeal.S2x256x16384 .bf16}
  {a3 : Vec Ideal Cert.KernelIdeal.S2x512x16384 .bf16} {a4 : Vec Ideal Cert.KernelIdeal.S2x16384x512 .bf16} {a5 : Vec Ideal Cert.KernelIdeal.S2x256x16384 .bf16} {a6 : Vec Ideal Cert.KernelIdeal.S2x16384 .i32}

theorem scM_score (f3 : ∀ x, a3 x ≠ ⊤ ∧ a3 x ≠ ⊥) (f4 : ∀ x, a4 x ≠ ⊤ ∧ a4 x ≠ ⊥) (b : Fin 2) (h : Fin 4) (q k : Fin 16384) :
    scM a3 a4 (ix4 b h q k) = ((Real.log 2 * score a0 a1 a3 a4 a6 (8 + h.val) b.val q.val k.val : ℝ) : EReal) := by
  refine (scM_at _ _ _ _ _ _).trans ?_
  rw [lit2, lit96, lit1]
  refine (scaled (fun l => at3 a3 b.val (128 * h.val + l) q.val) (fun l => at3 a4 b.val k.val (128 * h.val + l)) _ _ (fun l => ?_) (fun l => ?_) (by norm_num)).trans ?_
  · refine (at3_coe f3 _ _ _).trans ?_
    dsimp only; rw [Nat.mul_comm]
  · refine (at3_coe f4 _ _ _).trans ?_
    dsimp only; rw [Nat.mul_comm]
  · unfold score
    rw [if_neg (by omega), Nat.add_sub_cancel_left]

theorem scD_score (f0 : ∀ x, a0 x ≠ ⊤ ∧ a0 x ≠ ⊥) (f1 : ∀ x, a1 x ≠ ⊤ ∧ a1 x ≠ ⊥) (b g : Fin 2) (h : Fin 4) (q k : Fin 16384) :
    scD a0 a1 a6 (ix5 b g h q k) = ((Real.log 2 * score a0 a1 a3 a4 a6 (2 * h.val + g.val) b.val q.val k.val : ℝ) : EReal) := by
  refine (scD_at _ _ _ _ _ _ _ _).trans ?_
  rw [lit2, lit32, lit1, abs_sub]
  have hs : (∑ l : Fin 32, (a0 (ix3 b ⟨64 * h.val + g.val * 32 + l.val, by omega⟩ q) * (Ideal.log ((2 : ℝ) : EReal) * Ideal.sqrt ((32 : ℝ) : EReal)))
      * a1 (ix3 b k ⟨64 * h.val + g.val * 32 + l.val, by omega⟩)) * Ideal.div ((1 : ℝ) : EReal) (Ideal.sqrt ((32 : ℝ) : EReal))
      = ((Real.log 2 * ∑ l ∈ range 32, at3 a1 b.val k.val (32 * (2 * h.val + g.val) + l) * at3 a0 b.val (32 * (2 * h.val + g.val) + l) q.val : ℝ) : EReal) := by
    refine scaled (fun l => at3 a0 b.val (32 * (2 * h.val + g.val) + l) q.val) (fun l => at3 a1 b.val k.val (32 * (2 * h.val + g.val) + l)) _ _ (fun l => ?_) (fun l => ?_) (by norm_num)
    · refine (at3_coe f0 _ _ _).trans ?_
      dsimp only; rw [show 64 * h.val + g.val * 32 + l.val = 32 * (2 * h.val + g.val) + l.val by ring]
    · refine (at3_coe f1 _ _ _).trans ?_
      dsimp only; rw [show 64 * h.val + g.val * 32 + l.val = 32 * (2 * h.val + g.val) + l.val by ring]
  have hg : FloatOps.sitofp (F := Ideal) FTy.f32 (IntOp.absi (IntOp.subi (a6 (ix2 b k)) (a6 (ix2 b q)))) = ((gap a6 b.val k.val q.val : ℝ) : EReal) := by
    unfold gap
    rw [show Fin.ofNat 2 b.val = b from Fin.ext (Nat.mod_eq_of_lt b.isLt), show Fin.ofNat 16384 k.val = k from Fin.ext (Nat.mod_eq_of_lt k.isLt),
      show Fin.ofNat 16384 q.val = q from Fin.ext (Nat.mod_eq_of_lt q.isLt)]
    rfl
  refine (congrArg₂ (fun x y : EReal => x - y) hs (congrArg₂ (fun x y : EReal => x * y) (slope_ref h) hg)).trans ?_
  rw [← EReal.coe_mul, ← EReal.coe_sub]
  congr 1
  unfold score
  have hl : Real.log 2 ≠ 0 := (Real.log_pos (by norm_num)).ne'
  rw [if_pos (by omega), show (2 * h.val + g.val) / 2 = h.val by omega]
  field_simp

/-- A softmax weight of the reference, of real scores. -/
theorem wM_weight (s : FVec Ideal S2x4x16384x16384 .f32) (hs : ∀ i, ∃ r : ℝ, s i = (r : EReal)) (b : Fin 2) (h : Fin 4) (q : Fin 16384) (f : ℕ → ℝ)
    (hf : ∀ k : Fin 16384, s (ix4 b h q k) = (f k.val : EReal)) (k : Fin 16384) :
    wM s (ix4 b h q k) = ((Real.exp (f k.val) / ∑ j ∈ range 16384, Real.exp (f j) : ℝ) : EReal) := by
  obtain ⟨r, hr⟩ := maxM_real s hs (ix3 b h q)
  rw [wM_at, ← Soft.weight (by norm_num) f r k.val]
  simp only [expM_at, hf, hr]

theorem wD_weight (s : FVec Ideal S2x2x4x16384x16384 .f32) (hs : ∀ i, ∃ r : ℝ, s i = (r : EReal)) (b g : Fin 2) (h : Fin 4) (q : Fin 16384) (f : ℕ → ℝ)
    (hf : ∀ k : Fin 16384, s (ix5 b g h q k) = (f k.val : EReal)) (k : Fin 16384) :
    wD s (ix5 b g h q k) = ((Real.exp (f k.val) / ∑ j ∈ range 16384, Real.exp (f j) : ℝ) : EReal) := by
  obtain ⟨r, hr⟩ := maxD_real s hs (ix4 b g h q)
  rw [wD_at, ← Soft.weight (by norm_num) f r k.val]
  simp only [expD_at, hf, hr]

end Cert.ReferenceIdeal.Step

end
-- ==== Proof.Sub.lean ====
/- The parts of the blocks and tables that the kernel reads, entry by entry. -/
module

public import proofs.«01_k».proof.Proof.Step
import Idealize.ShloMosaic.Lib.Pipeline.ValueKit

@[expose] public section

set_option maxRecDepth 16384

noncomputable section

namespace Cert.KernelIdeal.Step

open Cert.KernelIdeal Cert.KernelIdeal.Gen Idealize.ShloMosaic Idealize.ShloMosaic.TcCoe

/-- A part of a rank-three array at an index. -/
theorem sub3 {n0 n1 n2 : ℕ} {α : Type} (X : (⟨3, ![n0, n1, n2]⟩ : Shape).Idx → α) {o0 o1 o2 s0 s1 s2 : ℕ}
    (inb : ∀ a, (![o0, o1, o2] : Fin 3 → ℕ) a + (![s0, s1, s2] : Fin 3 → ℕ) a ≤ (⟨3, ![n0, n1, n2]⟩ : Shape).size a) (i : Fin s0) (j : Fin s1) (k : Fin s2)
    (i' : Fin n0) (j' : Fin n1) (k' : Fin n2) (hi : o0 + i.val = i'.val) (hj : o1 + j.val = j'.val) (hk : o2 + k.val = k'.val) :
    sub X ![o0, o1, o2] ![s0, s1, s2] inb (ix3 i j k) = X (ix3 i' j' k') := by
  unfold sub
  refine congrArg X ?_
  funext a
  match a with
  | 0 => exact Fin.ext ((congrArg (o0 + ·) (Nat.one_mul _)).trans hi)
  | 1 => exact Fin.ext ((congrArg (o1 + ·) (Nat.one_mul _)).trans hj)
  | 2 => exact Fin.ext ((congrArg (o2 + ·) (Nat.one_mul _)).trans hk)

/-- A part of a matrix at an index. -/
theorem sub2 {n0 n1 : ℕ} {α : Type} (X : (⟨2, ![n0, n1]⟩ : Shape).Idx → α) {o0 o1 s0 s1 : ℕ}
    (inb : ∀ a, (![o0, o1] : Fin 2 → ℕ) a + (![s0, s1] : Fin 2 → ℕ) a ≤ (⟨2, ![n0, n1]⟩ : Shape).size a) (i : Fin s0) (j : Fin s1)
    (i' : Fin n0) (j' : Fin n1) (hi : o0 + i.val = i'.val) (hj : o1 + j.val = j'.val) :
    sub X ![o0, o1] ![s0, s1] inb (ix2 i j) = X (ix2 i' j') := by
  unfold sub
  refine congrArg X ?_
  funext a
  match a with
  | 0 => exact Fin.ext ((congrArg (o0 + ·) (Nat.one_mul _)).trans hi)
  | 1 => exact Fin.ext ((congrArg (o1 + ·) (Nat.one_mul _)).trans hj)

/-- A row of a table. -/
theorem R_at (xs : Vec Ideal S16x512 .f32) (h : Fin 12) (q : Fin 512) : R xs h (ix2 0 q) = xs (ix2 (n0 := 16) (n1 := 512) ⟨h.val, by omega⟩ q) := by
  have e : ∀ (o : ℕ) (ho : o < 16) (inb : ∀ a, (![o, 0] : Fin 2 → ℕ) a + (![1, 512] : Fin 2 → ℕ) a ≤ S16x512.size a),
      sub xs ![o, 0] ![1, 512] inb (ix2 (0 : Fin 1) q) = xs (ix2 (n0 := 16) (n1 := 512) ⟨o, ho⟩ q) := fun o ho inb =>
    sub2 (n0 := 16) (n1 := 512) xs inb 0 q ⟨o, ho⟩ q (by simp) (by simp)
  fin_cases h <;> exact e _ (by norm_num) _

/-- A slab of the table of weighted sums. -/
theorem A_at (xs : Vec Ideal S12x64x512 .f32) (h : Fin 12) (d : Fin 64) (q : Fin 512) : A xs h (ix3 0 d q) = xs (ix3 (n0 := 12) (n1 := 64) (n2 := 512) h d q) := by
  have e : ∀ (o : ℕ) (ho : o < 12) (inb : ∀ a, (![o, 0, 0] : Fin 3 → ℕ) a + (![1, 64, 512] : Fin 3 → ℕ) a ≤ S12x64x512.size a),
      sub xs ![o, 0, 0] ![1, 64, 512] inb (ix3 (0 : Fin 1) d q) = xs (ix3 (n0 := 12) (n1 := 64) (n2 := 512) ⟨o, ho⟩ d q) := fun o ho inb =>
    sub3 (n0 := 12) (n1 := 64) (n2 := 512) xs inb 0 d q ⟨o, ho⟩ d q (by simp) (by simp) (by simp)
  fin_cases h <;> exact e _ (by norm_num) _

/-- A slab of the table of masked queries. -/
theorem Q_at (xs : Vec Ideal S8x128x512 .bf16) (h : Fin 8) (d : Fin 128) (q : Fin 512) : Q xs h (ix3 0 d q) = xs (ix3 (n0 := 8) (n1 := 128) (n2 := 512) h d q) := by
  have e : ∀ (o : ℕ) (ho : o < 8) (inb : ∀ a, (![o, 0, 0] : Fin 3 → ℕ) a + (![1, 128, 512] : Fin 3 → ℕ) a ≤ S8x128x512.size a),
      sub xs ![o, 0, 0] ![1, 128, 512] inb (ix3 (0 : Fin 1) d q) = xs (ix3 (n0 := 8) (n1 := 128) (n2 := 512) ⟨o, ho⟩ d q) := fun o ho inb =>
    sub3 (n0 := 8) (n1 := 128) (n2 := 512) xs inb 0 d q ⟨o, ho⟩ d q (by simp) (by simp) (by simp)
  fin_cases h <;> exact e _ (by norm_num) _

end Cert.KernelIdeal.Step

end
-- ==== Proof.Finish.lean ====
/- What the kernel forms from its tables at the last block of keys: the quotients, the differential heads' normalised difference, and the two results' blocks. -/
module

public import proofs.«01_k».proof.Proof.Step

@[expose] public section

set_option maxRecDepth 16384

noncomputable section

namespace Cert.KernelIdeal.Step

open Cert.KernelIdeal Cert.KernelIdeal.Gen Idealize.ShloMosaic Idealize.ShloMosaic.TcCoe

/-- A map's attention: the weighted sum of the values by the sum of the weights. -/
def quoF (a : Vec Ideal S1x64x512 .f32) (l : Vec Ideal S1x512 .f32) : FVec Ideal S64x512 .f32 :=
  divf (shapeCast S64x512 a shapeCasts_S1x64x512_S64x512 : FVec Ideal S64x512 .f32) (broadcastTo S64x512 l broadcasts_S1x512_S64x512 : FVec Ideal S64x512 .f32)

/-- The difference of two maps' attention. -/
def difF (lam : FVec Ideal S1x1 .f32) (a b : FVec Ideal S64x512 .f32) : FVec Ideal S64x512 .f32 :=
  subf a (mulf (broadcastTo S64x512 lam broadcasts_S1x1_S64x512) b)

/-- The reciprocal root of the mean square over a head's channels. -/
def rmsF (o : FVec Ideal S64x512 .f32) : FVec Ideal S1x512 .f32 :=
  rsqrt (addf (divf (shapeCast S1x512 (multiReduction .add [0] S512 (mulf o o) 0x00000000#32 reduces_S64x512_S512 (.inl rfl) rfl) shapeCasts_S512_S1x512 : FVec Ideal S1x512 .f32)
    (broadcast S1x512 (Scalar.ofBits .f32 0x42800000#32 : Ideal .f32))) (broadcast S1x512 (Scalar.ofBits .f32 0x358637BD#32 : Ideal .f32)))

/-- One differential head's result. -/
def headF (linit lam : FVec Ideal S1x1 .f32) (hg : FVec Ideal S64x1 .f32) (a b : FVec Ideal S64x512 .f32) : FVec Ideal S64x512 .f32 :=
  mulf (mulf (mulf (difF lam a b) (broadcastTo S64x512 (rmsF (difF lam a b)) broadcasts_S1x512_S64x512)) (broadcastTo S64x512 hg broadcasts_S64x1_S64x512))
    (broadcastTo S64x512 (subf (broadcast S1x1 (Scalar.ofBits .f32 0x3F800000#32 : Ideal .f32)) linit) broadcasts_S1x1_S64x512)

/-- Four heads side by side, queries first. -/
def packF (a b c d : FVec Ideal S64x512 .f32) : Vec Ideal S1x512x256 .bf16 :=
  shapeCast S1x512x256 (truncf (F := Ideal) .bf16 (transpose S512x256 [1, 0]
    (concatenate S256x512 0 [⟨S64x512, a⟩, ⟨S64x512, b⟩, ⟨S64x512, c⟩, ⟨S64x512, d⟩] concatenates_S64x512_S64x512_S64x512_S64x512_S256x512_d0 : FVec Ideal S256x512 .f32)
      transposes_S256x512_p1_0_S512x256 : FVec Ideal S512x256 .f32) bitsLt_bf16_f32 : FVec Ideal S512x256 .bf16) shapeCasts_S512x256_S1x512x256

variable (x1 : Vec Ideal S1x512x256 .bf16) (x2 : Vec Ideal S1x256x512 .bf16) (x3 : Vec Ideal S1x512x512 .bf16) (x4 : Vec Ideal S1x512x512 .bf16) (x5 : Vec Ideal S1x256x512 .bf16)
  (x6 : Vec Ideal S1x1x512 .i32) (x7 : Vec Ideal S1x512x1 .i32) (x8 : Vec Ideal S4x32 .f32) (x9 : Vec Ideal S64x1 .f32) (x10 : Vec Ideal S1x1 .f32)
  (w : Fin 8 → Vec Ideal S1x128x512 .bf16) (xs1 xs2 : Vec Ideal S16x512 .f32) (xs3 : Vec Ideal S12x64x512 .f32)

/-- Each map's attention after the last block. -/
def N (h : Fin 12) : FVec Ideal S64x512 .f32 :=
  quoF (aF (S x1 x3 x4 x6 x7 w h) (R xs1 h) (W x2 x5 h) (A xs3 h)) (lF (S x1 x3 x4 x6 x7 w h) (R xs1 h) (R xs2 h))

/-- The differential heads' block. -/
def odF : Vec Ideal S1x512x256 .bf16 :=
  let li := sub x10 ![0, 0] S1x1.size inb_S1x1_S1x1_0_0
  let la := k0_pay27 (F := Ideal) (sub x8 ![0, 0] S4x32.size inb_S4x32_S4x32_0_0) li
  let g := sub x9 ![0, 0] S64x1.size inb_S64x1_S64x1_0_0
  let n := N x1 x2 x3 x4 x5 x6 x7 w xs1 xs2 xs3
  packF (headF li la g (n 0) (n 1)) (headF li la g (n 2) (n 3)) (headF li la g (n 4) (n 5)) (headF li la g (n 6) (n 7))

/-- The latent heads' block. -/
def omF : Vec Ideal S1x512x256 .bf16 :=
  let n := N x1 x2 x3 x4 x5 x6 x7 w xs1 xs2 xs3
  packF (n 8) (n 9) (n 10) (n 11)

end Cert.KernelIdeal.Step

end
-- ==== Proof.Vals.lean ====
/- The step's vector functions read at an index, over the extended reals. -/
module

public import proofs.«01_k».proof.Proof.Finish
import Idealize.ShloMosaic.Lib.Pipeline.ValueKit
import Idealize.ShloMosaic.Lib.Pointwise

@[expose] public section

set_option maxRecDepth 16384

noncomputable section

namespace Cert.KernelIdeal.Step

open Cert.KernelIdeal Cert.KernelIdeal.Gen Idealize.ShloMosaic Idealize.ShloMosaic.TcCoe

theorem neg_inf : Ideal.ofBits .f32 0xFF800000#32 = (⊥ : EReal) := by
  simp [Ideal.ofBits, Ideal.ieee, -EReal.coe_mul]

/-- The products of keys and queries. -/
theorem dotF_at (k : Vec Ideal S1x512x128 .bf16) (w : Vec Ideal S1x128x512 .bf16) (a q : Fin 512) :
    dotF k w (ix2 a q) = ∑ l : Fin 128, k (ix3 0 a l) * w (ix3 0 l q) := by
  pointwise [dotF]

/-- A differential map's score. -/
theorem scF_at (c : Ideal .f32) (pk : Vec Ideal S1x512x1 .i32) (pq : Vec Ideal S1x1x512 .i32) (k : Vec Ideal S1x512x128 .bf16)
    (w : Vec Ideal S1x128x512 .bf16) (a q : Fin 512) :
    scF c pk pq k w (ix2 a q) = (∑ l : Fin 128, k (ix3 0 a l) * w (ix3 0 l q))
      - (((IntOp.absi (IntOp.subi (pk (ix3 0 a 0)) (pq (ix3 0 0 q)))).toInt : ℝ) : EReal) * c := by
  pointwise [scF, dotF, biasF, distF, k0_pay39]
  rfl

/-- The new maximum. -/
theorem mS_at (s : FVec Ideal S512x512 .f32) (m : Vec Ideal S1x512 .f32) (q : Fin 512) :
    mS s m (ix2 0 q) = max (m (ix2 0 q)) (Finset.univ.fold max (⊥ : EReal) fun k : Fin 512 => s (ix2 k q)) := by
  pointwise [mS, mF]
  rw [neg_inf]

/-- The new sum. -/
theorem lF_at (s : FVec Ideal S512x512 .f32) (m l : Vec Ideal S1x512 .f32) (q : Fin 512) :
    lF s m l (ix2 0 q) = Ideal.exp2 (m (ix2 0 q) - mS s m (ix2 0 q)) * l (ix2 0 q) + ∑ k : Fin 512, Ideal.exp2 (s (ix2 k q) - mS s m (ix2 0 q)) := by
  rw [mS_at]
  pointwise [lF, alF, pF, mF]
  rw [neg_inf]; rfl

/-- The new weighted sum. -/
theorem aF_at (s : FVec Ideal S512x512 .f32) (m : Vec Ideal S1x512 .f32) (v : Vec Ideal S1x64x512 .bf16) (a : Vec Ideal S1x64x512 .f32) (d : Fin 64) (q : Fin 512) :
    aF s m v a (ix3 0 d q) = Ideal.exp2 (m (ix2 0 q) - mS s m (ix2 0 q)) * a (ix3 0 d q)
      + ∑ k : Fin 512, v (ix3 0 d k) * Ideal.exp2 (s (ix2 k q) - mS s m (ix2 0 q)) := by
  rw [mS_at]
  pointwise [aF, alF, pF, mF]
  rw [neg_inf]; rfl

/-- The quotient. -/
theorem quoF_at (a : Vec Ideal S1x64x512 .f32) (l : Vec Ideal S1x512 .f32) (d : Fin 64) (q : Fin 512) :
    quoF a l (ix2 d q) = Ideal.div (a (ix3 0 d q)) (l (ix2 0 q)) := by
  pointwise [quoF]

/-- The mask on its lane alone. -/
def keep (n : BitVec 32) (l : Fin 128) : BitVec 1 :=
  IntOp.cmpi CmpIPredicate.eq
      (Scalar.select
        (IntOp.andi
          (IntOp.cmpi CmpIPredicate.ne
            (IntOp.subi (BitVec.setWidth 32 (IntOp.cmpi CmpIPredicate.sgt (BitVec.ofNat 32 ↑l) 0#32))
              (BitVec.setWidth 32 (IntOp.cmpi CmpIPredicate.slt (BitVec.ofNat 32 ↑l) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 ↑l) 32#32) 0#32))
        (IntOp.subi (IntOp.divsi ArithUnit.vector (BitVec.ofNat 32 ↑l) 32#32) 1#32)
        (IntOp.divsi ArithUnit.vector (BitVec.ofNat 32 ↑l) 32#32))
      n

theorem keepF_at (n : BitVec 32) (l : Fin 128) (q : Fin 512) : keepF n (ix2 l q) = keep n l := by
  pointwise [keepF, keep]

/-- The lanes kept for a group are the group's. -/
theorem keep_eq (g : Fin 4) : ∀ l : Fin 128, keep (BitVec.ofNat 32 g.val) l = if l.val / 32 = g.val then 1#1 else 0#1 := by
  revert g; decide +kernel

/-- A masked slab. -/
theorem mskF_at (g : Fin 4) (v : Vec Ideal S1x128x512 .bf16) (l : Fin 128) (q : Fin 512) :
    mskF (BitVec.ofNat 32 g.val) v (ix3 0 l q) = if l.val / 32 = g.val then v (ix3 0 l q) else 0 := by
  have h : mskF (BitVec.ofNat 32 g.val) v (ix3 0 l q) = Scalar.select (keepF (BitVec.ofNat 32 g.val) (ix2 l q)) (v (ix3 0 l q)) (0 : EReal) := by
    pointwise [mskF]
  rw [h, keepF_at, keep_eq]
  split <;> rfl

/-- The difference's weight. -/
theorem lam_at (x8 : Vec Ideal S4x32 .f32) (x10 : Vec Ideal S1x1 .f32) :
    k0_pay27 x8 x10 (ix2 0 0) = Ideal.exp (∑ l : Fin 32, x8 (ix2 0 l) * x8 (ix2 1 l)) - Ideal.exp (∑ l : Fin 32, x8 (ix2 2 l) * x8 (ix2 3 l)) + x10 (ix2 0 0) := by
  pointwise [k0_pay27]

/-- A differential head's channel, from its row of differences. -/
def head (o : Fin 64 → EReal) (g li : EReal) (d : Fin 64) : EReal :=
  o d * Ideal.rsqrt (Ideal.div (∑ x, o x * o x) (Ideal.ofBits FTy.f32 0x42800000#32) + Ideal.ofBits FTy.f32 0x358637BD#32) * g * (1 - li)

theorem headF_at (linit lam : FVec Ideal S1x1 .f32) (hg : FVec Ideal S64x1 .f32) (a b : FVec Ideal S64x512 .f32) (d : Fin 64) (q : Fin 512) :
    headF linit lam hg a b (ix2 d q)
      = head (fun x => a (ix2 x q) - lam (ix2 0 0) * b (ix2 x q)) (hg (ix2 d 0)) (linit (ix2 0 0)) d := by
  pointwise [headF, rmsF, difF, head]

/-- The packed block's channel. -/
theorem packF_at (f : Fin 4 → FVec Ideal S64x512 .f32) (h : Fin 4) (d : Fin 64) (q : Fin 512) :
    packF (f 0) (f 1) (f 2) (f 3) (ix3 0 q ⟨64 * h.val + d.val, by omega⟩) = f h (ix2 d q) := by
  match h with
  | 0 => pointwise [packF]
  | 1 => pointwise [packF]
  | 2 =>
    pointwise [packF]
    rw [dif_neg (by omega), dif_neg (by omega), dif_pos (by omega)]
    exact congrArg (f 2) (congrArg (fun z => ix2 z q) (Fin.ext (by simp only []; omega)))
  | 3 =>
    pointwise [packF]
    rw [dif_neg (by omega), dif_neg (by omega), dif_neg (by omega)]
    exact congrArg (f 3) (congrArg (fun z => ix2 z q) (Fin.ext (by simp only []; omega)))

end Cert.KernelIdeal.Step

end
-- ==== Proof.Score.lean ====
/- The scores, values and masked queries of one block of keys and one block of queries, over the reals. -/
module

public import proofs.«01_k».proof.Proof.Sub
public import proofs.«01_k».proof.Proof.Vals
public import proofs.«01_k».proof.Proof.Spec

@[expose] public section

set_option maxRecDepth 16384

noncomputable section

namespace Cert.KernelIdeal.Step

open Cert.KernelIdeal Cert.KernelIdeal.Gen Idealize.ShloMosaic Idealize.ShloMosaic.TcCoe Cert.Spec Finset

variable {a0 : Vec Ideal S2x256x16384 .bf16} {a1 : Vec Ideal S2x16384x256 .bf16} {a2 : Vec Ideal S2x256x16384 .bf16}
  {a3 : Vec Ideal S2x512x16384 .bf16} {a4 : Vec Ideal S2x16384x512 .bf16} {a5 : Vec Ideal S2x256x16384 .bf16} {a6 : Vec Ideal S2x16384 .i32}
  {b qo ko : ℕ}
  {x0 : Vec Ideal S1x256x512 .bf16} {x1 : Vec Ideal S1x512x256 .bf16} {x2 : Vec Ideal S1x256x512 .bf16} {x3 : Vec Ideal S1x512x512 .bf16} {x4 : Vec Ideal S1x512x512 .bf16} {x5 : Vec Ideal S1x256x512 .bf16}
  {x6 : Vec Ideal S1x1x512 .i32} {x7 : Vec Ideal S1x512x1 .i32} {w : Fin 8 → Vec Ideal S1x128x512 .bf16}

/-- The blocks are the arguments' entries of sequence `b`, queries from `qo` and keys from `ko`. -/
structure Blk (a0 : Vec Ideal S2x256x16384 .bf16) (a1 : Vec Ideal S2x16384x256 .bf16) (a2 : Vec Ideal S2x256x16384 .bf16)
    (a3 : Vec Ideal S2x512x16384 .bf16) (a4 : Vec Ideal S2x16384x512 .bf16) (a5 : Vec Ideal S2x256x16384 .bf16) (a6 : Vec Ideal S2x16384 .i32) (b qo ko : ℕ)
    (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16)
    (x6 : Vec Ideal S1x1x512 .i32) (x7 : Vec Ideal S1x512x1 .i32) : Prop where
  h0 : ∀ (c : Fin 256) (q : Fin 512), x0 (ix3 0 c q) = (at3 a0 b c.val (qo + q.val) : EReal)
  h1 : ∀ (k : Fin 512) (c : Fin 256), x1 (ix3 0 k c) = (at3 a1 b (ko + k.val) c.val : EReal)
  h2 : ∀ (c : Fin 256) (k : Fin 512), x2 (ix3 0 c k) = (at3 a2 b c.val (ko + k.val) : EReal)
  h3 : ∀ (c : Fin 512) (q : Fin 512), x3 (ix3 0 c q) = (at3 a3 b c.val (qo + q.val) : EReal)
  h4 : ∀ (k : Fin 512) (c : Fin 512), x4 (ix3 0 k c) = (at3 a4 b (ko + k.val) c.val : EReal)
  h5 : ∀ (c : Fin 256) (k : Fin 512), x5 (ix3 0 c k) = (at3 a5 b c.val (ko + k.val) : EReal)
  hp : ∀ k q : Fin 512, ((IntOp.absi (IntOp.subi (x7 (ix3 0 k 0)) (x6 (ix3 0 0 q)))).toInt : ℝ) = gap a6 b (ko + k.val) (qo + q.val)

/-- The masked queries of each differential map. -/
def QOk (a0 : Vec Ideal S2x256x16384 .bf16) (b qo : ℕ) (w : Fin 8 → Vec Ideal S1x128x512 .bf16) : Prop :=
  ∀ (h : Fin 8) (l : Fin 128) (q : Fin 512), w h (ix3 0 l q) = if l.val / 32 = h.val % 4 then (at3 a0 b (128 * (h.val / 4) + l.val) (qo + q.val) : EReal) else 0

theorem M_ok (hB : Blk a0 a1 a2 a3 a4 a5 a6 b qo ko x0 x1 x2 x3 x4 x5 x6 x7) : QOk a0 b qo (M x0) := by
  have e : ∀ (g : Fin 4) (o : ℕ) (ho : o + 128 ≤ 256) (inb : ∀ a, (![0, o, 0] : Fin 3 → ℕ) a + (![1, 128, 512] : Fin 3 → ℕ) a ≤ S1x256x512.size a) (l : Fin 128) (q : Fin 512),
      mskF (BitVec.ofNat 32 g.val) (sub x0 ![0, o, 0] ![1, 128, 512] inb) (ix3 0 l q) = if l.val / 32 = g.val then (at3 a0 b (o + l.val) (qo + q.val) : EReal) else 0 := by
    intro g o ho inb l q
    refine (mskF_at g _ l q).trans ?_
    split
    · exact (sub3 (n0 := 1) (n1 := 256) (n2 := 512) x0 inb 0 l q 0 ⟨o + l.val, by omega⟩ q (by simp) (by simp) (by simp)).trans (hB.h0 _ _)
    · rfl
  intro h
  match h with
  | 0 => exact e 0 0 (by norm_num) _
  | 1 => exact e 1 0 (by norm_num) _
  | 2 => exact e 2 0 (by norm_num) _
  | 3 => exact e 3 0 (by norm_num) _
  | 4 => exact e 0 128 (by norm_num) _
  | 5 => exact e 1 128 (by norm_num) _
  | 6 => exact e 2 128 (by norm_num) _
  | 7 => exact e 3 128 (by norm_num) _

theorem W_ok (hB : Blk a0 a1 a2 a3 a4 a5 a6 b qo ko x0 x1 x2 x3 x4 x5 x6 x7) (h : Fin 12) (d : Fin 64) (k : Fin 512) :
    W x2 x5 h (ix3 0 d k) = (value a2 a5 h.val b d (ko + k.val) : EReal) := by
  have e2 : ∀ (o : ℕ) (ho : o + 64 ≤ 256) (inb : ∀ a, (![0, o, 0] : Fin 3 → ℕ) a + (![1, 64, 512] : Fin 3 → ℕ) a ≤ S1x256x512.size a),
      sub x2 ![0, o, 0] ![1, 64, 512] inb (ix3 0 d k) = (at3 a2 b (o + d.val) (ko + k.val) : EReal) := fun o ho inb =>
    (sub3 (n0 := 1) (n1 := 256) (n2 := 512) x2 inb 0 d k 0 ⟨o + d.val, by omega⟩ k (by simp) (by simp) (by simp)).trans (hB.h2 _ _)
  have e5 : ∀ (o : ℕ) (ho : o + 64 ≤ 256) (inb : ∀ a, (![0, o, 0] : Fin 3 → ℕ) a + (![1, 64, 512] : Fin 3 → ℕ) a ≤ S1x256x512.size a),
      sub x5 ![0, o, 0] ![1, 64, 512] inb (ix3 0 d k) = (at3 a5 b (o + d.val) (ko + k.val) : EReal) := fun o ho inb =>
    (sub3 (n0 := 1) (n1 := 256) (n2 := 512) x5 inb 0 d k 0 ⟨o + d.val, by omega⟩ k (by simp) (by simp) (by simp)).trans (hB.h5 _ _)
  match h with
  | 0 => exact e2 0 (by norm_num) _
  | 1 => exact e2 0 (by norm_num) _
  | 2 => exact e2 64 (by norm_num) _
  | 3 => exact e2 64 (by norm_num) _
  | 4 => exact e2 128 (by norm_num) _
  | 5 => exact e2 128 (by norm_num) _
  | 6 => exact e2 192 (by norm_num) _
  | 7 => exact e2 192 (by norm_num) _
  | 8 => exact e5 0 (by norm_num) _
  | 9 => exact e5 64 (by norm_num) _
  | 10 => exact e5 128 (by norm_num) _
  | 11 => exact e5 192 (by norm_num) _

/-- The named slopes. -/
theorem slope_named (s : Fin 4) : ((match s with
    | 0 => Named.named κ "slope0_log2e" 0x3CB8AA3B#32
    | 1 => Named.named κ "slope1_log2e" 0x3C68A9CD#32
    | 2 => Named.named κ "slope2_log2e" 0x3C129195#32
    | 3 => Named.named κ "slope3_log2e" 0x3BB8AA3B#32 : Ideal .f32) : EReal) = ((Spec.slope s.val * (Real.log 2)⁻¹ : ℝ) : EReal) := by
  match s with
  | 0 => exact IdealRules.named_const.ideal_named_scalar _ _ _ _ rfl
  | 1 => exact IdealRules.named_const.ideal_named_scalar _ _ _ _ rfl
  | 2 => exact IdealRules.named_const.ideal_named_scalar _ _ _ _ rfl
  | 3 => exact IdealRules.named_const.ideal_named_scalar _ _ _ _ rfl

theorem S_ok (hB : Blk a0 a1 a2 a3 a4 a5 a6 b qo ko x0 x1 x2 x3 x4 x5 x6 x7) (hQ : QOk a0 b qo w) (h : Fin 12) (k q : Fin 512) :
    S x1 x3 x4 x6 x7 w h (ix2 k q) = (score a0 a1 a3 a4 a6 h.val b (qo + q.val) (ko + k.val) : EReal) := by
  have ed : ∀ (g : Fin 8) (c : Ideal .f32) (s : ℝ) (hc : (c : EReal) = (s : EReal)) (o : ℕ) (ho : o + 128 ≤ 256) (hg : o = 128 * (g.val / 4)) (hs : s = Spec.slope (g.val / 2) * (Real.log 2)⁻¹)
      (i7 : ∀ a, (![0, 0, 0] : Fin 3 → ℕ) a + (![1, 512, 1] : Fin 3 → ℕ) a ≤ S1x512x1.size a)
      (i6 : ∀ a, (![0, 0, 0] : Fin 3 → ℕ) a + (![1, 1, 512] : Fin 3 → ℕ) a ≤ S1x1x512.size a)
      (i1 : ∀ a, (![0, 0, o] : Fin 3 → ℕ) a + (![1, 512, 128] : Fin 3 → ℕ) a ≤ S1x512x256.size a),
      scF c (sub x7 ![0, 0, 0] ![1, 512, 1] i7) (sub x6 ![0, 0, 0] ![1, 1, 512] i6) (sub x1 ![0, 0, o] ![1, 512, 128] i1) (w g) (ix2 k q)
        = (score a0 a1 a3 a4 a6 g.val b (qo + q.val) (ko + k.val) : EReal) := by
    intro g c s hc o ho hg hs i7 i6 i1
    refine (scF_at _ _ _ _ _ _ _).trans ?_
    have e7 : sub x7 ![0, 0, 0] ![1, 512, 1] i7 (ix3 0 k 0) = x7 (ix3 0 k 0) := sub3 (n0 := 1) (n1 := 512) (n2 := 1) x7 i7 0 k 0 0 k 0 (by simp) (by simp) (by simp)
    have e6 : sub x6 ![0, 0, 0] ![1, 1, 512] i6 (ix3 0 0 q) = x6 (ix3 0 0 q) := sub3 (n0 := 1) (n1 := 1) (n2 := 512) x6 i6 0 0 q 0 0 q (by simp) (by simp) (by simp)
    have e1 : ∀ l : Fin 128, sub x1 ![0, 0, o] ![1, 512, 128] i1 (ix3 0 k l) = (at3 a1 b (ko + k.val) (o + l.val) : EReal) := fun l =>
      (sub3 (n0 := 1) (n1 := 512) (n2 := 256) x1 i1 0 k l 0 k ⟨o + l.val, by omega⟩ (by simp) (by simp) (by simp)).trans (hB.h1 _ _)
    have hm := masked (fun c => at3 a1 b (ko + k.val) c) (fun c => at3 a0 b c (qo + q.val)) o (g.val % 4) (by omega)
      (fun l => sub x1 ![0, 0, o] ![1, 512, 128] i1 (ix3 0 k l)) (fun l => w g (ix3 0 l q)) e1 (fun l => by rw [hQ g l q, hg])
    rw [e7, e6, hB.hp, hc]
    refine (congrArg (· - ((gap a6 b (ko + k.val) (qo + q.val) : ℝ) : EReal) * ((s : ℝ) : EReal)) hm).trans ?_
    rw [← EReal.coe_mul, ← EReal.coe_sub]
    congr 1
    unfold score
    rw [if_pos g.isLt, hs]
    congr 1
    refine sum_congr rfl fun l _ => ?_
    rw [show o + (32 * (g.val % 4) + l) = 32 * g.val + l by omega]
  have em : ∀ (g : ℕ) (o : ℕ) (ho : o + 128 ≤ 512) (hg : o = 128 * (g - 8)) (h8 : 8 ≤ g)
      (i4 : ∀ a, (![0, 0, o] : Fin 3 → ℕ) a + (![1, 512, 128] : Fin 3 → ℕ) a ≤ S1x512x512.size a)
      (i3 : ∀ a, (![0, o, 0] : Fin 3 → ℕ) a + (![1, 128, 512] : Fin 3 → ℕ) a ≤ S1x512x512.size a),
      dotF (sub x4 ![0, 0, o] ![1, 512, 128] i4) (sub x3 ![0, o, 0] ![1, 128, 512] i3) (ix2 k q)
        = (score a0 a1 a3 a4 a6 g b (qo + q.val) (ko + k.val) : EReal) := by
    intro g o ho hg h8 i4 i3
    refine (dotF_at _ _ _ _).trans ?_
    unfold score
    rw [if_neg (by omega), ← hg, ← Fin.sum_univ_eq_sum_range (fun l => at3 a4 b (ko + k.val) (o + l) * at3 a3 b (o + l) (qo + q.val)), Soft.coe_sum]
    refine sum_congr rfl fun l _ => ?_
    rw [EReal.coe_mul]
    exact congrArg₂ (· * ·)
      ((sub3 (n0 := 1) (n1 := 512) (n2 := 512) x4 i4 0 k l 0 k ⟨o + l.val, by omega⟩ (by simp) (by simp) (by simp)).trans (hB.h4 _ _))
      ((sub3 (n0 := 1) (n1 := 512) (n2 := 512) x3 i3 0 l q 0 ⟨o + l.val, by omega⟩ q (by simp) (by simp) (by simp)).trans (hB.h3 _ _))
  match h with
  | 0 => exact ed 0 _ _ (slope_named 0) 0 (by norm_num) rfl rfl _ _ _
  | 1 => exact ed 1 _ _ (slope_named 0) 0 (by norm_num) rfl rfl _ _ _
  | 2 => exact ed 2 _ _ (slope_named 1) 0 (by norm_num) rfl rfl _ _ _
  | 3 => exact ed 3 _ _ (slope_named 1) 0 (by norm_num) rfl rfl _ _ _
  | 4 => exact ed 4 _ _ (slope_named 2) 128 (by norm_num) rfl rfl _ _ _
  | 5 => exact ed 5 _ _ (slope_named 2) 128 (by norm_num) rfl rfl _ _ _
  | 6 => exact ed 6 _ _ (slope_named 3) 128 (by norm_num) rfl rfl _ _ _
  | 7 => exact ed 7 _ _ (slope_named 3) 128 (by norm_num) rfl rfl _ _ _
  | 8 => exact em 8 0 (by norm_num) rfl (by norm_num) _ _
  | 9 => exact em 9 128 (by norm_num) rfl (by norm_num) _ _
  | 10 => exact em 10 256 (by norm_num) rfl (by norm_num) _ _
  | 11 => exact em 11 384 (by norm_num) rfl (by norm_num) _ _

end Cert.KernelIdeal.Step

end
-- ==== Proof.Blocks.lean ====
/- The blocks the kernel reads at each grid point, as entries of the arguments. -/
module

public import proofs.«01_k».proof.Proof.Gen.KernelIdeal.Frame
public import proofs.«01_k».proof.Proof.Score
import Idealize.ShloMosaic.Lib.Pipeline.ValueKit

@[expose] public section

set_option maxRecDepth 16384

noncomputable section

namespace Cert.KernelIdeal.Step

open Cert.KernelIdeal Cert.KernelIdeal.Gen Idealize.ShloMosaic Idealize.ShloMosaic.TcCoe Idealize.SL.Sem Cert.Spec

theorem idx : ∀ t : Fin cfg0.N,
    win0_0.index t = ![t.val / 1024, 0, t.val / 32 % 32] ∧ win0_1.index t = ![t.val / 1024, t.val % 32, 0] ∧ win0_2.index t = ![t.val / 1024, 0, t.val % 32]
    ∧ win0_3.index t = ![t.val / 1024, 0, t.val / 32 % 32] ∧ win0_4.index t = ![t.val / 1024, t.val % 32, 0] ∧ win0_5.index t = ![t.val / 1024, 0, t.val % 32]
    ∧ win0_6.index t = ![t.val / 1024, 0, t.val / 32 % 32] ∧ win0_7.index t = ![t.val / 1024, t.val % 32, 0]
    ∧ win0_8.index t = ![0, 0] ∧ win0_9.index t = ![0, 0] ∧ win0_10.index t = ![0, 0] ∧ t.val / 1024 < 2 :=
  (by decide +kernel : ∀ t : Fin grid0.N, _)

variable (m : (ℓ : Loc nD τ sig) → Buf (Elt Ideal) ℓ) (c : Dev nD) (t : Fin cfg0.N)

/-- The arguments of the call. -/
abbrev a0 : Vec Ideal S2x256x16384 .bf16 := m ((c : Thread nD τ).loc main_arg0)
abbrev a1 : Vec Ideal S2x16384x256 .bf16 := m ((c : Thread nD τ).loc main_arg1)
abbrev a2 : Vec Ideal S2x256x16384 .bf16 := m ((c : Thread nD τ).loc main_arg2)
abbrev a3 : Vec Ideal S2x512x16384 .bf16 := m ((c : Thread nD τ).loc main_arg3)
abbrev a4 : Vec Ideal S2x16384x512 .bf16 := m ((c : Thread nD τ).loc main_arg4)
abbrev a5 : Vec Ideal S2x256x16384 .bf16 := m ((c : Thread nD τ).loc main_arg5)
abbrev a6 : Vec Ideal S2x16384 .i32 := m ((c : Thread nD τ).loc main_arg6)
abbrev a7 : Vec Ideal S4x32 .f32 := m ((c : Thread nD τ).loc main_arg7)
abbrev a8 : Vec Ideal S64x1 .f32 := m ((c : Thread nD τ).loc main_arg8)
abbrev a9 : Vec Ideal S1x1 .f32 := m ((c : Thread nD τ).loc main_arg9)

/-- Every entry of an array is a real number. -/
def Fin' {s : Shape} (X : s.Idx → EReal) : Prop := ∀ x, X x ≠ ⊤ ∧ X x ≠ ⊥

/-- The attention's arguments hold real numbers. -/
structure Real' : Prop where
  f0 : Fin' (a0 m c)
  f1 : Fin' (a1 m c)
  f2 : Fin' (a2 m c)
  f3 : Fin' (a3 m c)
  f4 : Fin' (a4 m c)
  f5 : Fin' (a5 m c)

theorem tlt : t.val < 2048 := lt_of_lt_of_eq t.isLt (show cfg0.N = 2048 from N_0)

theorem b0 (ch : Fin 256) (q : Fin 512) : (iblk m c 0 t : Vec Ideal S1x256x512 .bf16) (ix3 0 ch q)
    = a0 m c (ix3 ⟨t.val / 1024, by have := tlt t; omega⟩ ch ⟨512 * (t.val / 32 % 32) + q.val, by omega⟩) := by
  blk_ext [iblk, V, idx t, a0]
theorem b1 (k : Fin 512) (ch : Fin 256) : (iblk m c 1 t : Vec Ideal S1x512x256 .bf16) (ix3 0 k ch)
    = a1 m c (ix3 ⟨t.val / 1024, by have := tlt t; omega⟩ ⟨512 * (t.val % 32) + k.val, by omega⟩ ch) := by
  blk_ext [iblk, V, idx t, a1]
theorem b2 (ch : Fin 256) (q : Fin 512) : (iblk m c 2 t : Vec Ideal S1x256x512 .bf16) (ix3 0 ch q)
    = a2 m c (ix3 ⟨t.val / 1024, by have := tlt t; omega⟩ ch ⟨512 * (t.val % 32) + q.val, by omega⟩) := by
  blk_ext [iblk, V, idx t, a2]
theorem b3 (ch : Fin 512) (q : Fin 512) : (iblk m c 3 t : Vec Ideal S1x512x512 .bf16) (ix3 0 ch q)
    = a3 m c (ix3 ⟨t.val / 1024, by have := tlt t; omega⟩ ch ⟨512 * (t.val / 32 % 32) + q.val, by omega⟩) := by
  blk_ext [iblk, V, idx t, a3]
theorem b4 (k : Fin 512) (ch : Fin 512) : (iblk m c 4 t : Vec Ideal S1x512x512 .bf16) (ix3 0 k ch)
    = a4 m c (ix3 ⟨t.val / 1024, by have := tlt t; omega⟩ ⟨512 * (t.val % 32) + k.val, by omega⟩ ch) := by
  blk_ext [iblk, V, idx t, a4]
theorem b5 (ch : Fin 256) (q : Fin 512) : (iblk m c 5 t : Vec Ideal S1x256x512 .bf16) (ix3 0 ch q)
    = a5 m c (ix3 ⟨t.val / 1024, by have := tlt t; omega⟩ ch ⟨512 * (t.val % 32) + q.val, by omega⟩) := by
  blk_ext [iblk, V, idx t, a5]
theorem b6 (q : Fin 512) : (iblk m c 6 t : Vec Ideal S1x1x512 .i32) (ix3 0 0 q)
    = a6 m c (ix2 ⟨t.val / 1024, by have := tlt t; omega⟩ ⟨512 * (t.val / 32 % 32) + q.val, by omega⟩) := by
  blk_point [iblk, idx t, a6]
theorem b7 (k : Fin 512) : (iblk m c 7 t : Vec Ideal S1x512x1 .i32) (ix3 0 k 0)
    = a6 m c (ix2 ⟨t.val / 1024, by have := tlt t; omega⟩ ⟨512 * (t.val % 32) + k.val, by omega⟩) := by
  blk_point [iblk, idx t, a6]
theorem b8 (i : Fin 4) (j : Fin 32) : (iblk m c 8 t : Vec Ideal S4x32 .f32) (ix2 i j) = a7 m c (ix2 i j) := by
  blk_ext [iblk, V, idx t, a7]
theorem b9 (i : Fin 64) : (iblk m c 9 t : Vec Ideal S64x1 .f32) (ix2 i 0) = a8 m c (ix2 i 0) := by
  blk_ext [iblk, V, idx t, a8]
theorem b10 : (iblk m c 10 t : Vec Ideal S1x1 .f32) (ix2 0 0) = a9 m c (ix2 0 0) := by
  blk_ext [iblk, V, idx t, a9]

end Cert.KernelIdeal.Step

end
-- ==== Proof.RowsA0.lean ====
/- What a point at the first block of keys leaves in one of the kernel's tables, map by map. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32)

/-- The masked queries of each map after the point. -/
theorem soutA0 (h : Fin 8) (d : Fin 128) (q : Fin 512) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 (ix3 (n0 := 8) (n1 := 128) (n2 := 512) h d q)
      = M x0 h (ix3 0 d q) := by
  frame_open
  simp (disch := decide) only [↓ View.readCov_skip, ↓ View.readCov_cons_toLoadRect, ↓ View.readCov_fill]
  simp only [readAt_unread_sub]
  match h with
  | 0 =>
    refine (mask_miss _ _ 7 0 (by decide) (by decide) _ _ _ d q).trans ?_
    refine (mask_miss _ _ 6 0 (by decide) (by decide) _ _ _ d q).trans ?_
    refine (mask_miss _ _ 5 0 (by decide) (by decide) _ _ _ d q).trans ?_
    refine (mask_miss _ _ 4 0 (by decide) (by decide) _ _ _ d q).trans ?_
    refine (mask_miss _ _ 3 0 (by decide) (by decide) _ _ _ d q).trans ?_
    refine (mask_miss _ _ 2 0 (by decide) (by decide) _ _ _ d q).trans ?_
    refine (mask_miss _ _ 1 0 (by decide) (by decide) _ _ _ d q).trans ?_
    refine (mask_hit _ _ 0 (by decide) _ _ _ d q).trans ?_
    rfl
  | 1 =>
    refine (mask_miss _ _ 7 1 (by decide) (by decide) _ _ _ d q).trans ?_
    refine (mask_miss _ _ 6 1 (by decide) (by decide) _ _ _ d q).trans ?_
    refine (mask_miss _ _ 5 1 (by decide) (by decide) _ _ _ d q).trans ?_
    refine (mask_miss _ _ 4 1 (by decide) (by decide) _ _ _ d q).trans ?_
    refine (mask_miss _ _ 3 1 (by decide) (by decide) _ _ _ d q).trans ?_
    refine (mask_miss _ _ 2 1 (by decide) (by decide) _ _ _ d q).trans ?_
    refine (mask_hit _ _ 1 (by decide) _ _ _ d q).trans ?_
    rfl
  | 2 =>
    refine (mask_miss _ _ 7 2 (by decide) (by decide) _ _ _ d q).trans ?_
    refine (mask_miss _ _ 6 2 (by decide) (by decide) _ _ _ d q).trans ?_
    refine (mask_miss _ _ 5 2 (by decide) (by decide) _ _ _ d q).trans ?_
    refine (mask_miss _ _ 4 2 (by decide) (by decide) _ _ _ d q).trans ?_
    refine (mask_miss _ _ 3 2 (by decide) (by decide) _ _ _ d q).trans ?_
    refine (mask_hit _ _ 2 (by decide) _ _ _ d q).trans ?_
    rfl
  | 3 =>
    refine (mask_miss _ _ 7 3 (by decide) (by decide) _ _ _ d q).trans ?_
    refine (mask_miss _ _ 6 3 (by decide) (by decide) _ _ _ d q).trans ?_
    refine (mask_miss _ _ 5 3 (by decide) (by decide) _ _ _ d q).trans ?_
    refine (mask_miss _ _ 4 3 (by decide) (by decide) _ _ _ d q).trans ?_
    refine (mask_hit _ _ 3 (by decide) _ _ _ d q).trans ?_
    rfl
  | 4 =>
    refine (mask_miss _ _ 7 4 (by decide) (by decide) _ _ _ d q).trans ?_
    refine (mask_miss _ _ 6 4 (by decide) (by decide) _ _ _ d q).trans ?_
    refine (mask_miss _ _ 5 4 (by decide) (by decide) _ _ _ d q).trans ?_
    refine (mask_hit _ _ 4 (by decide) _ _ _ d q).trans ?_
    rfl
  | 5 =>
    refine (mask_miss _ _ 7 5 (by decide) (by decide) _ _ _ d q).trans ?_
    refine (mask_miss _ _ 6 5 (by decide) (by decide) _ _ _ d q).trans ?_
    refine (mask_hit _ _ 5 (by decide) _ _ _ d q).trans ?_
    rfl
  | 6 =>
    refine (mask_miss _ _ 7 6 (by decide) (by decide) _ _ _ d q).trans ?_
    refine (mask_hit _ _ 6 (by decide) _ _ _ d q).trans ?_
    rfl
  | 7 =>
    refine (mask_hit _ _ 7 (by decide) _ _ _ d q).trans ?_
    rfl

end Cert.KernelIdeal.Step

end
-- ==== Proof.RowsA1.lean ====
/- What a point at the first block of keys leaves in one of the kernel's tables, map by map. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32)

/-- The maximum of each map after the point. -/
theorem soutA1 (h : Fin 12) (q : Fin 512) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 (ix2 (n0 := 16) (n1 := 512) ⟨h.val, by omega⟩ q)
      = (mS (S x1 x3 x4 x6 x7 (M x0) h) (R (k0_pay2 (F := Ideal)) h)) (ix2 0 q) := by
  frame_open
  simp (disch := decide) only [↓ View.readCov_skip, ↓ View.readCov_cons_toLoadRect, ↓ View.readCov_fill]
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsA2.lean ====
/- What a point at the first block of keys leaves in one of the kernel's tables, map by map. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32)

/-- The sum of each map after the point. -/
theorem soutA2 (h : Fin 12) (q : Fin 512) :
    sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 (ix2 (n0 := 16) (n1 := 512) ⟨h.val, by omega⟩ q)
      = (lF (S x1 x3 x4 x6 x7 (M x0) h) (R (k0_pay2 (F := Ideal)) h) (R (k0_pay3 (F := Ideal)) h)) (ix2 0 q) := by
  frame_open
  simp (disch := decide) only [↓ View.readCov_skip, ↓ View.readCov_cons_toLoadRect, ↓ View.readCov_fill]
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsA3.lean ====
/- What a point at the first block of keys leaves in one of the kernel's tables, map by map. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32)

/-- The weighted sum of each map after the point. -/
theorem soutA3 (h : Fin 12) (d : Fin 64) (q : Fin 512) :
    sout0_A_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 (ix3 (n0 := 12) (n1 := 64) (n2 := 512) h d q)
      = (aF (S x1 x3 x4 x6 x7 (M x0) h) (R (k0_pay2 (F := Ideal)) h) (W x2 x5 h) (A (k0_pay4 (F := Ideal)) h)) (ix3 0 d q) := by
  frame_open
  simp (disch := decide) only [↓ View.readCov_skip, ↓ View.readCov_cons_toLoadRect, ↓ View.readCov_fill]
  simp only [readAt_unread_sub]
  match h with
  | 0 =>
    refine (slab_miss _ _ 11 0 (by decide) (by decide) _ _ _ d q).trans ?_
    refine (slab_miss _ _ 10 0 (by decide) (by decide) _ _ _ d q).trans ?_
    refine (slab_miss _ _ 9 0 (by decide) (by decide) _ _ _ d q).trans ?_
    refine (slab_miss _ _ 8 0 (by decide) (by decide) _ _ _ d q).trans ?_
    refine (slab_miss _ _ 7 0 (by decide) (by decide) _ _ _ d q).trans ?_
    refine (slab_miss _ _ 6 0 (by decide) (by decide) _ _ _ d q).trans ?_
    refine (slab_miss _ _ 5 0 (by decide) (by decide) _ _ _ d q).trans ?_
    refine (slab_miss _ _ 4 0 (by decide) (by decide) _ _ _ d q).trans ?_
    refine (slab_miss _ _ 3 0 (by decide) (by decide) _ _ _ d q).trans ?_
    refine (slab_miss _ _ 2 0 (by decide) (by decide) _ _ _ d q).trans ?_
    refine (slab_miss _ _ 1 0 (by decide) (by decide) _ _ _ d q).trans ?_
    refine (slab_hit _ _ 0 (by decide) _ _ _ d q).trans ?_
    rfl
  | 1 =>
    refine (slab_miss _ _ 11 1 (by decide) (by decide) _ _ _ d q).trans ?_
    refine (slab_miss _ _ 10 1 (by decide) (by decide) _ _ _ d q).trans ?_
    refine (slab_miss _ _ 9 1 (by decide) (by decide) _ _ _ d q).trans ?_
    refine (slab_miss _ _ 8 1 (by decide) (by decide) _ _ _ d q).trans ?_
    refine (slab_miss _ _ 7 1 (by decide) (by decide) _ _ _ d q).trans ?_
    refine (slab_miss _ _ 6 1 (by decide) (by decide) _ _ _ d q).trans ?_
    refine (slab_miss _ _ 5 1 (by decide) (by decide) _ _ _ d q).trans ?_
    refine (slab_miss _ _ 4 1 (by decide) (by decide) _ _ _ d q).trans ?_
    refine (slab_miss _ _ 3 1 (by decide) (by decide) _ _ _ d q).trans ?_
    refine (slab_miss _ _ 2 1 (by decide) (by decide) _ _ _ d q).trans ?_
    refine (slab_hit _ _ 1 (by decide) _ _ _ d q).trans ?_
    rfl
  | 2 =>
    refine (slab_miss _ _ 11 2 (by decide) (by decide) _ _ _ d q).trans ?_
    refine (slab_miss _ _ 10 2 (by decide) (by decide) _ _ _ d q).trans ?_
    refine (slab_miss _ _ 9 2 (by decide) (by decide) _ _ _ d q).trans ?_
    refine (slab_miss _ _ 8 2 (by decide) (by decide) _ _ _ d q).trans ?_
    refine (slab_miss _ _ 7 2 (by decide) (by decide) _ _ _ d q).trans ?_
    refine (slab_miss _ _ 6 2 (by decide) (by decide) _ _ _ d q).trans ?_
    refine (slab_miss _ _ 5 2 (by decide) (by decide) _ _ _ d q).trans ?_
    refine (slab_miss _ _ 4 2 (by decide) (by decide) _ _ _ d q).trans ?_
    refine (slab_miss _ _ 3 2 (by decide) (by decide) _ _ _ d q).trans ?_
    refine (slab_hit _ _ 2 (by decide) _ _ _ d q).trans ?_
    rfl
  | 3 =>
    refine (slab_miss _ _ 11 3 (by decide) (by decide) _ _ _ d q).trans ?_
    refine (slab_miss _ _ 10 3 (by decide) (by decide) _ _ _ d q).trans ?_
    refine (slab_miss _ _ 9 3 (by decide) (by decide) _ _ _ d q).trans ?_
    refine (slab_miss _ _ 8 3 (by decide) (by decide) _ _ _ d q).trans ?_
    refine (slab_miss _ _ 7 3 (by decide) (by decide) _ _ _ d q).trans ?_
    refine (slab_miss _ _ 6 3 (by decide) (by decide) _ _ _ d q).trans ?_
    refine (slab_miss _ _ 5 3 (by decide) (by decide) _ _ _ d q).trans ?_
    refine (slab_miss _ _ 4 3 (by decide) (by decide) _ _ _ d q).trans ?_
    refine (slab_hit _ _ 3 (by decide) _ _ _ d q).trans ?_
    rfl
  | 4 =>
    refine (slab_miss _ _ 11 4 (by decide) (by decide) _ _ _ d q).trans ?_
    refine (slab_miss _ _ 10 4 (by decide) (by decide) _ _ _ d q).trans ?_
    refine (slab_miss _ _ 9 4 (by decide) (by decide) _ _ _ d q).trans ?_
    refine (slab_miss _ _ 8 4 (by decide) (by decide) _ _ _ d q).trans ?_
    refine (slab_miss _ _ 7 4 (by decide) (by decide) _ _ _ d q).trans ?_
    refine (slab_miss _ _ 6 4 (by decide) (by decide) _ _ _ d q).trans ?_
    refine (slab_miss _ _ 5 4 (by decide) (by decide) _ _ _ d q).trans ?_
    refine (slab_hit _ _ 4 (by decide) _ _ _ d q).trans ?_
    rfl
  | 5 =>
    refine (slab_miss _ _ 11 5 (by decide) (by decide) _ _ _ d q).trans ?_
    refine (slab_miss _ _ 10 5 (by decide) (by decide) _ _ _ d q).trans ?_
    refine (slab_miss _ _ 9 5 (by decide) (by decide) _ _ _ d q).trans ?_
    refine (slab_miss _ _ 8 5 (by decide) (by decide) _ _ _ d q).trans ?_
    refine (slab_miss _ _ 7 5 (by decide) (by decide) _ _ _ d q).trans ?_
    refine (slab_miss _ _ 6 5 (by decide) (by decide) _ _ _ d q).trans ?_
    refine (slab_hit _ _ 5 (by decide) _ _ _ d q).trans ?_
    rfl
  | 6 =>
    refine (slab_miss _ _ 11 6 (by decide) (by decide) _ _ _ d q).trans ?_
    refine (slab_miss _ _ 10 6 (by decide) (by decide) _ _ _ d q).trans ?_
    refine (slab_miss _ _ 9 6 (by decide) (by decide) _ _ _ d q).trans ?_
    refine (slab_miss _ _ 8 6 (by decide) (by decide) _ _ _ d q).trans ?_
    refine (slab_miss _ _ 7 6 (by decide) (by decide) _ _ _ d q).trans ?_
    refine (slab_hit _ _ 6 (by decide) _ _ _ d q).trans ?_
    rfl
  | 7 =>
    refine (slab_miss _ _ 11 7 (by decide) (by decide) _ _ _ d q).trans ?_
    refine (slab_miss _ _ 10 7 (by decide) (by decide) _ _ _ d q).trans ?_
    refine (slab_miss _ _ 9 7 (by decide) (by decide) _ _ _ d q).trans ?_
    refine (slab_miss _ _ 8 7 (by decide) (by decide) _ _ _ d q).trans ?_
    refine (slab_hit _ _ 7 (by decide) _ _ _ d q).trans ?_
    rfl
  | 8 =>
    refine (slab_miss _ _ 11 8 (by decide) (by decide) _ _ _ d q).trans ?_
    refine (slab_miss _ _ 10 8 (by decide) (by decide) _ _ _ d q).trans ?_
    refine (slab_miss _ _ 9 8 (by decide) (by decide) _ _ _ d q).trans ?_
    refine (slab_hit _ _ 8 (by decide) _ _ _ d q).trans ?_
    rfl
  | 9 =>
    refine (slab_miss _ _ 11 9 (by decide) (by decide) _ _ _ d q).trans ?_
    refine (slab_miss _ _ 10 9 (by decide) (by decide) _ _ _ d q).trans ?_
    refine (slab_hit _ _ 9 (by decide) _ _ _ d q).trans ?_
    rfl
  | 10 =>
    refine (slab_miss _ _ 11 10 (by decide) (by decide) _ _ _ d q).trans ?_
    refine (slab_hit _ _ 10 (by decide) _ _ _ d q).trans ?_
    rfl
  | 11 =>
    refine (slab_hit _ _ 11 (by decide) _ _ _ d q).trans ?_
    rfl

end Cert.KernelIdeal.Step

end
-- ==== Proof.RowsB1.lean ====
/- What a point at neither the first nor the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running maximum of each map after the point. -/
theorem soutB1 (h : Fin 12) (q : Fin 512) :
    sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix2 (n0 := 16) (n1 := 512) ⟨h.val, by omega⟩ q)
      = (mS (S x1 x3 x4 x6 x7 (Q xs0) h) (R xs1 h)) (ix2 0 q) := by
  frame_open
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsB2.lean ====
/- What a point at neither the first nor the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running sum of each map after the point. -/
theorem soutB2 (h : Fin 12) (q : Fin 512) :
    sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix2 (n0 := 16) (n1 := 512) ⟨h.val, by omega⟩ q)
      = (lF (S x1 x3 x4 x6 x7 (Q xs0) h) (R xs1 h) (R xs2 h)) (ix2 0 q) := by
  frame_open
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsB3.lean ====
/- What a point at neither the first nor the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : ¬cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running weighted sum of each map after the point. -/
theorem soutB3 (h : Fin 12) (d : Fin 64) (q : Fin 512) :
    sout0_B_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix3 (n0 := 12) (n1 := 64) (n2 := 512) h d q)
      = (aF (S x1 x3 x4 x6 x7 (Q xs0) h) (R xs1 h) (W x2 x5 h) (A xs3 h)) (ix3 0 d q) := by
  frame_open
  simp only [readAt_unread_sub]
  match h with
  | 0 =>
    refine (slab_miss _ _ 11 0 (by decide) (by decide) _ _ _ d q).trans ?_
    refine (slab_miss _ _ 10 0 (by decide) (by decide) _ _ _ d q).trans ?_
    refine (slab_miss _ _ 9 0 (by decide) (by decide) _ _ _ d q).trans ?_
    refine (slab_miss _ _ 8 0 (by decide) (by decide) _ _ _ d q).trans ?_
    refine (slab_miss _ _ 7 0 (by decide) (by decide) _ _ _ d q).trans ?_
    refine (slab_miss _ _ 6 0 (by decide) (by decide) _ _ _ d q).trans ?_
    refine (slab_miss _ _ 5 0 (by decide) (by decide) _ _ _ d q).trans ?_
    refine (slab_miss _ _ 4 0 (by decide) (by decide) _ _ _ d q).trans ?_
    refine (slab_miss _ _ 3 0 (by decide) (by decide) _ _ _ d q).trans ?_
    refine (slab_miss _ _ 2 0 (by decide) (by decide) _ _ _ d q).trans ?_
    refine (slab_miss _ _ 1 0 (by decide) (by decide) _ _ _ d q).trans ?_
    refine (slab_hit _ _ 0 (by decide) _ _ _ d q).trans ?_
    rfl
  | 1 =>
    refine (slab_miss _ _ 11 1 (by decide) (by decide) _ _ _ d q).trans ?_
    refine (slab_miss _ _ 10 1 (by decide) (by decide) _ _ _ d q).trans ?_
    refine (slab_miss _ _ 9 1 (by decide) (by decide) _ _ _ d q).trans ?_
    refine (slab_miss _ _ 8 1 (by decide) (by decide) _ _ _ d q).trans ?_
    refine (slab_miss _ _ 7 1 (by decide) (by decide) _ _ _ d q).trans ?_
    refine (slab_miss _ _ 6 1 (by decide) (by decide) _ _ _ d q).trans ?_
    refine (slab_miss _ _ 5 1 (by decide) (by decide) _ _ _ d q).trans ?_
    refine (slab_miss _ _ 4 1 (by decide) (by decide) _ _ _ d q).trans ?_
    refine (slab_miss _ _ 3 1 (by decide) (by decide) _ _ _ d q).trans ?_
    refine (slab_miss _ _ 2 1 (by decide) (by decide) _ _ _ d q).trans ?_
    refine (slab_hit _ _ 1 (by decide) _ _ _ d q).trans ?_
    rfl
  | 2 =>
    refine (slab_miss _ _ 11 2 (by decide) (by decide) _ _ _ d q).trans ?_
    refine (slab_miss _ _ 10 2 (by decide) (by decide) _ _ _ d q).trans ?_
    refine (slab_miss _ _ 9 2 (by decide) (by decide) _ _ _ d q).trans ?_
    refine (slab_miss _ _ 8 2 (by decide) (by decide) _ _ _ d q).trans ?_
    refine (slab_miss _ _ 7 2 (by decide) (by decide) _ _ _ d q).trans ?_
    refine (slab_miss _ _ 6 2 (by decide) (by decide) _ _ _ d q).trans ?_
    refine (slab_miss _ _ 5 2 (by decide) (by decide) _ _ _ d q).trans ?_
    refine (slab_miss _ _ 4 2 (by decide) (by decide) _ _ _ d q).trans ?_
    refine (slab_miss _ _ 3 2 (by decide) (by decide) _ _ _ d q).trans ?_
    refine (slab_hit _ _ 2 (by decide) _ _ _ d q).trans ?_
    rfl
  | 3 =>
    refine (slab_miss _ _ 11 3 (by decide) (by decide) _ _ _ d q).trans ?_
    refine (slab_miss _ _ 10 3 (by decide) (by decide) _ _ _ d q).trans ?_
    refine (slab_miss _ _ 9 3 (by decide) (by decide) _ _ _ d q).trans ?_
    refine (slab_miss _ _ 8 3 (by decide) (by decide) _ _ _ d q).trans ?_
    refine (slab_miss _ _ 7 3 (by decide) (by decide) _ _ _ d q).trans ?_
    refine (slab_miss _ _ 6 3 (by decide) (by decide) _ _ _ d q).trans ?_
    refine (slab_miss _ _ 5 3 (by decide) (by decide) _ _ _ d q).trans ?_
    refine (slab_miss _ _ 4 3 (by decide) (by decide) _ _ _ d q).trans ?_
    refine (slab_hit _ _ 3 (by decide) _ _ _ d q).trans ?_
    rfl
  | 4 =>
    refine (slab_miss _ _ 11 4 (by decide) (by decide) _ _ _ d q).trans ?_
    refine (slab_miss _ _ 10 4 (by decide) (by decide) _ _ _ d q).trans ?_
    refine (slab_miss _ _ 9 4 (by decide) (by decide) _ _ _ d q).trans ?_
    refine (slab_miss _ _ 8 4 (by decide) (by decide) _ _ _ d q).trans ?_
    refine (slab_miss _ _ 7 4 (by decide) (by decide) _ _ _ d q).trans ?_
    refine (slab_miss _ _ 6 4 (by decide) (by decide) _ _ _ d q).trans ?_
    refine (slab_miss _ _ 5 4 (by decide) (by decide) _ _ _ d q).trans ?_
    refine (slab_hit _ _ 4 (by decide) _ _ _ d q).trans ?_
    rfl
  | 5 =>
    refine (slab_miss _ _ 11 5 (by decide) (by decide) _ _ _ d q).trans ?_
    refine (slab_miss _ _ 10 5 (by decide) (by decide) _ _ _ d q).trans ?_
    refine (slab_miss _ _ 9 5 (by decide) (by decide) _ _ _ d q).trans ?_
    refine (slab_miss _ _ 8 5 (by decide) (by decide) _ _ _ d q).trans ?_
    refine (slab_miss _ _ 7 5 (by decide) (by decide) _ _ _ d q).trans ?_
    refine (slab_miss _ _ 6 5 (by decide) (by decide) _ _ _ d q).trans ?_
    refine (slab_hit _ _ 5 (by decide) _ _ _ d q).trans ?_
    rfl
  | 6 =>
    refine (slab_miss _ _ 11 6 (by decide) (by decide) _ _ _ d q).trans ?_
    refine (slab_miss _ _ 10 6 (by decide) (by decide) _ _ _ d q).trans ?_
    refine (slab_miss _ _ 9 6 (by decide) (by decide) _ _ _ d q).trans ?_
    refine (slab_miss _ _ 8 6 (by decide) (by decide) _ _ _ d q).trans ?_
    refine (slab_miss _ _ 7 6 (by decide) (by decide) _ _ _ d q).trans ?_
    refine (slab_hit _ _ 6 (by decide) _ _ _ d q).trans ?_
    rfl
  | 7 =>
    refine (slab_miss _ _ 11 7 (by decide) (by decide) _ _ _ d q).trans ?_
    refine (slab_miss _ _ 10 7 (by decide) (by decide) _ _ _ d q).trans ?_
    refine (slab_miss _ _ 9 7 (by decide) (by decide) _ _ _ d q).trans ?_
    refine (slab_miss _ _ 8 7 (by decide) (by decide) _ _ _ d q).trans ?_
    refine (slab_hit _ _ 7 (by decide) _ _ _ d q).trans ?_
    rfl
  | 8 =>
    refine (slab_miss _ _ 11 8 (by decide) (by decide) _ _ _ d q).trans ?_
    refine (slab_miss _ _ 10 8 (by decide) (by decide) _ _ _ d q).trans ?_
    refine (slab_miss _ _ 9 8 (by decide) (by decide) _ _ _ d q).trans ?_
    refine (slab_hit _ _ 8 (by decide) _ _ _ d q).trans ?_
    rfl
  | 9 =>
    refine (slab_miss _ _ 11 9 (by decide) (by decide) _ _ _ d q).trans ?_
    refine (slab_miss _ _ 10 9 (by decide) (by decide) _ _ _ d q).trans ?_
    refine (slab_hit _ _ 9 (by decide) _ _ _ d q).trans ?_
    rfl
  | 10 =>
    refine (slab_miss _ _ 11 10 (by decide) (by decide) _ _ _ d q).trans ?_
    refine (slab_hit _ _ 10 (by decide) _ _ _ d q).trans ?_
    rfl
  | 11 =>
    refine (slab_hit _ _ 11 (by decide) _ _ _ d q).trans ?_
    rfl

end Cert.KernelIdeal.Step

end
-- ==== Proof.RowsC1.lean ====
/- What a point at the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running maximum of each map after the point. -/
theorem soutC1 (h : Fin 12) (q : Fin 512) :
    sout0_C_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix2 (n0 := 16) (n1 := 512) ⟨h.val, by omega⟩ q)
      = (mS (S x1 x3 x4 x6 x7 (Q xs0) h) (R xs1 h)) (ix2 0 q) := by
  frame_open
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsC2.lean ====
/- What a point at the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running sum of each map after the point. -/
theorem soutC2 (h : Fin 12) (q : Fin 512) :
    sout0_C_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix2 (n0 := 16) (n1 := 512) ⟨h.val, by omega⟩ q)
      = (lF (S x1 x3 x4 x6 x7 (Q xs0) h) (R xs1 h) (R xs2 h)) (ix2 0 q) := by
  frame_open
  simp only [readAt_unread_sub]
  match h with
  | 0 =>
    refine (row_miss _ _ 11 0 (by decide) (by decide) _ _ _ q).trans ?_
    refine (row_miss _ _ 10 0 (by decide) (by decide) _ _ _ q).trans ?_
    refine (row_miss _ _ 9 0 (by decide) (by decide) _ _ _ q).trans ?_
    refine (row_miss _ _ 8 0 (by decide) (by decide) _ _ _ q).trans ?_
    refine (row_miss _ _ 7 0 (by decide) (by decide) _ _ _ q).trans ?_
    refine (row_miss _ _ 6 0 (by decide) (by decide) _ _ _ q).trans ?_
    refine (row_miss _ _ 5 0 (by decide) (by decide) _ _ _ q).trans ?_
    refine (row_miss _ _ 4 0 (by decide) (by decide) _ _ _ q).trans ?_
    refine (row_miss _ _ 3 0 (by decide) (by decide) _ _ _ q).trans ?_
    refine (row_miss _ _ 2 0 (by decide) (by decide) _ _ _ q).trans ?_
    refine (row_miss _ _ 1 0 (by decide) (by decide) _ _ _ q).trans ?_
    refine (row_hit _ _ 0 (by decide) _ _ _ q).trans ?_
    rfl
  | 1 =>
    refine (row_miss _ _ 11 1 (by decide) (by decide) _ _ _ q).trans ?_
    refine (row_miss _ _ 10 1 (by decide) (by decide) _ _ _ q).trans ?_
    refine (row_miss _ _ 9 1 (by decide) (by decide) _ _ _ q).trans ?_
    refine (row_miss _ _ 8 1 (by decide) (by decide) _ _ _ q).trans ?_
    refine (row_miss _ _ 7 1 (by decide) (by decide) _ _ _ q).trans ?_
    refine (row_miss _ _ 6 1 (by decide) (by decide) _ _ _ q).trans ?_
    refine (row_miss _ _ 5 1 (by decide) (by decide) _ _ _ q).trans ?_
    refine (row_miss _ _ 4 1 (by decide) (by decide) _ _ _ q).trans ?_
    refine (row_miss _ _ 3 1 (by decide) (by decide) _ _ _ q).trans ?_
    refine (row_miss _ _ 2 1 (by decide) (by decide) _ _ _ q).trans ?_
    refine (row_hit _ _ 1 (by decide) _ _ _ q).trans ?_
    rfl
  | 2 =>
    refine (row_miss _ _ 11 2 (by decide) (by decide) _ _ _ q).trans ?_
    refine (row_miss _ _ 10 2 (by decide) (by decide) _ _ _ q).trans ?_
    refine (row_miss _ _ 9 2 (by decide) (by decide) _ _ _ q).trans ?_
    refine (row_miss _ _ 8 2 (by decide) (by decide) _ _ _ q).trans ?_
    refine (row_miss _ _ 7 2 (by decide) (by decide) _ _ _ q).trans ?_
    refine (row_miss _ _ 6 2 (by decide) (by decide) _ _ _ q).trans ?_
    refine (row_miss _ _ 5 2 (by decide) (by decide) _ _ _ q).trans ?_
    refine (row_miss _ _ 4 2 (by decide) (by decide) _ _ _ q).trans ?_
    refine (row_miss _ _ 3 2 (by decide) (by decide) _ _ _ q).trans ?_
    refine (row_hit _ _ 2 (by decide) _ _ _ q).trans ?_
    rfl
  | 3 =>
    refine (row_miss _ _ 11 3 (by decide) (by decide) _ _ _ q).trans ?_
    refine (row_miss _ _ 10 3 (by decide) (by decide) _ _ _ q).trans ?_
    refine (row_miss _ _ 9 3 (by decide) (by decide) _ _ _ q).trans ?_
    refine (row_miss _ _ 8 3 (by decide) (by decide) _ _ _ q).trans ?_
    refine (row_miss _ _ 7 3 (by decide) (by decide) _ _ _ q).trans ?_
    refine (row_miss _ _ 6 3 (by decide) (by decide) _ _ _ q).trans ?_
    refine (row_miss _ _ 5 3 (by decide) (by decide) _ _ _ q).trans ?_
    refine (row_miss _ _ 4 3 (by decide) (by decide) _ _ _ q).trans ?_
    refine (row_hit _ _ 3 (by decide) _ _ _ q).trans ?_
    rfl
  | 4 =>
    refine (row_miss _ _ 11 4 (by decide) (by decide) _ _ _ q).trans ?_
    refine (row_miss _ _ 10 4 (by decide) (by decide) _ _ _ q).trans ?_
    refine (row_miss _ _ 9 4 (by decide) (by decide) _ _ _ q).trans ?_
    refine (row_miss _ _ 8 4 (by decide) (by decide) _ _ _ q).trans ?_
    refine (row_miss _ _ 7 4 (by decide) (by decide) _ _ _ q).trans ?_
    refine (row_miss _ _ 6 4 (by decide) (by decide) _ _ _ q).trans ?_
    refine (row_miss _ _ 5 4 (by decide) (by decide) _ _ _ q).trans ?_
    refine (row_hit _ _ 4 (by decide) _ _ _ q).trans ?_
    rfl
  | 5 =>
    refine (row_miss _ _ 11 5 (by decide) (by decide) _ _ _ q).trans ?_
    refine (row_miss _ _ 10 5 (by decide) (by decide) _ _ _ q).trans ?_
    refine (row_miss _ _ 9 5 (by decide) (by decide) _ _ _ q).trans ?_
    refine (row_miss _ _ 8 5 (by decide) (by decide) _ _ _ q).trans ?_
    refine (row_miss _ _ 7 5 (by decide) (by decide) _ _ _ q).trans ?_
    refine (row_miss _ _ 6 5 (by decide) (by decide) _ _ _ q).trans ?_
    refine (row_hit _ _ 5 (by decide) _ _ _ q).trans ?_
    rfl
  | 6 =>
    refine (row_miss _ _ 11 6 (by decide) (by decide) _ _ _ q).trans ?_
    refine (row_miss _ _ 10 6 (by decide) (by decide) _ _ _ q).trans ?_
    refine (row_miss _ _ 9 6 (by decide) (by decide) _ _ _ q).trans ?_
    refine (row_miss _ _ 8 6 (by decide) (by decide) _ _ _ q).trans ?_
    refine (row_miss _ _ 7 6 (by decide) (by decide) _ _ _ q).trans ?_
    refine (row_hit _ _ 6 (by decide) _ _ _ q).trans ?_
    rfl
  | 7 =>
    refine (row_miss _ _ 11 7 (by decide) (by decide) _ _ _ q).trans ?_
    refine (row_miss _ _ 10 7 (by decide) (by decide) _ _ _ q).trans ?_
    refine (row_miss _ _ 9 7 (by decide) (by decide) _ _ _ q).trans ?_
    refine (row_miss _ _ 8 7 (by decide) (by decide) _ _ _ q).trans ?_
    refine (row_hit _ _ 7 (by decide) _ _ _ q).trans ?_
    rfl
  | 8 =>
    refine (row_miss _ _ 11 8 (by decide) (by decide) _ _ _ q).trans ?_
    refine (row_miss _ _ 10 8 (by decide) (by decide) _ _ _ q).trans ?_
    refine (row_miss _ _ 9 8 (by decide) (by decide) _ _ _ q).trans ?_
    refine (row_hit _ _ 8 (by decide) _ _ _ q).trans ?_
    rfl
  | 9 =>
    refine (row_miss _ _ 11 9 (by decide) (by decide) _ _ _ q).trans ?_
    refine (row_miss _ _ 10 9 (by decide) (by decide) _ _ _ q).trans ?_
    refine (row_hit _ _ 9 (by decide) _ _ _ q).trans ?_
    rfl
  | 10 =>
    refine (row_miss _ _ 11 10 (by decide) (by decide) _ _ _ q).trans ?_
    refine (row_hit _ _ 10 (by decide) _ _ _ q).trans ?_
    rfl
  | 11 =>
    refine (row_hit _ _ 11 (by decide) _ _ _ q).trans ?_
    rfl

end Cert.KernelIdeal.Step

end
-- ==== Proof.RowsC3.lean ====
/- What a point at the last block of keys leaves in the kernel's three tables, map by map: one step of the recurrence from what was there. -/
module

public import proofs.«01_k».proof.Proof.Gen.KernelIdeal.Frame
public import proofs.«01_k».proof.Proof.Step
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The running weighted sum of each map after the point. -/
theorem soutC3 (h : Fin 12) (d : Fin 64) (q : Fin 512) :
    sout0_C_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 (ix3 (n0 := 12) (n1 := 64) (n2 := 512) h d q)
      = (aF (S x1 x3 x4 x6 x7 (Q xs0) h) (R xs1 h) (W x2 x5 h) (A xs3 h)) (ix3 0 d q) := by
  frame_open
  simp only [readAt_unread_sub]
  match h with
  | 0 =>
    refine (slab_miss _ _ 11 0 (by decide) (by decide) _ _ _ d q).trans ?_
    refine (slab_miss _ _ 10 0 (by decide) (by decide) _ _ _ d q).trans ?_
    refine (slab_miss _ _ 9 0 (by decide) (by decide) _ _ _ d q).trans ?_
    refine (slab_miss _ _ 8 0 (by decide) (by decide) _ _ _ d q).trans ?_
    refine (slab_miss _ _ 7 0 (by decide) (by decide) _ _ _ d q).trans ?_
    refine (slab_miss _ _ 6 0 (by decide) (by decide) _ _ _ d q).trans ?_
    refine (slab_miss _ _ 5 0 (by decide) (by decide) _ _ _ d q).trans ?_
    refine (slab_miss _ _ 4 0 (by decide) (by decide) _ _ _ d q).trans ?_
    refine (slab_miss _ _ 3 0 (by decide) (by decide) _ _ _ d q).trans ?_
    refine (slab_miss _ _ 2 0 (by decide) (by decide) _ _ _ d q).trans ?_
    refine (slab_miss _ _ 1 0 (by decide) (by decide) _ _ _ d q).trans ?_
    refine (slab_hit _ _ 0 (by decide) _ _ _ d q).trans ?_
    rfl
  | 1 =>
    refine (slab_miss _ _ 11 1 (by decide) (by decide) _ _ _ d q).trans ?_
    refine (slab_miss _ _ 10 1 (by decide) (by decide) _ _ _ d q).trans ?_
    refine (slab_miss _ _ 9 1 (by decide) (by decide) _ _ _ d q).trans ?_
    refine (slab_miss _ _ 8 1 (by decide) (by decide) _ _ _ d q).trans ?_
    refine (slab_miss _ _ 7 1 (by decide) (by decide) _ _ _ d q).trans ?_
    refine (slab_miss _ _ 6 1 (by decide) (by decide) _ _ _ d q).trans ?_
    refine (slab_miss _ _ 5 1 (by decide) (by decide) _ _ _ d q).trans ?_
    refine (slab_miss _ _ 4 1 (by decide) (by decide) _ _ _ d q).trans ?_
    refine (slab_miss _ _ 3 1 (by decide) (by decide) _ _ _ d q).trans ?_
    refine (slab_miss _ _ 2 1 (by decide) (by decide) _ _ _ d q).trans ?_
    refine (slab_hit _ _ 1 (by decide) _ _ _ d q).trans ?_
    rfl
  | 2 =>
    refine (slab_miss _ _ 11 2 (by decide) (by decide) _ _ _ d q).trans ?_
    refine (slab_miss _ _ 10 2 (by decide) (by decide) _ _ _ d q).trans ?_
    refine (slab_miss _ _ 9 2 (by decide) (by decide) _ _ _ d q).trans ?_
    refine (slab_miss _ _ 8 2 (by decide) (by decide) _ _ _ d q).trans ?_
    refine (slab_miss _ _ 7 2 (by decide) (by decide) _ _ _ d q).trans ?_
    refine (slab_miss _ _ 6 2 (by decide) (by decide) _ _ _ d q).trans ?_
    refine (slab_miss _ _ 5 2 (by decide) (by decide) _ _ _ d q).trans ?_
    refine (slab_miss _ _ 4 2 (by decide) (by decide) _ _ _ d q).trans ?_
    refine (slab_miss _ _ 3 2 (by decide) (by decide) _ _ _ d q).trans ?_
    refine (slab_hit _ _ 2 (by decide) _ _ _ d q).trans ?_
    rfl
  | 3 =>
    refine (slab_miss _ _ 11 3 (by decide) (by decide) _ _ _ d q).trans ?_
    refine (slab_miss _ _ 10 3 (by decide) (by decide) _ _ _ d q).trans ?_
    refine (slab_miss _ _ 9 3 (by decide) (by decide) _ _ _ d q).trans ?_
    refine (slab_miss _ _ 8 3 (by decide) (by decide) _ _ _ d q).trans ?_
    refine (slab_miss _ _ 7 3 (by decide) (by decide) _ _ _ d q).trans ?_
    refine (slab_miss _ _ 6 3 (by decide) (by decide) _ _ _ d q).trans ?_
    refine (slab_miss _ _ 5 3 (by decide) (by decide) _ _ _ d q).trans ?_
    refine (slab_miss _ _ 4 3 (by decide) (by decide) _ _ _ d q).trans ?_
    refine (slab_hit _ _ 3 (by decide) _ _ _ d q).trans ?_
    rfl
  | 4 =>
    refine (slab_miss _ _ 11 4 (by decide) (by decide) _ _ _ d q).trans ?_
    refine (slab_miss _ _ 10 4 (by decide) (by decide) _ _ _ d q).trans ?_
    refine (slab_miss _ _ 9 4 (by decide) (by decide) _ _ _ d q).trans ?_
    refine (slab_miss _ _ 8 4 (by decide) (by decide) _ _ _ d q).trans ?_
    refine (slab_miss _ _ 7 4 (by decide) (by decide) _ _ _ d q).trans ?_
    refine (slab_miss _ _ 6 4 (by decide) (by decide) _ _ _ d q).trans ?_
    refine (slab_miss _ _ 5 4 (by decide) (by decide) _ _ _ d q).trans ?_
    refine (slab_hit _ _ 4 (by decide) _ _ _ d q).trans ?_
    rfl
  | 5 =>
    refine (slab_miss _ _ 11 5 (by decide) (by decide) _ _ _ d q).trans ?_
    refine (slab_miss _ _ 10 5 (by decide) (by decide) _ _ _ d q).trans ?_
    refine (slab_miss _ _ 9 5 (by decide) (by decide) _ _ _ d q).trans ?_
    refine (slab_miss _ _ 8 5 (by decide) (by decide) _ _ _ d q).trans ?_
    refine (slab_miss _ _ 7 5 (by decide) (by decide) _ _ _ d q).trans ?_
    refine (slab_miss _ _ 6 5 (by decide) (by decide) _ _ _ d q).trans ?_
    refine (slab_hit _ _ 5 (by decide) _ _ _ d q).trans ?_
    rfl
  | 6 =>
    refine (slab_miss _ _ 11 6 (by decide) (by decide) _ _ _ d q).trans ?_
    refine (slab_miss _ _ 10 6 (by decide) (by decide) _ _ _ d q).trans ?_
    refine (slab_miss _ _ 9 6 (by decide) (by decide) _ _ _ d q).trans ?_
    refine (slab_miss _ _ 8 6 (by decide) (by decide) _ _ _ d q).trans ?_
    refine (slab_miss _ _ 7 6 (by decide) (by decide) _ _ _ d q).trans ?_
    refine (slab_hit _ _ 6 (by decide) _ _ _ d q).trans ?_
    rfl
  | 7 =>
    refine (slab_miss _ _ 11 7 (by decide) (by decide) _ _ _ d q).trans ?_
    refine (slab_miss _ _ 10 7 (by decide) (by decide) _ _ _ d q).trans ?_
    refine (slab_miss _ _ 9 7 (by decide) (by decide) _ _ _ d q).trans ?_
    refine (slab_miss _ _ 8 7 (by decide) (by decide) _ _ _ d q).trans ?_
    refine (slab_hit _ _ 7 (by decide) _ _ _ d q).trans ?_
    rfl
  | 8 =>
    refine (slab_miss _ _ 11 8 (by decide) (by decide) _ _ _ d q).trans ?_
    refine (slab_miss _ _ 10 8 (by decide) (by decide) _ _ _ d q).trans ?_
    refine (slab_miss _ _ 9 8 (by decide) (by decide) _ _ _ d q).trans ?_
    refine (slab_hit _ _ 8 (by decide) _ _ _ d q).trans ?_
    rfl
  | 9 =>
    refine (slab_miss _ _ 11 9 (by decide) (by decide) _ _ _ d q).trans ?_
    refine (slab_miss _ _ 10 9 (by decide) (by decide) _ _ _ d q).trans ?_
    refine (slab_hit _ _ 9 (by decide) _ _ _ d q).trans ?_
    rfl
  | 10 =>
    refine (slab_miss _ _ 11 10 (by decide) (by decide) _ _ _ d q).trans ?_
    refine (slab_hit _ _ 10 (by decide) _ _ _ d q).trans ?_
    rfl
  | 11 =>
    refine (slab_hit _ _ 11 (by decide) _ _ _ d q).trans ?_
    rfl

end Cert.KernelIdeal.Step

end
-- ==== Proof.Inv.lean ====
/- The invariant of the kernel's tables: after a block of keys they hold the recurrence's state over all the keys so far. -/
module

public import proofs.«01_k».proof.Proof.Blocks
public import proofs.«01_k».proof.Proof.Gen.KernelIdeal.Value
public import proofs.«01_k».proof.Proof.RowsA0
public import proofs.«01_k».proof.Proof.RowsA1
public import proofs.«01_k».proof.Proof.RowsA2
public import proofs.«01_k».proof.Proof.RowsA3
public import proofs.«01_k».proof.Proof.RowsB1
public import proofs.«01_k».proof.Proof.RowsB2
public import proofs.«01_k».proof.Proof.RowsB3
public import proofs.«01_k».proof.Proof.RowsC1
public import proofs.«01_k».proof.Proof.RowsC2
public import proofs.«01_k».proof.Proof.RowsC3
import Idealize.ShloMosaic.Lib.Pipeline.ValueKit

@[expose] public section

set_option maxRecDepth 16384

noncomputable section

namespace Cert.KernelIdeal.Step

open Cert.KernelIdeal Cert.KernelIdeal.Gen Cert.KernelIdeal.Value Idealize.ShloMosaic Idealize.ShloMosaic.TcCoe Idealize.SL.Sem Cert.Spec Cert.Soft

variable (m : (ℓ : Loc nD τ sig) → Buf (Elt Ideal) ℓ) (c : Dev nD) (t : Fin cfg0.N)

/-- The blocks at a point. -/
theorem blkOk (hf : Real' m c) : Blk (a0 m c) (a1 m c) (a2 m c) (a3 m c) (a4 m c) (a5 m c) (a6 m c) (t.val / 1024) (512 * (t.val / 32 % 32)) (512 * (t.val % 32))
    (iblk m c 0 t) (iblk m c 1 t) (iblk m c 2 t) (iblk m c 3 t) (iblk m c 4 t) (iblk m c 5 t) (iblk m c 6 t) (iblk m c 7 t) where
  h0 ch q := (b0 m c t ch q).trans (at3_coe hf.f0 _ _ _)
  h1 k ch := (b1 m c t k ch).trans (at3_coe hf.f1 _ _ _)
  h2 ch k := (b2 m c t ch k).trans (at3_coe hf.f2 _ _ _)
  h3 ch q := (b3 m c t ch q).trans (at3_coe hf.f3 _ _ _)
  h4 k ch := (b4 m c t k ch).trans (at3_coe hf.f4 _ _ _)
  h5 ch k := (b5 m c t ch k).trans (at3_coe hf.f5 _ _ _)
  hp k q := by
    have ht := tlt t
    unfold gap
    rw [show Fin.ofNat 2 (t.val / 1024) = ⟨t.val / 1024, by omega⟩ from Fin.ext (Nat.mod_eq_of_lt (by omega)),
      show Fin.ofNat 16384 (512 * (t.val % 32) + k.val) = ⟨512 * (t.val % 32) + k.val, by omega⟩ from Fin.ext (Nat.mod_eq_of_lt (by omega)),
      show Fin.ofNat 16384 (512 * (t.val / 32 % 32) + q.val) = ⟨512 * (t.val / 32 % 32) + q.val, by omega⟩ from Fin.ext (Nat.mod_eq_of_lt (by omega))]
    exact congrArg₂ (fun x y => ((IntOp.absi (IntOp.subi x y)).toInt : ℝ)) (b7 m c t k) (b6 m c t q)

/-- What the kernel holds after a point: the two results' blocks and its four tables. -/
abbrev T : Type := Vec Ideal S1x512x256 .bf16 × Vec Ideal S1x512x256 .bf16 × Vec Ideal S8x128x512 .bf16 × Vec Ideal S16x512 .f32 × Vec Ideal S16x512 .f32 × Vec Ideal S12x64x512 .f32

/-- The recurrence's state of map `h` and query `q` after `n` keys. -/
abbrev RowOk (b qo n : ℕ) (h : Fin 12) (q : Fin 512) (M L : EReal) (A : Fin 64 → EReal) : Prop :=
  Row (score (a0 m c) (a1 m c) (a3 m c) (a4 m c) (a6 m c) h.val b (qo + q.val)) (fun d k => value (a2 m c) (a5 m c) h.val b d k) n M L A

/-- The tables after `n` keys. -/
def Inv (b qo n : ℕ) (st : T) : Prop :=
  QOk (a0 m c) b qo (Q st.2.2.1) ∧ ∀ (h : Fin 12) (q : Fin 512),
    RowOk m c b qo n h q (R st.2.2.2.1 h (ix2 0 q)) (R st.2.2.2.2.1 h (ix2 0 q)) (fun d => A st.2.2.2.2.2 h (ix3 0 d q))

variable {m c t}

theorem RowOk.congr {b qo n : ℕ} {h : Fin 12} {q : Fin 512} {M L M' L' : EReal} {A A' : Fin 64 → EReal} (H : RowOk m c b qo n h q M L A) (hM : M' = M) (hL : L' = L) (hA : ∀ d, A' d = A d) :
    RowOk m c b qo n h q M' L' A' := by
  obtain rfl : A' = A := funext hA
  subst hM hL
  exact H

/-- One block of keys is one step of the recurrence. -/
theorem step {b qo ko : ℕ} {x0 : Vec Ideal S1x256x512 .bf16} {x1 : Vec Ideal S1x512x256 .bf16} {x2 : Vec Ideal S1x256x512 .bf16} {x3 : Vec Ideal S1x512x512 .bf16} {x4 : Vec Ideal S1x512x512 .bf16} {x5 : Vec Ideal S1x256x512 .bf16}
    {x6 : Vec Ideal S1x1x512 .i32} {x7 : Vec Ideal S1x512x1 .i32} {w : Fin 8 → Vec Ideal S1x128x512 .bf16} (hB : Blk (a0 m c) (a1 m c) (a2 m c) (a3 m c) (a4 m c) (a5 m c) (a6 m c) b qo ko x0 x1 x2 x3 x4 x5 x6 x7)
    (hQ : QOk (a0 m c) b qo w) (h : Fin 12) (q : Fin 512) {mm l : Vec Ideal S1x512 .f32} {a : Vec Ideal S1x64x512 .f32}
    (H : RowOk m c b qo ko h q (mm (ix2 0 q)) (l (ix2 0 q)) (fun d => a (ix3 0 d q))) :
    RowOk m c b qo (ko + 512) h q (mS (S x1 x3 x4 x6 x7 w h) mm (ix2 0 q)) (lF (S x1 x3 x4 x6 x7 w h) mm l (ix2 0 q))
      (fun d => aF (S x1 x3 x4 x6 x7 w h) mm (W x2 x5 h) a (ix3 0 d q)) :=
  RowOk.congr (Row.step H (S := fun k : Fin 512 => S x1 x3 x4 x6 x7 w h (ix2 k q)) (fun k => S_ok hB hQ h k q) (W := fun d k => W x2 x5 h (ix3 0 d k)) (fun d k => W_ok hB h d k)
    (mS_at _ _ _)) rfl (lF_at _ _ _ _) (fun d => aF_at _ _ _ _ _ _)

theorem init_real : ∃ x : ℝ, ∀ i, k0_pay2 (F := Ideal) i = (x : EReal) := by
  refine ⟨(k0_pay2 (F := Ideal) (ix2 0 0) : EReal).toReal, fun i => ?_⟩
  have e : (k0_pay2 (F := Ideal) (ix2 0 0) : EReal) = k0_pay2 (F := Ideal) i := rfl
  rw [← e]
  refine (EReal.coe_toReal ?_ ?_).symm <;>
  · show Ideal.ofBits .f32 0xF149F2CA#32 ≠ _
    simp [Ideal.ofBits, Ideal.ieee, -EReal.coe_mul]

theorem pay3_at (i) : k0_pay3 (F := Ideal) i = (0 : EReal) := by
  show Ideal.ofBits .f32 0x00000000#32 = _
  simp [Ideal.ofBits, Ideal.ieee, -EReal.coe_mul]

theorem pay4_at (i) : k0_pay4 (F := Ideal) i = (0 : EReal) := by
  show Ideal.ofBits .f32 0x00000000#32 = _
  simp [Ideal.ofBits, Ideal.ieee, -EReal.coe_mul]

theorem inv_A (hf : Real' m c) (acc : T) (e0 : t.val % 32 = 0) (e1 : ¬t.val % 32 = 31) :
    Inv m c (t.val / 1024) (512 * (t.val / 32 % 32)) (512 * (t.val % 32) + 512) (stAt0 m c t.val t.isLt acc) := by
  rw [stAt0_A m c t acc e0 e1]
  unfold Inv
  dsimp only
  refine ⟨fun h d q => ?_, fun h q => ?_⟩
  · rw [Q_at, soutA0]
    exact M_ok (blkOk m c t hf) h d q
  refine RowOk.congr (step (mm := R (k0_pay2 (F := Ideal)) h) (l := R (k0_pay3 (F := Ideal)) h) (a := A (k0_pay4 (F := Ideal)) h) (blkOk m c t hf) (M_ok (blkOk m c t hf)) h q ?_)
    (by rw [R_at, soutA1]) (by rw [R_at, soutA2]) (fun d => by rw [A_at, soutA3])
  obtain ⟨x, hx⟩ := init_real
  rw [show 512 * (t.val % 32) = 0 by omega]
  exact RowOk.congr (Row.init _ _ x) ((R_at _ h q).trans (hx _)) ((R_at _ h q).trans (pay3_at _)) (fun d => (A_at _ h d q).trans (pay4_at _))

theorem inv_B (hf : Real' m c) (acc : T) (e0 : ¬t.val % 32 = 0) (e1 : ¬t.val % 32 = 31) (hI : Inv m c (t.val / 1024) (512 * (t.val / 32 % 32)) (512 * (t.val % 32)) acc) :
    Inv m c (t.val / 1024) (512 * (t.val / 32 % 32)) (512 * (t.val % 32) + 512) (stAt0 m c t.val t.isLt acc) := by
  rw [stAt0_B m c t acc e0 e1]
  unfold Inv
  dsimp only
  exact ⟨hI.1, fun h q => RowOk.congr (step (blkOk m c t hf) hI.1 h q (hI.2 h q))
    (by rw [R_at, soutB1]) (by rw [R_at, soutB2]) (fun d => by rw [A_at, soutB3])⟩

theorem inv_C (hf : Real' m c) (acc : T) (e0 : ¬t.val % 32 = 0) (e1 : t.val % 32 = 31) (hI : Inv m c (t.val / 1024) (512 * (t.val / 32 % 32)) (512 * (t.val % 32)) acc) :
    Inv m c (t.val / 1024) (512 * (t.val / 32 % 32)) (512 * (t.val % 32) + 512) (stAt0 m c t.val t.isLt acc) := by
  rw [stAt0_C m c t acc e0 e1]
  unfold Inv
  dsimp only
  exact ⟨hI.1, fun h q => RowOk.congr (step (blkOk m c t hf) hI.1 h q (hI.2 h q))
    (by rw [R_at, soutC1]) (by rw [R_at, soutC2]) (fun d => by rw [A_at, soutC3])⟩

/-- The invariant at every point. -/
theorem inv (hf : Real' m c) : ∀ (n : ℕ) (hn : n < cfg0.N), Inv m c (n / 1024) (512 * (n / 32 % 32)) (512 * (n % 32) + 512) (outsAt0 m c n hn)
  | 0, hn => by
    rw [outsAt0_zero]
    exact inv_A (t := ⟨0, hn⟩) hf _ (by norm_num) (by norm_num)
  | n + 1, hn => by
    have ih := inv hf n (Nat.lt_of_succ_lt hn)
    rw [outsAt0_succ]
    by_cases e0 : (n + 1) % 32 = 0
    · exact inv_A (t := ⟨n + 1, hn⟩) hf _ e0 (by simp only []; omega)
    · rw [show n / 1024 = (n + 1) / 1024 by omega, show n / 32 = (n + 1) / 32 by omega, show 512 * (n % 32) + 512 = 512 * ((n + 1) % 32) by omega] at ih
      by_cases e1 : (n + 1) % 32 = 31
      · exact inv_C (t := ⟨n + 1, hn⟩) hf _ e0 e1 ih
      · exact inv_B (t := ⟨n + 1, hn⟩) hf _ e0 e1 ih

end Cert.KernelIdeal.Step

end
-- ==== Proof.Outs.lean ====
/- What the point at the last block of keys leaves in the kernel's two results. -/
module

public import proofs.«01_k».proof.Proof.Gen.KernelIdeal.Frame
public import proofs.«01_k».proof.Proof.Finish
import Idealize.ShloMosaic.Lib.Pipeline.ValueKit
import Idealize.ShloMosaic.Lib.WritesUnit
import Idealize.ShloMosaic.Lib.Pipeline.ReadBack

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg3 : Memref sig .tc .vmem S1x256x512 .bf16) (harg3 : arg3.IsWhole) (arg4 : Memref sig .tc .vmem S1x512x256 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x256x512 .bf16) (harg8 : arg8.IsWhole) (arg9 : Memref sig .tc .vmem S1x1x512 .i32) (harg9 : arg9.IsWhole) (arg10 : Memref sig .tc .vmem S1x512x1 .i32) (harg10 : arg10.IsWhole) (arg11 : Memref sig .tc .vmem S4x32 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S8x128x512 .bf16) (harg16 : arg16.IsWhole) (arg17 : Memref sig .tc .vmem S16x512 .f32) (harg17 : arg17.IsWhole) (arg18 : Memref sig .tc .vmem S16x512 .f32) (harg18 : arg18.IsWhole) (arg19 : Memref sig .tc .vmem S12x64x512 .f32) (harg19 : arg19.IsWhole) (hc0 : ¬cond0_0 i) (hc1 : cond0_1 i)
  (x0 : Vec Ideal S1x256x512 .bf16) (x1 : Vec Ideal S1x512x256 .bf16) (x2 : Vec Ideal S1x256x512 .bf16) (x3 : Vec Ideal S1x512x512 .bf16) (x4 : Vec Ideal S1x512x512 .bf16) (x5 : Vec Ideal S1x256x512 .bf16) (x6 : Vec Ideal S1x1x512 .i32) (x7 : Vec Ideal S1x512x1 .i32) (x8 : Vec Ideal S4x32 .f32) (x9 : Vec Ideal S64x1 .f32) (x10 : Vec Ideal S1x1 .f32) (xs0 : Vec Ideal S8x128x512 .bf16) (xs1 : Vec Ideal S16x512 .f32) (xs2 : Vec Ideal S16x512 .f32) (xs3 : Vec Ideal S12x64x512 .f32)

/-- The differential heads' block. -/
theorem outC11 :
    out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = odF x1 x2 x3 x4 x5 x6 x7 x8 x9 x10 (Q xs0) xs1 xs2 xs3 := by
  frame_open
  simp (disch := decide) only [↓ View.readCov_skip, ↓ View.readCov_cons_toLoadRect, ↓ View.readCov_fill]
  simp only [readAt_unread_sub]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  first | (unfold omF N quoF packF aF lF; rfl) | (unfold odF; rfl)

/-- The latent heads' block. -/
theorem outC12 :
    out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = omF x1 x2 x3 x4 x5 x6 x7 (Q xs0) xs1 xs2 xs3 := by
  frame_open
  simp (disch := decide) only [↓ View.readCov_skip, ↓ View.readCov_cons_toLoadRect, ↓ View.readCov_fill]
  simp only [readAt_unread_sub]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  first | (unfold omF N quoF packF aF lF; rfl) | (unfold odF; rfl)

end Cert.KernelIdeal.Step

end
-- ==== Proof.Result.lean ====
/- The kernel's two results, entry by entry: the attention of each map over all the keys, and for the differential heads the normalised difference. -/
module

public import proofs.«01_k».proof.Proof.Inv
public import proofs.«01_k».proof.Proof.Outs
import Idealize.ShloMosaic.Lib.Pipeline.ValueKit

@[expose] public section

set_option maxRecDepth 16384

noncomputable section

namespace Cert.KernelIdeal.Step

open Cert.KernelIdeal Cert.KernelIdeal.Gen Cert.KernelIdeal.Value Idealize.ShloMosaic Idealize.ShloMosaic.TcCoe Idealize.SL.Sem Cert.Spec Cert.Soft

variable {m : (ℓ : Loc nD τ sig) → Buf (Elt Ideal) ℓ} {c : Dev nD}

/-- A map's attention after the last block of keys. -/
theorem N_at {b qo : ℕ} {x0 : Vec Ideal S1x256x512 .bf16} {x1 : Vec Ideal S1x512x256 .bf16} {x2 : Vec Ideal S1x256x512 .bf16} {x3 : Vec Ideal S1x512x512 .bf16} {x4 : Vec Ideal S1x512x512 .bf16} {x5 : Vec Ideal S1x256x512 .bf16}
    {x6 : Vec Ideal S1x1x512 .i32} {x7 : Vec Ideal S1x512x1 .i32} {st : T} {ko : ℕ} (hk : ko = 15872) (hB : Blk (a0 m c) (a1 m c) (a2 m c) (a3 m c) (a4 m c) (a5 m c) (a6 m c) b qo ko x0 x1 x2 x3 x4 x5 x6 x7)
    (hI : Inv m c b qo ko st) (h : Fin 12) (d : Fin 64) (q : Fin 512) :
    N x1 x2 x3 x4 x5 x6 x7 (Q st.2.2.1) st.2.2.2.1 st.2.2.2.2.1 st.2.2.2.2.2 h (ix2 d q)
      = (attn (a0 m c) (a1 m c) (a2 m c) (a3 m c) (a4 m c) (a5 m c) (a6 m c) h.val b (qo + q.val) d : EReal) := by
  subst hk
  exact (quoF_at _ _ _ _).trans (Row.quot (by norm_num) (step hB hI.1 h q (hI.2 h q)) d)

/-- The difference's weight, of the call's arguments. -/
def lamv (a7 : Vec Ideal S4x32 .f32) (a9 : Vec Ideal S1x1 .f32) : EReal :=
  Ideal.exp (∑ l : Fin 32, a7 (ix2 0 l) * a7 (ix2 1 l)) - Ideal.exp (∑ l : Fin 32, a7 (ix2 2 l) * a7 (ix2 3 l)) + a9 (ix2 0 0)

/-- A point's results before they leave: the last block of keys of a block of queries. -/
theorem out_C (t : Fin cfg0.N) (e1 : t.val % 32 = 31) (hf : Real' m c) (h : Fin 4) (d : Fin 64) (q : Fin 512) :
    (outsAt0 m c t.val t.isLt).1 (ix3 0 q ⟨64 * h.val + d.val, by omega⟩)
        = head (fun x => (attn (a0 m c) (a1 m c) (a2 m c) (a3 m c) (a4 m c) (a5 m c) (a6 m c) (2 * h.val) (t.val / 1024) (512 * (t.val / 32 % 32) + q.val) x : EReal)
            - lamv (a7 m c) (a9 m c) * (attn (a0 m c) (a1 m c) (a2 m c) (a3 m c) (a4 m c) (a5 m c) (a6 m c) (2 * h.val + 1) (t.val / 1024) (512 * (t.val / 32 % 32) + q.val) x : EReal))
            (a8 m c (ix2 d 0)) (a9 m c (ix2 0 0)) d
      ∧ (outsAt0 m c t.val t.isLt).2.1 (ix3 0 q ⟨64 * h.val + d.val, by omega⟩)
        = (attn (a0 m c) (a1 m c) (a2 m c) (a3 m c) (a4 m c) (a5 m c) (a6 m c) (8 + h.val) (t.val / 1024) (512 * (t.val / 32 % 32) + q.val) d : EReal) := by
  obtain ⟨n, hn⟩ := t
  match n with
  | 0 => simp at e1
  | n + 1 =>
    simp only [] at e1
    have hI := inv (m := m) (c := c) hf n (Nat.lt_of_succ_lt hn)
    rw [show n / 1024 = (n + 1) / 1024 by omega, show n / 32 = (n + 1) / 32 by omega, show 512 * (n % 32) + 512 = 512 * ((n + 1) % 32) by omega] at hI
    have hB := blkOk m c ⟨n + 1, hn⟩ hf
    simp only [] at hB
    have hN := N_at (by omega) hB hI
    have e0 : ¬(n + 1) % 32 = 0 := by omega
    simp only []
    rw [outsAt0_succ, stAt0_C m c ⟨n + 1, hn⟩ _ e0 e1]
    dsimp only
    rw [outC11, outC12]
    generalize outsAt0 m c n (Nat.lt_of_succ_lt hn) = st at hI hN ⊢
    constructor
    · unfold odF
      dsimp only
      refine (packF_at (fun h => headF _ _ _ (N _ _ _ _ _ _ _ _ _ _ _ ⟨2 * h.val, by omega⟩) (N _ _ _ _ _ _ _ _ _ _ _ ⟨2 * h.val + 1, by omega⟩)) h d q).trans ?_
      refine (headF_at _ _ _ _ _ _ _).trans ?_
      have s10 : sub (iblk m c 10 ⟨n + 1, hn⟩ : Vec Ideal S1x1 .f32) ![0, 0] S1x1.size inb_S1x1_S1x1_0_0 (ix2 0 0) = a9 m c (ix2 0 0) :=
        (sub2 (n0 := 1) (n1 := 1) _ inb_S1x1_S1x1_0_0 0 0 0 0 rfl rfl).trans (b10 m c _)
      have s9 : sub (iblk m c 9 ⟨n + 1, hn⟩ : Vec Ideal S64x1 .f32) ![0, 0] S64x1.size inb_S64x1_S64x1_0_0 (ix2 d 0) = a8 m c (ix2 d 0) :=
        (sub2 (n0 := 64) (n1 := 1) _ inb_S64x1_S64x1_0_0 d 0 d 0 (by simp) rfl).trans (b9 m c _ _)
      have s8 : ∀ (i : Fin 4) (l : Fin 32), sub (iblk m c 8 ⟨n + 1, hn⟩ : Vec Ideal S4x32 .f32) ![0, 0] S4x32.size inb_S4x32_S4x32_0_0 (ix2 i l) = a7 m c (ix2 i l) := fun i l =>
        (sub2 (n0 := 4) (n1 := 32) _ inb_S4x32_S4x32_0_0 i l i l (by simp) (by simp)).trans (b8 m c _ _ _)
      rw [lam_at, s10, s9]
      simp only [s8]
      refine congrArg (fun o => head o _ _ d) (funext fun x => ?_)
      exact congrArg₂ (fun u v => u - lamv (a7 m c) (a9 m c) * v) (hN ⟨2 * h.val, by omega⟩ x q) (hN ⟨2 * h.val + 1, by omega⟩ x q)
    · unfold omF
      refine (packF_at (fun h => N _ _ _ _ _ _ _ _ _ _ _ ⟨8 + h.val, by omega⟩) h d q).trans ?_
      exact hN ⟨8 + h.val, by omega⟩ d q

theorem pt_lt (b : Fin 2) (s : Fin 16384) : 32 * (32 * b.val + s.val / 512) + 31 < cfg0.N := by
  rw [show cfg0.N = 2048 from N_0]; omega

theorem fold_out (i : ℕ) (hi : i < cfg0.N) : Pipeline.accAt (fun n h => stAt0 m c n h junk0) (stAt0 m c) 0 i (by omega) = outsAt0 m c i hi :=
  (outsAt0_sweep m c i hi).symm

/-- The first result. -/
theorem G11_at (hf : Real' m c) (b : Fin 2) (s : Fin 16384) (h : Fin 4) (d : Fin 64) :
    (G11 m c : Vec Ideal S2x16384x256 .bf16) (ix3 b s ⟨64 * h.val + d.val, by omega⟩)
      = head (fun x => (attn (a0 m c) (a1 m c) (a2 m c) (a3 m c) (a4 m c) (a5 m c) (a6 m c) (2 * h.val) b.val s.val x : EReal)
            - lamv (a7 m c) (a9 m c) * (attn (a0 m c) (a1 m c) (a2 m c) (a3 m c) (a4 m c) (a5 m c) (a6 m c) (2 * h.val + 1) b.val s.val x : EReal))
            (a8 m c (ix2 d 0)) (a9 m c (ix2 0 0)) d := by
  have hp : pt11Of (ix3 b s ⟨64 * h.val + d.val, by omega⟩ : S2x16384x256.Idx) = 32 * (32 * b.val + s.val / 512) + 31 := by
    simp [pt11Of, run11Of]; try omega
  have hl : loc11Of (ix3 b s ⟨64 * h.val + d.val, by omega⟩ : S2x16384x256.Idx) = ix3 0 ⟨s.val % 512, Nat.mod_lt _ (by norm_num)⟩ ⟨64 * h.val + d.val, by omega⟩ := by
    funext a
    match a with
    | 0 => exact Subsingleton.elim (α := Fin 1) _ _
    | 1 => exact Fin.ext (by simp [loc11Of])
    | 2 => exact Fin.ext (by simp [loc11Of]; omega)
  have ho := (out_C ⟨_, pt_lt b s⟩ (by simp only []; omega) hf h d ⟨s.val % 512, Nat.mod_lt _ (by norm_num)⟩).1
  simp only [show (32 * (32 * b.val + s.val / 512) + 31) / 1024 = b.val by omega, show (32 * (32 * b.val + s.val / 512) + 31) / 32 % 32 = s.val / 512 by omega,
    show 512 * (s.val / 512) + s.val % 512 = s.val by omega] at ho
  refine Eq.trans ?_ ho
  unfold G11
  simp only [hp, hl]
  rw [dif_pos (pt_lt b s), fold_out]

/-- The second result. -/
theorem G12_at (hf : Real' m c) (b : Fin 2) (s : Fin 16384) (h : Fin 4) (d : Fin 64) :
    (G12 m c : Vec Ideal S2x16384x256 .bf16) (ix3 b s ⟨64 * h.val + d.val, by omega⟩)
      = (attn (a0 m c) (a1 m c) (a2 m c) (a3 m c) (a4 m c) (a5 m c) (a6 m c) (8 + h.val) b.val s.val d : EReal) := by
  have hp : pt12Of (ix3 b s ⟨64 * h.val + d.val, by omega⟩ : S2x16384x256.Idx) = 32 * (32 * b.val + s.val / 512) + 31 := by
    simp [pt12Of, run12Of]; try omega
  have hl : loc12Of (ix3 b s ⟨64 * h.val + d.val, by omega⟩ : S2x16384x256.Idx) = ix3 0 ⟨s.val % 512, Nat.mod_lt _ (by norm_num)⟩ ⟨64 * h.val + d.val, by omega⟩ := by
    funext a
    match a with
    | 0 => exact Subsingleton.elim (α := Fin 1) _ _
    | 1 => exact Fin.ext (by simp [loc12Of])
    | 2 => exact Fin.ext (by simp [loc12Of]; omega)
  have ho := (out_C ⟨_, pt_lt b s⟩ (by simp only []; omega) hf h d ⟨s.val % 512, Nat.mod_lt _ (by norm_num)⟩).2
  simp only [show (32 * (32 * b.val + s.val / 512) + 31) / 1024 = b.val by omega, show (32 * (32 * b.val + s.val / 512) + 31) / 32 % 32 = s.val / 512 by omega,
    show 512 * (s.val / 512) + s.val % 512 = s.val by omega] at ho
  refine Eq.trans ?_ ho
  unfold G12
  simp only [hp, hl]
  rw [dif_pos (pt_lt b s), fold_out]

end Cert.KernelIdeal.Step

end
-- ==== Proof.Equal.lean ====
/- The reference's two results are the kernel's, entry by entry, of finite arguments. -/
module

public import proofs.«01_k».proof.Proof.RefScore
public import proofs.«01_k».proof.Proof.Result

@[expose] public section

set_option maxRecDepth 16384
set_option pp.proofs false

noncomputable section

namespace Cert.Equal

open Idealize.ShloMosaic Idealize.ShloMosaic.TcCoe Cert.Spec Cert.ReferenceIdeal.Step Finset

section

variable {a0 : Vec Ideal Cert.KernelIdeal.S2x256x16384 .bf16} {a1 : Vec Ideal Cert.KernelIdeal.S2x16384x256 .bf16} {a2 : Vec Ideal Cert.KernelIdeal.S2x256x16384 .bf16}
  {a3 : Vec Ideal Cert.KernelIdeal.S2x512x16384 .bf16} {a4 : Vec Ideal Cert.KernelIdeal.S2x16384x512 .bf16} {a5 : Vec Ideal Cert.KernelIdeal.S2x256x16384 .bf16} {a6 : Vec Ideal Cert.KernelIdeal.S2x16384 .i32}
  {a7 : Vec Ideal Cert.KernelIdeal.S4x32 .f32} {a8 : Vec Ideal Cert.KernelIdeal.S64x1 .f32} {a9 : Vec Ideal Cert.KernelIdeal.S1x1 .f32}

/-- Every index of a rank-four array by its coordinates. -/
theorem all4 {n0 n1 n2 n3 : ℕ} {P : (⟨4, ![n0, n1, n2, n3]⟩ : Shape).Idx → Prop} (h : ∀ i j k l, P (ix4 i j k l)) (x) : P x := by
  have e : x = ix4 (x 0) (x 1) (x 2) (x 3) := by
    funext a; match a with | 0 => rfl | 1 => rfl | 2 => rfl | 3 => rfl
  rw [e]; exact h _ _ _ _

/-- Every index of a rank-five array by its coordinates. -/
theorem all5 {n0 n1 n2 n3 n4 : ℕ} {P : (⟨5, ![n0, n1, n2, n3, n4]⟩ : Shape).Idx → Prop} (h : ∀ i j k l r, P (ix5 i j k l r)) (x) : P x := by
  have e : x = ix5 (x 0) (x 1) (x 2) (x 3) (x 4) := by
    funext a; match a with | 0 => rfl | 1 => rfl | 2 => rfl | 3 => rfl | 4 => rfl
  rw [e]; exact h _ _ _ _ _

/-- The plain heads' attention. -/
theorem outM_attn (f3 : ∀ x, a3 x ≠ ⊤ ∧ a3 x ≠ ⊥) (f4 : ∀ x, a4 x ≠ ⊤ ∧ a4 x ≠ ⊥) (f5 : ∀ x, a5 x ≠ ⊤ ∧ a5 x ≠ ⊥) (b : Fin 2) (q : Fin 16384) (h : Fin 4) (d : Fin 64) :
    outM a5 (wM (scM a3 a4)) (ix3 b q ⟨64 * h.val + d.val, by omega⟩) = (attn a0 a1 a2 a3 a4 a5 a6 (8 + h.val) b.val q.val d : EReal) := by
  have hs : ∀ i, ∃ r : ℝ, scM a3 a4 i = (r : EReal) := all4 fun i j k l => ⟨_, scM_score (a0 := a0) (a1 := a1) (a6 := a6) f3 f4 i j k l⟩
  rw [outM_at]
  unfold attn
  rw [← Soft.sum_weight]
  refine sum_congr rfl fun k _ => ?_
  refine congrArg₂ (fun x y : EReal => x * y) ?_ (wM_weight _ hs b h q (fun k => Real.log 2 * score a0 a1 a3 a4 a6 (8 + h.val) b.val q.val k) (fun k => scM_score (a0 := a0) (a1 := a1) (a6 := a6) f3 f4 b h q k) k)
  refine (at3_coe f5 _ _ _).trans ?_
  unfold value
  rw [if_neg (by omega), Nat.add_sub_cancel_left]
  dsimp only
  rw [Nat.mul_comm]

/-- The difference of a differential head's two maps. -/
theorem avD_attn (f0 : ∀ x, a0 x ≠ ⊤ ∧ a0 x ≠ ⊥) (f1 : ∀ x, a1 x ≠ ⊤ ∧ a1 x ≠ ⊥) (f2 : ∀ x, a2 x ≠ ⊤ ∧ a2 x ≠ ⊥) (la : FVec Ideal Cert.ReferenceIdeal.S_ .f32) (l : ℝ) (hl : la ix0 = (l : EReal))
    (b : Fin 2) (q : Fin 16384) (h : Fin 4) (d : Fin 64) :
    avD a2 (wD (scD a0 a1 a6)) la (ix4 b q h d) = (attn a0 a1 a2 a3 a4 a5 a6 (2 * h.val) b.val q.val d : EReal) - (l : EReal) * (attn a0 a1 a2 a3 a4 a5 a6 (2 * h.val + 1) b.val q.val d : EReal) := by
  have hs : ∀ i, ∃ r : ℝ, scD a0 a1 a6 i = (r : EReal) := all5 fun i j k l r => ⟨_, scD_score (a3 := a3) (a4 := a4) f0 f1 i j k l r⟩
  have hv : value a2 a5 (2 * h.val + 1) b.val d = value a2 a5 (2 * h.val) b.val d := by
    funext k
    unfold value
    rw [if_pos (by omega), if_pos (by omega), show (2 * h.val + 1) / 2 = 2 * h.val / 2 by omega]
  rw [avD_at]
  unfold attn
  rw [hv, ← Soft.sum_weight_sub, hl]
  refine sum_congr rfl fun k _ => ?_
  refine congrArg₂ (fun x y : EReal => x * y) ?_ (congrArg₂ (fun x y : EReal => x - (l : EReal) * y)
    (wD_weight _ hs b 0 h q (fun k => Real.log 2 * score a0 a1 a3 a4 a6 (2 * h.val) b.val q.val k) (fun k => scD_score (a3 := a3) (a4 := a4) f0 f1 b 0 h q k) k)
    (wD_weight _ hs b 1 h q (fun k => Real.log 2 * score a0 a1 a3 a4 a6 (2 * h.val + 1) b.val q.val k) (fun k => scD_score (a3 := a3) (a4 := a4) f0 f1 b 1 h q k) k))
  refine (at3_coe f2 _ _ _).trans ?_
  unfold value
  rw [if_pos (by omega), show 2 * h.val / 2 = h.val by omega]
  dsimp only
  rw [Nat.mul_comm]

/-- The difference's weight of finite arguments is a real number. -/
theorem lamv_real (f7 : ∀ x, a7 x ≠ ⊤ ∧ a7 x ≠ ⊥) (f9 : ∀ x, a9 x ≠ ⊤ ∧ a9 x ≠ ⊥) : ∃ l : ℝ, Cert.KernelIdeal.Step.lamv a7 a9 = (l : EReal) := by
  have h7 : ∀ x, a7 x = ((a7 x : EReal).toReal : EReal) := fun x => (EReal.coe_toReal (f7 x).1 (f7 x).2).symm
  have h9 : ∀ x, a9 x = ((a9 x : EReal).toReal : EReal) := fun x => (EReal.coe_toReal (f9 x).1 (f9 x).2).symm
  have hd : ∀ i j : Fin 4, ∑ l : Fin 32, (a7 (ix2 i l) * a7 (ix2 j l) : EReal) = ((∑ l : Fin 32, (a7 (ix2 i l) : EReal).toReal * (a7 (ix2 j l) : EReal).toReal : ℝ) : EReal) := fun i j => by
    rw [Soft.coe_sum]
    refine sum_congr rfl fun l _ => ?_
    rw [EReal.coe_mul]
    exact congrArg₂ (fun x y : EReal => x * y) (h7 _) (h7 _)
  refine ⟨Real.exp (∑ l : Fin 32, (a7 (ix2 0 l) : EReal).toReal * (a7 (ix2 1 l) : EReal).toReal) - Real.exp (∑ l : Fin 32, (a7 (ix2 2 l) : EReal).toReal * (a7 (ix2 3 l) : EReal).toReal) + (a9 (ix2 0 0) : EReal).toReal, ?_⟩
  rw [EReal.coe_add, EReal.coe_sub, ← Ideal.exp_coe, ← Ideal.exp_coe, ← hd, ← hd]
  exact congrArg (fun y : EReal => _ + y) (h9 _)

end

section

open Cert.KernelIdeal.Step Cert.KernelIdeal.Value Cert.KernelIdeal.Gen

variable {m : (ℓ : Loc Cert.KernelIdeal.nD Cert.KernelIdeal.τ Cert.KernelIdeal.sig) → Buf (Elt Ideal) ℓ} {c : Dev Cert.KernelIdeal.nD}

/-- A channel is its head's lane. -/
theorem all256 {P : (⟨3, ![2, 16384, 256]⟩ : Shape).Idx → Prop} (h : ∀ (b : Fin 2) (q : Fin 16384) (h : Fin 4) (d : Fin 64), P (ix3 b q ⟨64 * h.val + d.val, by omega⟩)) (x) : P x := by
  have e : x = ix3 (x 0) (x 1) (x 2) := by
    funext a; match a with | 0 => rfl | 1 => rfl | 2 => rfl
  have hx : (x 2).val < 256 := (x 2).isLt
  have e2 : (x 2 : Fin 256) = ⟨64 * ((x 2).val / 64) + (x 2).val % 64, by omega⟩ := Fin.ext (Nat.div_add_mod _ _).symm
  rw [e, e2]
  exact h _ _ ⟨(x 2).val / 64, by omega⟩ ⟨(x 2).val % 64, by omega⟩

theorem second (hf : Real' m c) : (outM (a5 m c) (wM (scM (a3 m c) (a4 m c))) : Cert.KernelIdeal.S2x16384x256.Idx → EReal) = G12 m c := by
  funext x
  refine all256 (P := fun x => (outM (a5 m c) (wM (scM (a3 m c) (a4 m c))) : Cert.KernelIdeal.S2x16384x256.Idx → EReal) x = G12 m c x) (fun b q h d => ?_) x
  exact (outM_attn (a0 := a0 m c) (a1 := a1 m c) (a2 := a2 m c) (a6 := a6 m c) hf.f3 hf.f4 hf.f5 b q h d).trans (G12_at hf b q h d).symm

theorem first (hf : Real' m c) (f7 : ∀ x, (a7 m c : Cert.KernelIdeal.S4x32.Idx → EReal) x ≠ ⊤ ∧ (a7 m c : Cert.KernelIdeal.S4x32.Idx → EReal) x ≠ ⊥)
    (f9 : ∀ x, (a9 m c : Cert.KernelIdeal.S1x1.Idx → EReal) x ≠ ⊤ ∧ (a9 m c : Cert.KernelIdeal.S1x1.Idx → EReal) x ≠ ⊥) :
    (outD (a8 m c) (a9 m c) (avD (a2 m c) (wD (scD (a0 m c) (a1 m c) (a6 m c))) (laD (a7 m c) (a9 m c))) : Cert.KernelIdeal.S2x16384x256.Idx → EReal) = G11 m c := by
  obtain ⟨l, hl⟩ := lamv_real f7 f9
  funext x
  refine all256 (P := fun x => (outD (a8 m c) (a9 m c) (avD (a2 m c) (wD (scD (a0 m c) (a1 m c) (a6 m c))) (laD (a7 m c) (a9 m c))) : Cert.KernelIdeal.S2x16384x256.Idx → EReal) x = G11 m c x) (fun b q h d => ?_) x
  have ho : ∀ d, avD (a2 m c) (wD (scD (a0 m c) (a1 m c) (a6 m c))) (laD (a7 m c) (a9 m c)) (ix4 b q h d) = _ := fun d =>
    avD_attn (a3 := a3 m c) (a4 := a4 m c) (a5 := a5 m c) hf.f0 hf.f1 hf.f2 (laD (a7 m c) (a9 m c)) l ((laD_at _ _ _).trans hl) b q h d
  refine (outD_at _ _ _ b q h d).trans (Eq.trans ?_ (G11_at hf b q h d).symm)
  rw [hl]
  unfold head
  simp only [ho]

end

end Cert.Equal

end
-- ==== Proof.Finite.lean ====
/- What the precondition says: the call's float arguments, but the head gain, are finite. -/
module

public import proofs.«01_k».proof.Defs
public import proofs.«01_k».proof.Proof.Blocks

@[expose] public section

set_option maxRecDepth 16384

noncomputable section

namespace Cert.Pre_finite.Gen

open Idealize.ShloMosaic

theorem facts : Cert.Pre_finite.Facts := ⟨by decide, by decide, by decide, by decide, by decide, by decide, by decide⟩

end Cert.Pre_finite.Gen

namespace Cert.Finite

open Idealize.ShloMosaic Idealize.ShloMosaic.TcCoe Cert.KernelIdeal.Step

theorem inf : Ideal.ofBits .f32 0x7F800000#32 = (⊤ : EReal) := by
  simp [Ideal.ofBits, Ideal.ieee, -EReal.coe_mul]

/-- An extended real whose absolute value is below infinity is finite. -/
theorem of_abs (x : EReal) (h : Ideal.cmp .olt (max x (-x)) (Ideal.ofBits .f32 0x7F800000#32) = 1#1) : x ≠ ⊤ ∧ x ≠ ⊥ := by
  rw [inf] at h
  have hlt : max x (-x) < ⊤ := by
    by_contra hn
    simp [Ideal.cmp, hn] at h
  constructor
  · rintro rfl; simp at hlt
  · rintro rfl; simp at hlt

variable {m : (ℓ : Loc Cert.KernelIdeal.nD Cert.KernelIdeal.τ Cert.KernelIdeal.sig) → Buf (Elt Ideal) ℓ}

theorem args (h : Cert.Pre_KernelIdeal_finite (hPre_finite := Cert.Pre_finite.Gen.facts) m) (c : Dev Cert.KernelIdeal.nD) :
    Real' m c ∧ (∀ x, (a7 m c : Cert.KernelIdeal.S4x32.Idx → EReal) x ≠ ⊤ ∧ (a7 m c : Cert.KernelIdeal.S4x32.Idx → EReal) x ≠ ⊥)
      ∧ ∀ x, (a9 m c : Cert.KernelIdeal.S1x1.Idx → EReal) x ≠ ⊤ ∧ (a9 m c : Cert.KernelIdeal.S1x1.Idx → EReal) x ≠ ⊥ := by
  obtain ⟨h0, h1, h2, h3, h4, h5, h7, h9⟩ := h c
  exact ⟨⟨fun x => of_abs _ (congrFun h0 x), fun x => of_abs _ (congrFun h1 x), fun x => of_abs _ (congrFun h2 x), fun x => of_abs _ (congrFun h3 x),
    fun x => of_abs _ (congrFun h4 x), fun x => of_abs _ (congrFun h5 x)⟩, fun x => of_abs _ (congrFun h7 x), fun x => of_abs _ (congrFun h9 x)⟩

end Cert.Finite

end
-- ==== Proof.FfnRows.lean ====
/- One row of the feed-forward part over the extended reals: the normalised row, the gated row and the row added to the input. -/
module

public import Idealize.ShloMosaic.PureOps.Ideal

@[expose] public section

noncomputable section

namespace Cert.FfnSpec

open Idealize.ShloMosaic

/-- The reciprocal root of a row's mean square, with 1e-6 added under the root. -/
def scale (x : Fin 1024 → EReal) : EReal :=
  Ideal.rsqrt (Ideal.div (∑ j : Fin 1024, x j * x j) (Ideal.ofBits .f32 0x44800000#32) + Ideal.ofBits .f32 0x358637BD#32)

/-- The row divided by its root mean square, times a gain. -/
def normed (x g : Fin 1024 → EReal) (i : Fin 1024) : EReal := x i * scale x * g i

/-- A column's projection of a row. -/
def proj (n : Fin 1024 → EReal) (w : Fin 1024 → EReal) : EReal := ∑ i : Fin 1024, n i * w i

/-- The gated row: the gate times its logistic, times the other half. -/
def gated (n : Fin 1024 → EReal) (w : Fin 1024 → Fin 5632 → EReal) (j : Fin 2816) : EReal :=
  proj n (fun i => w i ⟨j.val, by omega⟩) * Ideal.logistic (proj n (fun i => w i ⟨j.val, by omega⟩)) * proj n (fun i => w i ⟨2816 + j.val, by omega⟩)

/-- The gated row projected back. -/
def back (h : Fin 2816 → EReal) (w : Fin 2816 → Fin 1024 → EReal) (e : Fin 1024) : EReal := ∑ j : Fin 2816, h j * w j e

/-- The result row. -/
def result (x gpre : Fin 1024 → EReal) (win : Fin 1024 → Fin 5632 → EReal) (wout : Fin 2816 → Fin 1024 → EReal) (gpost : Fin 1024 → EReal)
    (e : Fin 1024) : EReal :=
  x e + normed (back (gated (normed x gpre) win) wout) gpost e

end Cert.FfnSpec

end
-- ==== Proof.FfnSteps.lean ====
/- The feed-forward kernel's point as a composition of steps, each read at an index. -/
module

public import proofs.«01_k».proof.Proof.Gen.FfnIdeal.Frame
public import proofs.«01_k».proof.Proof.FfnRows
import Idealize.ShloMosaic.Lib.Pipeline.ValueKit
public import Idealize.ShloMosaic.Lib.Pointwise

@[expose] public section

set_option maxRecDepth 16384

noncomputable section

namespace Cert.FfnIdeal.Step

open Cert.FfnIdeal Cert.FfnIdeal.Gen Idealize.ShloMosaic Idealize.ShloMosaic.TcCoe Cert.FfnSpec

/-- The reciprocal root of each row's mean square. -/
def scF (x : FVec Ideal S256x1024 .f32) : FVec Ideal S256x1 .f32 :=
  rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))

/-- The normalised rows. -/
def nF (x : FVec Ideal S256x1024 .f32) (g : Vec Ideal S1x1024 .f32) : FVec Ideal S256x1024 .bf16 :=
  truncf .bf16 (mulf (mulf x (broadcastTo S256x1024 (scF x) broadcasts_S256x1_S256x1024)) (broadcastTo S256x1024 g broadcasts_S1x1024_S256x1024)) bitsLt_bf16_f32

/-- One half of the projection. -/
def gF (n : FVec Ideal S256x1024 .bf16) (w : Vec Ideal S1024x2816 .bf16) : FVec Ideal S256x2816 .f32 :=
  matmul (φ₂ := .bf16) dot_S256x1024_S1024x2816_S256x2816_1_0_0_1_n_n none n w (constant S256x2816 .f32 0x00000000#32)

/-- The gated rows. -/
def hF (g u : FVec Ideal S256x2816 .f32) : FVec Ideal S256x2816 .bf16 := truncf .bf16 (mulf (mulf g (logistic g)) u) bitsLt_bf16_f32

/-- The gated rows projected back. -/
def fF (h : FVec Ideal S256x2816 .bf16) (w : Vec Ideal S2816x1024 .bf16) : FVec Ideal S256x1024 .f32 :=
  matmul (φ₂ := .bf16) dot_S256x2816_S2816x1024_S256x1024_1_0_0_1_n_n none h w (constant S256x1024 .f32 0x00000000#32)

variable (v0 : Vec Ideal S1x256x1024 .f32) (v2 : Vec Ideal S1x1024 .f32) (w1 w2 : Vec Ideal S1024x2816 .bf16) (w3 : Vec Ideal S2816x1024 .bf16) (v5 : Vec Ideal S1x1024 .f32)

theorem pay3_eq : k0_pay3 v0 v2 w1 w2 w3 = fF (hF (gF (nF (k0_pay2 v0) v2) w1) (gF (nF (k0_pay2 v0) v2) w2)) w3 := rfl

theorem pay4_eq : k0_pay4 v0 v2 w1 w2 w3 = broadcastTo S256x1024 (scF (k0_pay3 v0 v2 w1 w2 w3)) broadcasts_S256x1_S256x1024 := rfl

theorem pay2_at (r : Fin 256) (i : Fin 1024) : k0_pay2 v0 (ix2 r i) = v0 (ix3 0 r i) := by
  pointwise [k0_pay2]

theorem scF_at (x : FVec Ideal S256x1024 .f32) (r : Fin 256) : scF x (ix2 r 0) = scale fun i => x (ix2 r i) := by
  unfold scale
  pointwise [scF]

theorem nF_at (x : FVec Ideal S256x1024 .f32) (g : Vec Ideal S1x1024 .f32) (r : Fin 256) (i : Fin 1024) :
    nF x g (ix2 r i) = normed (fun i => x (ix2 r i)) (fun i => g (ix2 0 i)) i := by
  unfold normed
  rw [← scF_at]
  pointwise [nF]

theorem gF_at (n : FVec Ideal S256x1024 .bf16) (w : Vec Ideal S1024x2816 .bf16) (r : Fin 256) (j : Fin 2816) :
    gF n w (ix2 r j) = proj (fun i => n (ix2 r i)) (fun i => w (ix2 i j)) := by
  unfold proj
  pointwise [gF]

theorem hF_at (g u : FVec Ideal S256x2816 .f32) (r : Fin 256) (j : Fin 2816) :
    hF g u (ix2 r j) = g (ix2 r j) * Ideal.logistic (g (ix2 r j)) * u (ix2 r j) := by
  pointwise [hF]

theorem fF_at (h : FVec Ideal S256x2816 .bf16) (w : Vec Ideal S2816x1024 .bf16) (r : Fin 256) (e : Fin 1024) :
    fF h w (ix2 r e) = back (fun j => h (ix2 r j)) (fun j e => w (ix2 j e)) e := by
  unfold back
  pointwise [fF]

theorem pay1_at (x f : FVec Ideal S256x1024 .f32) (g : Vec Ideal S1x1024 .f32) (r : Fin 256) (e : Fin 1024) :
    k0_pay1 x f g (broadcastTo S256x1024 (scF f) broadcasts_S256x1_S256x1024) (ix3 0 r e)
      = x (ix2 r e) + normed (fun i => f (ix2 r i)) (fun i => g (ix2 0 i)) e := by
  unfold normed
  rw [← scF_at]
  pointwise [k0_pay1]

/-- What a point leaves in its block, row by row. -/
theorem point_at (w : Fin 1024 → Fin 5632 → EReal) (h1 : ∀ i (j : Fin 2816), w1 (ix2 i j) = w i ⟨j.val, by omega⟩)
    (h2 : ∀ i (j : Fin 2816), w2 (ix2 i j) = w i ⟨2816 + j.val, by omega⟩) (r : Fin 256) (e : Fin 1024) :
    k0_pay1 (k0_pay2 v0) (k0_pay3 v0 v2 w1 w2 w3) v5 (k0_pay4 v0 v2 w1 w2 w3) (ix3 0 r e)
      = result (fun i => v0 (ix3 0 r i)) (fun i => v2 (ix2 0 i)) w (fun j e => w3 (ix2 j e)) (fun i => v5 (ix2 0 i)) e := by
  rw [pay4_eq, pay1_at, pay3_eq]
  unfold result gated
  simp only [fF_at, hF_at, gF_at, nF_at, pay2_at, h1, h2]

end Cert.FfnIdeal.Step

end
-- ==== Proof.FfnResult.lean ====
/- The feed-forward kernel's result array, entry by entry, from its arguments. -/
module

public import proofs.«01_k».proof.Proof.Gen.FfnIdeal.Value
public import proofs.«01_k».proof.Proof.FfnSteps
import Idealize.ShloMosaic.Lib.Pipeline.ValueKit

@[expose] public section

set_option maxRecDepth 16384

noncomputable section

namespace Cert.FfnIdeal.Step

open Cert.FfnIdeal Cert.FfnIdeal.Gen Idealize.ShloMosaic Idealize.ShloMosaic.TcCoe Idealize.SL.Sem Cert.FfnSpec

theorem idx : ∀ t : Fin cfg0.N,
    win0_0.index t = ![t.val / 64, t.val % 64, 0] ∧ win0_1.index t = ![0, 0] ∧ win0_2.index t = ![0, 0] ∧ win0_3.index t = ![0, 0]
    ∧ win0_4.index t = ![0, 0] ∧ win0_5.index t = ![t.val / 64, t.val % 64, 0] ∧ t.val / 64 < 2 :=
  (by decide +kernel : ∀ t : Fin grid0.N, _)

variable (m : (ℓ : Loc nD τ sig) → Buf (Elt Ideal) ℓ) (c : Dev nD) (t : Fin cfg0.N)

/-- The arguments of the call. -/
abbrev a0 : Vec Ideal S2x16384x1024 .f32 := m ((c : Thread nD τ).loc main_arg0)
abbrev a1 : Vec Ideal S1x1024 .f32 := m ((c : Thread nD τ).loc main_arg1)
abbrev a2 : Vec Ideal S1024x5632 .bf16 := m ((c : Thread nD τ).loc main_arg2)
abbrev a3 : Vec Ideal S2816x1024 .bf16 := m ((c : Thread nD τ).loc main_arg3)
abbrev a4 : Vec Ideal S1x1024 .f32 := m ((c : Thread nD τ).loc main_arg4)

theorem tlt : t.val < 128 := lt_of_lt_of_eq t.isLt (show cfg0.N = 128 from N_0)

theorem b0 (r : Fin 256) (i : Fin 1024) : (iblk m c 0 t : Vec Ideal S1x256x1024 .f32) (ix3 0 r i)
    = a0 m c (ix3 ⟨t.val / 64, by have := tlt t; omega⟩ ⟨256 * (t.val % 64) + r.val, by omega⟩ i) := by
  blk_ext [iblk, V, idx t, a0]
theorem b1 (i : Fin 1024) : (iblk m c 1 t : Vec Ideal S1x1024 .f32) (ix2 0 i) = a1 m c (ix2 0 i) := by
  blk_ext [iblk, V, idx t, a1]
theorem b2 (i : Fin 1024) (j : Fin 5632) : (iblk m c 2 t : Vec Ideal S1024x5632 .bf16) (ix2 i j) = a2 m c (ix2 i j) := by
  blk_ext [iblk, V, idx t, a2]
theorem b3 (j : Fin 2816) (e : Fin 1024) : (iblk m c 3 t : Vec Ideal S2816x1024 .bf16) (ix2 j e) = a3 m c (ix2 j e) := by
  blk_ext [iblk, V, idx t, a3]
theorem b4 (i : Fin 1024) : (iblk m c 4 t : Vec Ideal S1x1024 .f32) (ix2 0 i) = a4 m c (ix2 0 i) := by
  blk_ext [iblk, V, idx t, a4]

/-- The result as one function of the arguments. -/
def G : Vec Ideal S2x16384x1024 .f32 := fun x =>
  result (fun i => a0 m c (ix3 (x 0) (x 1) i)) (fun i => a1 m c (ix2 0 i)) (fun i j => a2 m c (ix2 i j)) (fun j e => a3 m c (ix2 j e)) (fun i => a4 m c (ix2 0 i)) (x 2)

/-- What a point leaves, from its blocks. -/
theorem out_at (x0 : Vec Ideal S1x256x1024 .f32) (x1 : Vec Ideal S1x1024 .f32) (x2 : Vec Ideal S1024x5632 .bf16) (x3 : Vec Ideal S2816x1024 .bf16) (x4 : Vec Ideal S1x1024 .f32)
    (r : Fin 256) (e : Fin 1024) : out0_5 x0 x1 x2 x3 x4 (ix3 0 r e)
      = result (fun i => x0 (ix3 0 r i)) (fun i => x1 (ix2 0 i)) (fun i j => x2 (ix2 i j)) (fun j e => x3 (ix2 j e)) (fun i => x4 (ix2 0 i)) e := by
  have h3 : (![0, 0, 0] : Fin 3 → ℕ) = fun _ => 0 := funext fun a => by fin_cases a <;> rfl
  have h2 : (![0, 0] : Fin 2 → ℕ) = fun _ => 0 := funext fun a => by fin_cases a <;> rfl
  unfold out0_5
  rw [View.canon_unit_zero h3, View.ld_unit_zero h3, View.ld_unit_zero h2, View.ld_unit_zero h2, View.ld_unit_zero h2]
  refine point_at x0 x1 _ _ x3 x4 (fun i j => x2 (ix2 i j)) (fun i j => ?_) (fun i j => ?_) r e
  · refine congrArg x2 (funext fun a => ?_)
    match a with
    | 0 => exact Fin.ext (by show 0 + 1 * i.val = i.val; omega)
    | 1 => exact Fin.ext (by show 0 + 1 * j.val = j.val; omega)
  · refine congrArg x2 (funext fun a => ?_)
    match a with
    | 0 => exact Fin.ext (by show 0 + 1 * i.val = i.val; omega)
    | 1 => exact Fin.ext (by show 2816 + 1 * j.val = 2816 + j.val; omega)

/-- The result array after the run. -/
theorem final : (dats m 0 c).arrAt 5 cfg0.N = G m c := by
  refine (dats m 0 c).arrAt_eq_of_covers 5 _ (by decide +kernel) fun t hf y => ?_
  blk_simp
  rw [after0_5]
  have hy0 : (y 0).val < 1 := (y 0).isLt
  have hy1 : (y 1).val < 256 := (y 1).isLt
  have hy2 : (y 2).val < 1024 := (y 2).isLt
  have hy : y = (ix3 0 ⟨(y 1).val, hy1⟩ ⟨(y 2).val, hy2⟩ : S1x256x1024.Idx) := by
    funext a
    match a with
    | 0 => exact Fin.ext (by show (y 0).val = 0; omega)
    | 1 => rfl
    | 2 => rfl
  have ht := tlt t
  have he : (win0_5.blk t).view.emb y
      = (ix3 ⟨t.val / 64, by omega⟩ ⟨256 * (t.val % 64) + (y 1).val, by omega⟩ ⟨(y 2).val, hy2⟩ : S2x16384x1024.Idx) := by
    blk_ext [idx t]
  refine (congrArg (out0_5 (iblk m c 0 t) (iblk m c 1 t) (iblk m c 2 t) (iblk m c 3 t) (iblk m c 4 t)) hy).trans ?_
  refine (out_at _ _ _ _ _ _ _).trans ?_
  refine Eq.trans ?_ (congrArg (G m c) he).symm
  unfold G
  simp only [b0, b1, b2, b3, b4]
  rfl

end Cert.FfnIdeal.Step

end
-- ==== Proof.FfnRef.lean ====
/- The feed-forward reference as a composition of steps, each read at an index. -/
module

public import proofs.«01_k».proof.Proof.Gen.FfnReferenceIdeal.Run
public import proofs.«01_k».proof.Proof.FfnRows
public import Idealize.ShloMosaic.Lib.Pointwise

@[expose] public section

set_option maxRecDepth 16384

noncomputable section

namespace Cert.FfnReferenceIdeal.Step

open Cert.FfnReferenceIdeal Cert.FfnReferenceIdeal.Gen Cert.FfnReferenceIdeal.Value Idealize.ShloMosaic Idealize.ShloMosaic.TcCoe Idealize.SL.Sem Idealize.ShloMosaic.StableHlo Cert.FfnSpec

/-- The reciprocal root of each row's mean square. -/
def scR (x : FVec Ideal S2x16384x1024 .f32) : FVec Ideal S2x16384x1 .f32 :=
  Host.rsqrt (addf (Host.divf (broadcastInDim S2x16384x1 ![0, 1] bcast_S2x16384_S2x16384x1_0_1 (Host.reduceAdd (mulf x x) (constant (F := Ideal) S_ .f32 0x00000000#32) reducesTo_S2x16384x1024_S2x16384_d2 h_S_))
    (broadcastInDim S2x16384x1 ![] bcast_S_S2x16384x1 (constant (F := Ideal) S_ .f32 0x44800000#32))) (broadcastInDim S2x16384x1 ![] bcast_S_S2x16384x1 (constant (F := Ideal) S_ .f32 0x358637BD#32)))

/-- The normalised rows. -/
def nR (x : FVec Ideal S2x16384x1024 .f32) (g : FVec Ideal S1x1024 .f32) : FVec Ideal S2x16384x1024 .f32 :=
  mulf (mulf x (broadcastInDim S2x16384x1024 ![0, 1, 2] bcast_S2x16384x1_S2x16384x1024_0_1_2 (scR x)))
    (broadcastInDim S2x16384x1024 ![0, 1, 2] bcast_S1x1x1024_S2x16384x1024_0_1_2 (broadcastInDim S1x1x1024 ![2] bcast_S1024_S1x1x1024_2 (shapeCast _ g shapeCasts_S1x1024_S1024)))

/-- The projection, both halves. -/
def pR (n : FVec Ideal S2x16384x1024 .f32) (w : FVec Ideal S1024x5632 .bf16) : FVec Ideal S2x16384x5632 .f32 :=
  Host.dotGeneral dot_S2x16384x1024_S1024x5632_S2x16384x5632_2_0_01_1_n_n none n (extf .f32 w bitsLt_bf16_f32)

/-- A row's gate times the gate's logistic. -/
def siluR (g : FVec Ideal S2x16384x2816 .f32) : FVec Ideal S2x16384x2816 .f32 :=
  mulf g (Host.divf (broadcastInDim S2x16384x2816 ![] bcast_S_S2x16384x2816 (constant (F := Ideal) S_ .f32 0x3F800000#32))
    (addf (broadcastInDim S2x16384x2816 ![] bcast_S_S2x16384x2816 (constant (F := Ideal) S_ .f32 0x3F800000#32)) (Host.exp (Host.negf g))))

/-- The gated rows. -/
def hR (p : FVec Ideal S2x16384x5632 .f32) : FVec Ideal S2x16384x2816 .f32 :=
  mulf (siluR (extractStridedSlice S2x16384x2816 ![0, 0, 0] p slices_S2x16384x5632_S2x16384x2816_0_0_0)) (extractStridedSlice S2x16384x2816 ![0, 0, 2816] p slices_S2x16384x5632_S2x16384x2816_0_0_2816)

/-- The gated rows projected back. -/
def fR (h : FVec Ideal S2x16384x2816 .f32) (w : FVec Ideal S2816x1024 .bf16) : FVec Ideal S2x16384x1024 .f32 :=
  Host.dotGeneral dot_S2x16384x2816_S2816x1024_S2x16384x1024_2_0_01_1_n_n none h (extf .f32 w bitsLt_bf16_f32)

theorem out_eq (m : (ℓ : Loc nD τ sig) → Buf (Elt Ideal) ℓ) (c : Dev nD) :
    res_main_v36 m c = addf (m ((c.tc : Thread nD τ).loc main_arg0)) (nR (fR (hR (pR (nR (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) := by
  unfold res_main_v36 nR scR fR hR siluR pR
  rfl

theorem one : Ideal.ofBits .f32 0x3F800000#32 = (1 : EReal) := by
  simp [Ideal.ofBits, Ideal.ieee, -EReal.coe_mul]
  norm_num

theorem scR_at (x : FVec Ideal S2x16384x1024 .f32) (b : Fin 2) (s : Fin 16384) : scR x (ix3 b s 0) = scale fun i => x (ix3 b s i) := by
  unfold scale
  pointwise [scR]

theorem nR_at (x : FVec Ideal S2x16384x1024 .f32) (g : FVec Ideal S1x1024 .f32) (b : Fin 2) (s : Fin 16384) (i : Fin 1024) :
    nR x g (ix3 b s i) = normed (fun i => x (ix3 b s i)) (fun i => g (ix2 0 i)) i := by
  unfold normed
  rw [← scR_at]
  pointwise [nR]

theorem pR_at (n : FVec Ideal S2x16384x1024 .f32) (w : FVec Ideal S1024x5632 .bf16) (b : Fin 2) (s : Fin 16384) (j : Fin 5632) :
    pR n w (ix3 b s j) = proj (fun i => n (ix3 b s i)) (fun i => w (ix2 i j)) := by
  unfold proj
  pointwise [pR]

theorem siluR_at (g : FVec Ideal S2x16384x2816 .f32) (b : Fin 2) (s : Fin 16384) (j : Fin 2816) :
    siluR g (ix3 b s j) = g (ix3 b s j) * Ideal.logistic (g (ix3 b s j)) := by
  unfold Ideal.logistic
  rw [← one]
  pointwise [siluR]

theorem hR_at (p : FVec Ideal S2x16384x5632 .f32) (b : Fin 2) (s : Fin 16384) (j : Fin 2816) :
    hR p (ix3 b s j) = p (ix3 b s ⟨j.val, by omega⟩) * Ideal.logistic (p (ix3 b s ⟨j.val, by omega⟩)) * p (ix3 b s ⟨2816 + j.val, by omega⟩) := by
  have e : hR p (ix3 b s j) = siluR (extractStridedSlice S2x16384x2816 ![0, 0, 0] p slices_S2x16384x5632_S2x16384x2816_0_0_0) (ix3 b s j) * p (ix3 b s ⟨2816 + j.val, by omega⟩) := by
    pointwise [hR]
  have e' : (extractStridedSlice S2x16384x2816 ![0, 0, 0] p slices_S2x16384x5632_S2x16384x2816_0_0_0) (ix3 b s j) = p (ix3 b s ⟨j.val, by omega⟩) := by
    pointwise []
  rw [e, siluR_at, e']

theorem fR_at (h : FVec Ideal S2x16384x2816 .f32) (w : FVec Ideal S2816x1024 .bf16) (b : Fin 2) (s : Fin 16384) (e : Fin 1024) :
    fR h w (ix3 b s e) = back (fun j => h (ix3 b s j)) (fun j e => w (ix2 j e)) e := by
  unfold back
  pointwise [fR]

/-- The reference's result, row by row. -/
theorem result_at (x : FVec Ideal S2x16384x1024 .f32) (g : FVec Ideal S1x1024 .f32) (w : FVec Ideal S1024x5632 .bf16) (w' : FVec Ideal S2816x1024 .bf16) (g' : FVec Ideal S1x1024 .f32)
    (b : Fin 2) (s : Fin 16384) (e : Fin 1024) :
    addf x (nR (fR (hR (pR (nR x g) w)) w') g') (ix3 b s e)
      = result (fun i => x (ix3 b s i)) (fun i => g (ix2 0 i)) (fun i j => w (ix2 i j)) (fun j e => w' (ix2 j e)) (fun i => g' (ix2 0 i)) e := by
  refine congrArg (x (ix3 b s e) + ·) ((nR_at _ _ _ _ _).trans ?_)
  unfold gated
  simp only [fR_at, hR_at, pR_at, nR_at]

end Cert.FfnReferenceIdeal.Step

end
-- ==== Proof.CrossRows.lean ====
/- One row of the mixing and cross attention over the extended reals: the mixed row, the query row, the heads' averages of the
   values and the row added to the input; and the two ways of writing one head's average. -/
module

public import proofs.«01_k».proof.Proof.FfnRows
public import proofs.«01_k».proof.Proof.Softmax

@[expose] public section

noncomputable section

namespace Cert.CrossSpec

open Idealize.ShloMosaic Cert.FfnSpec Finset

/-- The three parts of a row, projected together. -/
def mixed (od om : Fin 256 → EReal) (os : Fin 512 → EReal) (w : Fin 1024 → Fin 1024 → EReal) (e : Fin 1024) : EReal :=
  (∑ i : Fin 256, od i * w ⟨i.val, by omega⟩ e) + (∑ i : Fin 256, om i * w ⟨256 + i.val, by omega⟩ e) + ∑ i : Fin 512, os i * w ⟨512 + i.val, by omega⟩ e

/-- The row with its normalised mix added. -/
def middle (x : Fin 1024 → EReal) (od om : Fin 256 → EReal) (os : Fin 512 → EReal) (w : Fin 1024 → Fin 1024 → EReal) (g : Fin 1024 → EReal) (e : Fin 1024) : EReal :=
  x e + normed (mixed od om os w) g e

/-- The query row. -/
def query (x g : Fin 1024 → EReal) (w : Fin 1024 → Fin 1024 → EReal) (j : Fin 1024) : EReal := proj (normed x g) fun i => w i j

/-- A head's score of one key, without the scale. -/
def score (q : Fin 1024 → EReal) (k : Fin 256 → Fin 1024 → EReal) (h : Fin 4) (n : Fin 256) : EReal :=
  ∑ l : Fin 256, q ⟨256 * h.val + l.val, by omega⟩ * k n ⟨256 * h.val + l.val, by omega⟩

/-- The average of the values `v` by the softmax of the real scores `f`. -/
def average (f : Fin 256 → ℝ) (v : Fin 256 → EReal) : EReal :=
  ∑ n : Fin 256, v n * ((Real.exp (f n) / ∑ j : Fin 256, Real.exp (f j) : ℝ) : EReal)

/-- The heads' averages side by side. -/
def heads (q : Fin 1024 → EReal) (k v : Fin 256 → Fin 1024 → EReal) (i : Fin 1024) : EReal :=
  average (fun n => (score q k ⟨i.val / 256, by omega⟩ n).toReal * (1 / 16)) fun n => v n i

/-- A row projected back. -/
def out (o : Fin 1024 → EReal) (w : Fin 1024 → Fin 1024 → EReal) (e : Fin 1024) : EReal := ∑ i : Fin 1024, o i * w i e

/-- The result row. -/
def result (x : Fin 1024 → EReal) (od om : Fin 256 → EReal) (os : Fin 512 → EReal) (w : Fin 1024 → Fin 1024 → EReal) (gm gx : Fin 1024 → EReal)
    (wq : Fin 1024 → Fin 1024 → EReal) (k v : Fin 256 → Fin 1024 → EReal) (wo : Fin 1024 → Fin 1024 → EReal) (go : Fin 1024 → EReal) (e : Fin 1024) : EReal :=
  middle x od om os w gm e + normed (out (heads (query (middle x od om os w gm) gx wq) k v) wo) go e

theorem lit1024 : Ideal.ofBits .f32 0x44800000#32 = ((1024 : ℝ) : EReal) := by
  simp [Ideal.ofBits, Ideal.ieee, -EReal.coe_mul]; norm_num

theorem neg_inf : Ideal.ofBits .f32 0xFF800000#32 = (⊥ : EReal) := by
  simp [Ideal.ofBits, Ideal.ieee, -EReal.coe_mul]

theorem tiny : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem rsqrt_pos {r : ℝ} (h : 0 < r) : Ideal.rsqrt (r : EReal) = (((√r)⁻¹ : ℝ) : EReal) := by
  show (if r < 0 then (⊥ : EReal) else if r = 0 then ⊤ else (((√r)⁻¹ : ℝ) : EReal)) = _
  rw [if_neg h.not_gt, if_neg h.ne']

theorem sq_nonneg (x : EReal) : 0 ≤ x * x := by
  induction x with
  | bot => simp
  | top => simp
  | coe r => rw [← EReal.coe_mul]; exact_mod_cast mul_self_nonneg r

/-- A normalised row is real when its gains are: an infinite entry makes the scale zero. -/
theorem normed_real (x g : Fin 1024 → EReal) (hg : ∀ i, ∃ r : ℝ, g i = (r : EReal)) (i : Fin 1024) : ∃ r : ℝ, normed x g i = (r : EReal) := by
  obtain ⟨c, hc⟩ := hg i
  obtain ⟨d, hd, he⟩ := tiny
  by_cases hx : ∀ j, ∃ r : ℝ, x j = (r : EReal)
  · choose y hy using hx
    have hs : scale x = (((√((∑ j, y j * y j) * (1 / 1024) + d))⁻¹ : ℝ) : EReal) := by
      unfold scale
      simp only [hy, ← EReal.coe_mul]
      rw [← Soft.coe_sum, lit1024, Ideal.div_coe (by norm_num), he, ← EReal.coe_mul, ← EReal.coe_add]
      have hp : 0 < (∑ j, y j * y j) * (1 / 1024) + d := by
        have : 0 ≤ ∑ j, y j * y j := sum_nonneg fun j _ => mul_self_nonneg _
        positivity
      exact rsqrt_pos hp
    exact ⟨_, by unfold normed; rw [hs, hy, hc, ← EReal.coe_mul, ← EReal.coe_mul]⟩
  · obtain ⟨j, hj⟩ := not_forall.mp hx
    have ht : x j * x j = ⊤ := by
      generalize x j = z at hj
      induction z with
      | bot => simp
      | top => simp
      | coe r => exact absurd ⟨r, rfl⟩ hj
    have hsum : ∑ j, x j * x j = ⊤ :=
      top_le_iff.mp (ht ▸ single_le_sum (f := fun j => x j * x j) (fun j _ => sq_nonneg (x j)) (mem_univ j))
    have hs : scale x = 0 := by
      unfold scale
      rw [hsum, lit1024, Ideal.div_coe (by norm_num), he, EReal.top_mul_coe_of_pos (by norm_num), EReal.top_add_coe]
      rfl
    exact ⟨0, by unfold normed; rw [hs, mul_zero, zero_mul]; rfl⟩

/-- A sum of products of reals is real. -/
theorem dot_real {n : ℕ} (a b : Fin n → EReal) (ha : ∀ i, ∃ r : ℝ, a i = (r : EReal)) (hb : ∀ i, ∃ r : ℝ, b i = (r : EReal)) :
    ∃ r : ℝ, ∑ i, a i * b i = (r : EReal) := by
  choose f hf using ha
  choose g hg using hb
  simp only [hf, hg, ← EReal.coe_mul]
  exact ⟨_, (Soft.coe_sum _ _).symm⟩

theorem query_real (x g : Fin 1024 → EReal) (w : Fin 1024 → Fin 1024 → EReal) (hg : ∀ i, ∃ r : ℝ, g i = (r : EReal)) (hw : ∀ i j, ∃ r : ℝ, w i j = (r : EReal))
    (j : Fin 1024) : ∃ r : ℝ, query x g w j = (r : EReal) :=
  dot_real _ _ (normed_real x g hg) fun i => hw i j

theorem score_real (q : Fin 1024 → EReal) (k : Fin 256 → Fin 1024 → EReal) (hq : ∀ i, ∃ r : ℝ, q i = (r : EReal)) (hk : ∀ n i, ∃ r : ℝ, k n i = (r : EReal))
    (h : Fin 4) (n : Fin 256) : ∃ r : ℝ, score q k h n = (r : EReal) :=
  dot_real _ _ (fun _ => hq _) fun _ => hk _ _

/-- The score of a query scaled by a real is the scaled score. -/
theorem score_scaled (q : Fin 1024 → EReal) (k : Fin 256 → Fin 1024 → EReal) (hq : ∀ i, ∃ r : ℝ, q i = (r : EReal)) (hk : ∀ n i, ∃ r : ℝ, k n i = (r : EReal))
    (c : ℝ) (h : Fin 4) (n : Fin 256) : score (fun i => q i * (c : EReal)) k h n = (((score q k h n).toReal * c : ℝ) : EReal) := by
  choose f hf using hq
  choose g hg using hk
  unfold score
  simp only [hf, hg, ← EReal.coe_mul]
  rw [← Soft.coe_sum, ← Soft.coe_sum, EReal.toReal_coe, sum_mul]
  congr 1
  exact sum_congr rfl fun l _ => by ring

/-- A sum times a nonnegative real is the sum of the products. -/
theorem sum_mul_real {n : ℕ} (a : Fin n → EReal) {c : ℝ} (hc : 0 ≤ c) : (∑ i, a i) * (c : EReal) = ∑ i, a i * (c : EReal) := by
  have H : ∀ s : Finset (Fin n), (∑ i ∈ s, a i) * (c : EReal) = ∑ i ∈ s, a i * (c : EReal) := fun s => by
    induction s using Finset.induction_on with
    | empty => simp
    | insert b s hb ih =>
      rw [sum_insert hb, sum_insert hb, ← ih]
      exact EReal.right_distrib_of_nonneg_of_ne_top (by exact_mod_cast hc) (EReal.coe_ne_top c) _ _
  exact H univ

/-- The average as a quotient of sums of powers of two, from any real `M`. -/
theorem average_pow (S v : Fin 256 → EReal) (M : EReal) (f : Fin 256 → ℝ) (hS : ∀ n, S n = ((f n * (Real.log 2)⁻¹ : ℝ) : EReal)) (hM : ∃ r : ℝ, M = (r : EReal)) :
    Ideal.div (∑ n, Ideal.exp2 (S n - M) * v n) (∑ n, Ideal.exp2 (S n - M)) = average f v := by
  obtain ⟨m, rfl⟩ := hM
  have hl : Real.log 2 ≠ 0 := (Real.log_pos (by norm_num)).ne'
  have he := Real.exp_pos (-(Real.log 2 * m))
  have hp : 0 < ∑ n, Real.exp (f n) := sum_pos (fun n _ => Real.exp_pos _) ⟨0, mem_univ _⟩
  have hw : ∀ n, Ideal.exp2 (S n - (m : EReal)) = ((Real.exp (f n) * Real.exp (-(Real.log 2 * m)) : ℝ) : EReal) := fun n => by
    rw [hS, ← EReal.coe_sub, Ideal.exp2_coe, Soft.rpow_two]
    congr 3
    field_simp
  simp only [hw]
  rw [← Soft.coe_sum, ← sum_mul, Ideal.div_coe (mul_pos hp he).ne', sum_mul_real _ (by positivity)]
  unfold average
  refine sum_congr rfl fun n _ => ?_
  rw [mul_comm _ (v n), mul_assoc, ← EReal.coe_mul]
  congr 2
  field_simp

/-- The average by its weights, each a quotient of exponentials, from any real `M`. -/
theorem average_exp (S v : Fin 256 → EReal) (M : EReal) (f : Fin 256 → ℝ) (hS : ∀ n, S n = (f n : EReal)) (hM : ∃ r : ℝ, M = (r : EReal)) :
    ∑ n, v n * Ideal.div (Ideal.exp (S n - M)) (∑ j, Ideal.exp (S j - M)) = average f v := by
  obtain ⟨m, rfl⟩ := hM
  have he := Real.exp_pos (-m)
  have hp : 0 < ∑ n, Real.exp (f n) := sum_pos (fun n _ => Real.exp_pos _) ⟨0, mem_univ _⟩
  have hw : ∀ n, Ideal.exp (S n - (m : EReal)) = ((Real.exp (f n) * Real.exp (-m) : ℝ) : EReal) := fun n => by
    rw [hS, ← EReal.coe_sub, Ideal.exp_coe, sub_eq_add_neg, Real.exp_add]
  simp only [hw]
  rw [← Soft.coe_sum, ← sum_mul]
  unfold average
  refine sum_congr rfl fun n _ => congrArg (v n * ·) ?_
  rw [Ideal.div_coe (mul_pos hp he).ne', ← EReal.coe_mul]
  congr 1
  field_simp

/-- A sum over a row in three parts. -/
theorem sum_parts (f : Fin 1024 → EReal) : ∑ i, f i = (∑ i : Fin 256, f ⟨i.val, by omega⟩) + (∑ i : Fin 256, f ⟨256 + i.val, by omega⟩) + ∑ i : Fin 512, f ⟨512 + i.val, by omega⟩ := by
  refine (Fin.sum_univ_add (a := 512) (b := 512) f).trans (congrArg₂ (· + ·) ?_ rfl)
  exact Fin.sum_univ_add (a := 256) (b := 256) fun i => f (Fin.castAdd 512 i)

end Cert.CrossSpec

end
-- ==== Proof.CrossSteps.lean ====
/- The mixing kernel's point as a composition of steps, each read at an index. -/
module

public import proofs.«01_k».proof.Proof.Gen.CrossIdeal.Frame
public import proofs.«01_k».proof.Proof.CrossRows
import Idealize.ShloMosaic.Lib.Pipeline.ValueKit
public import Idealize.ShloMosaic.Lib.Pointwise

@[expose] public section

set_option maxRecDepth 16384

noncomputable section

namespace Cert.CrossIdeal.Step

open Cert.CrossIdeal Cert.CrossIdeal.Gen Idealize.ShloMosaic Idealize.ShloMosaic.TcCoe Cert.CrossSpec
open Cert.FfnSpec (scale normed proj)

/-- The reciprocal root of each row's mean square. -/
def scK (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- The normalised rows. -/
def nK (x : FVec Ideal S512x1024 .f32) (g : Vec Ideal S1x1024 .f32) : FVec Ideal S512x1024 .f32 :=
  mulf (mulf x (broadcastTo S512x1024 (scK x) broadcasts_S512x1_S512x1024)) (broadcastTo S512x1024 g broadcasts_S1x1024_S512x1024)

/-- The mixed rows. -/
def mixK (v0 : Vec Ideal S1x512x256 .bf16) (v2 : Vec Ideal S256x1024 .bf16) (v4 : Vec Ideal S1x512x256 .bf16) (v6 : Vec Ideal S256x1024 .bf16) (v9 : Vec Ideal S1x512x512 .bf16)
    (v11 : Vec Ideal S512x1024 .bf16) : FVec Ideal S512x1024 .f32 :=
  addf (addf (matmul (φ₁ := .bf16) (φ₂ := .bf16) dot_S512x256_S256x1024_S512x1024_1_0_0_1_n_n none (shapeCast S512x256 v0 shapeCasts_S1x512x256_S512x256) v2 (constant S512x1024 .f32 0x00000000#32))
    (matmul (φ₁ := .bf16) (φ₂ := .bf16) dot_S512x256_S256x1024_S512x1024_1_0_0_1_n_n none (shapeCast S512x256 v4 shapeCasts_S1x512x256_S512x256) v6 (constant S512x1024 .f32 0x00000000#32)))
    (matmul (φ₁ := .bf16) (φ₂ := .bf16) dot_S512x512_S512x1024_S512x1024_1_0_0_1_n_n none (shapeCast S512x512 v9 shapeCasts_S1x512x512_S512x512) v11 (constant S512x1024 .f32 0x00000000#32))

/-- The scaled query rows, from the normalised rows. -/
def qK (n : FVec Ideal S512x1024 .f32) (w : Vec Ideal S1024x1024 .bf16) : FVec Ideal S512x1024 .bf16 :=
  truncf .bf16 (mulf (matmul (φ₂ := .bf16) dot_S512x1024_S1024x1024_S512x1024_1_0_0_1_n_n none (truncf .bf16 n bitsLt_bf16_f32) w (constant S512x1024 .f32 0x00000000#32))
    (broadcast S512x1024 (Named.named κ "xscale_log2e" 0x3DB8AA3B#32 : Ideal .f32))) bitsLt_bf16_f32

/-- One head's scores. -/
def sK (q : FVec Ideal S512x256 .bf16) (k : Vec Ideal S1x256x256 .bf16) : FVec Ideal S512x256 .f32 :=
  matmul (φ₂ := .bf16) dot_S512x256_S256x256_S512x256_1_1_0_0_n_n none q (shapeCast S256x256 k shapeCasts_S1x256x256_S256x256 : FVec Ideal S256x256 .bf16) (constant S512x256 .f32 0x00000000#32)

/-- Each row's greatest score. -/
def maxK (s : FVec Ideal S512x256 .f32) : FVec Ideal S512 .f32 := multiReduction .maximumf [1] S512 s 0xFF800000#32 reduces_S512x256_S512 (.inl rfl) rfl

/-- The powers of the scores, from each row's greatest. -/
def powK (s : FVec Ideal S512x256 .f32) : FVec Ideal S512x256 .f32 :=
  exp2 (subf s (broadcastTo S512x256 (shapeCast S512x1 (maxK s) shapeCasts_S512_S512x1) broadcasts_S512x1_S512x256))

/-- One head's averages, from the powers. -/
def avK (p : FVec Ideal S512x256 .f32) (v : Vec Ideal S1x256x256 .bf16) : FVec Ideal S512x256 .bf16 :=
  truncf .bf16 (divf (matmul (φ₂ := .bf16) dot_S512x256_S256x256_S512x256_1_0_0_1_n_n none (truncf .bf16 p bitsLt_bf16_f32)
      (shapeCast S256x256 v shapeCasts_S1x256x256_S256x256 : FVec Ideal S256x256 .bf16) (constant S512x256 .f32 0x00000000#32))
    (broadcastTo S512x256 (shapeCast S512x1 (multiReduction .add [1] S512 p 0x00000000#32 reduces_S512x256_S512 (.inl rfl) rfl) shapeCasts_S512_S512x1) broadcasts_S512x1_S512x256)) bitsLt_bf16_f32

/-- Four heads side by side. -/
def catK (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1

/-- The rows projected back. -/
def oK (h : FVec Ideal S512x1024 .bf16) (w : Vec Ideal S1024x1024 .bf16) : FVec Ideal S512x1024 .f32 :=
  matmul (φ₂ := .bf16) dot_S512x1024_S1024x1024_S512x1024_1_0_0_1_n_n none h w (constant S512x1024 .f32 0x00000000#32)

/-- The four heads of the query rows. -/
def hqK (q : FVec Ideal S512x1024 .bf16) (h : Fin 4) : FVec Ideal S512x256 .bf16 :=
  match h with
  | 0 => extractStridedSlice S512x256 ![0, 0] q slices_S512x1024_o0_0_S512x256
  | 1 => extractStridedSlice S512x256 ![0, 256] q slices_S512x1024_o0_256_S512x256
  | 2 => extractStridedSlice S512x256 ![0, 512] q slices_S512x1024_o0_512_S512x256
  | 3 => extractStridedSlice S512x256 ![0, 768] q slices_S512x1024_o0_768_S512x256

section
variable (v0 : Vec Ideal S1x512x256 .bf16) (v2 : Vec Ideal S256x1024 .bf16) (v4 : Vec Ideal S1x512x256 .bf16) (v6 : Vec Ideal S256x1024 .bf16) (v9 : Vec Ideal S1x512x512 .bf16)
  (v11 : Vec Ideal S512x1024 .bf16) (v14 : Vec Ideal S1x512x1024 .f32) (v16 : Vec Ideal S1x1024 .f32)
  (x : FVec Ideal S512x1024 .f32) (g : Vec Ideal S1x1024 .f32) (w : Vec Ideal S1024x1024 .bf16) (q : FVec Ideal S512x1024 .bf16) (k v : Vec Ideal S1x256x256 .bf16)

theorem pay2_eq : k0_pay2 v0 v2 v4 v6 v9 v11 v14 v16
    = addf (shapeCast S512x1024 v14 shapeCasts_S1x512x1024_S512x1024 : FVec Ideal S512x1024 .f32) (nK (mixK v0 v2 v4 v6 v9 v11) v16) := rfl

theorem pay3_eq : k0_pay3 x g w = qK (nK x g) w := rfl

theorem pay4_eq : k0_pay4 x g w k v = avK (powK (sK (hqK (k0_pay3 x g w) 0) k)) v := rfl

theorem pay7_eq : k0_pay7 (k0_pay5 x g w) (k0_pay6 k) v = avK (powK (sK (hqK (k0_pay3 x g w) 1) k)) v := rfl

theorem pay8_eq : k0_pay8 q k v = avK (powK (sK (hqK q 2) k)) v := rfl

theorem pay1_eq (a b c : FVec Ideal S512x256 .bf16) : k0_pay1 x a b c (k0_pay9 q k) (k0_pay10 q k) v w g
    = shapeCast S1x512x1024 (addf x (nK (oK (catK a b c (avK (powK (sK (hqK q 3) k)) v)) w) g)) shapeCasts_S512x1024_S1x512x1024 := rfl

end

section
variable (r : Fin 512)

theorem scK_at (x : FVec Ideal S512x1024 .f32) : scK x (ix2 r 0) = scale fun i => x (ix2 r i) := by
  unfold scale
  pointwise [scK]

theorem nK_at (x : FVec Ideal S512x1024 .f32) (g : Vec Ideal S1x1024 .f32) (i : Fin 1024) :
    nK x g (ix2 r i) = normed (fun i => x (ix2 r i)) (fun i => g (ix2 0 i)) i := by
  unfold normed
  rw [← scK_at]
  pointwise [nK]

theorem mixK_at (v0 : Vec Ideal S1x512x256 .bf16) (v2 : Vec Ideal S256x1024 .bf16) (v4 : Vec Ideal S1x512x256 .bf16) (v6 : Vec Ideal S256x1024 .bf16) (v9 : Vec Ideal S1x512x512 .bf16)
    (v11 : Vec Ideal S512x1024 .bf16) (e : Fin 1024) : mixK v0 v2 v4 v6 v9 v11 (ix2 r e)
      = (∑ i : Fin 256, v0 (ix3 0 r i) * v2 (ix2 i e)) + (∑ i : Fin 256, v4 (ix3 0 r i) * v6 (ix2 i e)) + ∑ i : Fin 512, v9 (ix3 0 r i) * v11 (ix2 i e) := by
  pointwise [mixK]

theorem κ_val : (Named.named κ "xscale_log2e" 0x3DB8AA3B#32 : Ideal .f32) = ((1 / 16 * (Real.log 2)⁻¹ : ℝ) : EReal) :=
  IdealRules.named_const.ideal_named_scalar _ _ _ _ rfl

theorem qK_at (n : FVec Ideal S512x1024 .f32) (w : Vec Ideal S1024x1024 .bf16) (j : Fin 1024) :
    qK n w (ix2 r j) = proj (fun i => n (ix2 r i)) (fun i => w (ix2 i j)) * ((1 / 16 * (Real.log 2)⁻¹ : ℝ) : EReal) := by
  unfold proj
  rw [← κ_val]
  pointwise [qK]

theorem sK_at (q : FVec Ideal S512x256 .bf16) (k : Vec Ideal S1x256x256 .bf16) (n : Fin 256) : sK q k (ix2 r n) = ∑ l : Fin 256, q (ix2 r l) * k (ix3 0 n l) := by
  pointwise [sK]

theorem powK_at (s : FVec Ideal S512x256 .f32) (n : Fin 256) : powK s (ix2 r n) = Ideal.exp2 (s (ix2 r n) - maxK s (ix1 r)) := by
  pointwise [powK]
  rfl

theorem avK_at (p : FVec Ideal S512x256 .f32) (v : Vec Ideal S1x256x256 .bf16) (d : Fin 256) :
    avK p v (ix2 r d) = Ideal.div (∑ n : Fin 256, p (ix2 r n) * v (ix3 0 n d)) (∑ n : Fin 256, p (ix2 r n)) := by
  pointwise [avK]

theorem maxK_real (s : FVec Ideal S512x256 .f32) (hs : ∀ n, ∃ x : ℝ, s (ix2 r n) = (x : EReal)) : ∃ x : ℝ, maxK s (ix1 r) = (x : EReal) := by
  choose f hf using hs
  obtain ⟨x, hx⟩ := Soft.fold_max_real f
  refine ⟨x, Eq.trans ?_ hx⟩
  simp only [← hf]
  pointwise [maxK]
  rw [neg_inf]

theorem catK_at (f : Fin 4 → FVec Ideal S512x256 .bf16) (h : Fin 4) (d : Fin 256) :
    catK (f 0) (f 1) (f 2) (f 3) (ix2 r ⟨256 * h.val + d.val, by omega⟩) = f h (ix2 r d) := by
  match h with
  | 0 => pointwise [catK]
  | 1 => pointwise [catK]
  | 2 =>
    pointwise [catK]
    rw [dif_neg (by omega), dif_neg (by omega), dif_pos (by omega)]
    exact congrArg (f 2) (congrArg (fun z => ix2 r z) (Fin.ext (by simp only []; omega)))
  | 3 =>
    pointwise [catK]
    rw [dif_neg (by omega), dif_neg (by omega), dif_neg (by omega)]
    exact congrArg (f 3) (congrArg (fun z => ix2 r z) (Fin.ext (by simp only []; omega)))

theorem oK_at (h : FVec Ideal S512x1024 .bf16) (w : Vec Ideal S1024x1024 .bf16) (e : Fin 1024) :
    oK h w (ix2 r e) = out (fun j => h (ix2 r j)) (fun j e => w (ix2 j e)) e := by
  unfold out
  pointwise [oK]

theorem hqK_at (q : FVec Ideal S512x1024 .bf16) (h : Fin 4) (l : Fin 256) : hqK q h (ix2 r l) = q (ix2 r ⟨256 * h.val + l.val, by omega⟩) := by
  match h with
  | 0 => pointwise [hqK]
  | 1 => pointwise [hqK]
  | 2 => pointwise [hqK]
  | 3 => pointwise [hqK]

end

end Cert.CrossIdeal.Step

end
-- ==== Proof.CrossPoint.lean ====
/- What the mixing kernel's point leaves in its block, row by row, when the gain before the queries, the query weights and the keys are real. -/
module

public import proofs.«01_k».proof.Proof.CrossSteps

@[expose] public section

set_option maxRecDepth 16384

noncomputable section

namespace Cert.CrossIdeal.Step

open Cert.CrossIdeal Cert.CrossIdeal.Gen Idealize.ShloMosaic Idealize.ShloMosaic.TcCoe Cert.CrossSpec
open Cert.FfnSpec (scale normed proj)

/-- One head's averages, from the scaled query rows. -/
theorem head_at (q : FVec Ideal S512x1024 .bf16) (k v : Vec Ideal S1x256x256 .bf16) (h : Fin 4) (r : Fin 512) (d : Fin 256)
    (Q : Fin 1024 → EReal) (K : Fin 256 → Fin 1024 → EReal) (hq : ∀ j, q (ix2 r j) = Q j * ((1 / 16 * (Real.log 2)⁻¹ : ℝ) : EReal))
    (hQ : ∀ j, ∃ x : ℝ, Q j = (x : EReal)) (hk : ∀ n (l : Fin 256), k (ix3 0 n l) = K n ⟨256 * h.val + l.val, by omega⟩) (hK : ∀ n i, ∃ x : ℝ, K n i = (x : EReal)) :
    avK (powK (sK (hqK q h) k)) v (ix2 r d) = average (fun n => (score Q K h n).toReal * (1 / 16)) fun n => v (ix3 0 n d) := by
  have hs : ∀ n, sK (hqK q h) k (ix2 r n) = (((score Q K h n).toReal * (1 / 16) * (Real.log 2)⁻¹ : ℝ) : EReal) := fun n => by
    rw [mul_assoc, ← score_scaled Q K hQ hK, sK_at]
    unfold score
    simp only [hqK_at, hq, hk]
  rw [avK_at]
  simp only [powK_at]
  exact average_pow _ _ _ _ hs (maxK_real r _ fun n => ⟨_, hs n⟩)

theorem pay2_at (v0 : Vec Ideal S1x512x256 .bf16) (v2 : Vec Ideal S256x1024 .bf16) (v4 : Vec Ideal S1x512x256 .bf16) (v6 : Vec Ideal S256x1024 .bf16) (v9 : Vec Ideal S1x512x512 .bf16)
    (v11 : Vec Ideal S512x1024 .bf16) (v14 : Vec Ideal S1x512x1024 .f32) (v16 : Vec Ideal S1x1024 .f32) (w : Fin 1024 → Fin 1024 → EReal)
    (h2 : ∀ (i : Fin 256) e, v2 (ix2 i e) = w ⟨i.val, by omega⟩ e) (h6 : ∀ (i : Fin 256) e, v6 (ix2 i e) = w ⟨256 + i.val, by omega⟩ e)
    (h11 : ∀ (i : Fin 512) e, v11 (ix2 i e) = w ⟨512 + i.val, by omega⟩ e) (r : Fin 512) (e : Fin 1024) :
    k0_pay2 v0 v2 v4 v6 v9 v11 v14 v16 (ix2 r e)
      = middle (fun i => v14 (ix3 0 r i)) (fun i => v0 (ix3 0 r i)) (fun i => v4 (ix3 0 r i)) (fun i => v9 (ix3 0 r i)) w (fun i => v16 (ix2 0 i)) e := by
  have e0 : (shapeCast S512x1024 v14 shapeCasts_S1x512x1024_S512x1024 : FVec Ideal S512x1024 .f32) (ix2 r e) = v14 (ix3 0 r e) := by
    pointwise []
  rw [pay2_eq]
  unfold middle mixed
  refine congrArg₂ (fun a b : EReal => a + b) e0 ((nK_at r _ _ e).trans ?_)
  simp only [mixK_at, h2, h6, h11]

/-- What a point leaves in its block, from the mixed rows. -/
theorem point_at (x : FVec Ideal S512x1024 .f32) (g : Vec Ideal S1x1024 .f32) (wq wo : Vec Ideal S1024x1024 .bf16) (kk vv : Fin 4 → Vec Ideal S1x256x256 .bf16) (go : Vec Ideal S1x1024 .f32)
    (k v : Fin 256 → Fin 1024 → EReal) (hk : ∀ h n (l : Fin 256), kk h (ix3 0 n l) = k n ⟨256 * h.val + l.val, by omega⟩)
    (hv : ∀ h n (l : Fin 256), vv h (ix3 0 n l) = v n ⟨256 * h.val + l.val, by omega⟩)
    (hg : ∀ i, ∃ y : ℝ, g (ix2 0 i) = (y : EReal)) (hw : ∀ i j, ∃ y : ℝ, wq (ix2 i j) = (y : EReal)) (hK : ∀ n i, ∃ y : ℝ, k n i = (y : EReal)) (r : Fin 512) (e : Fin 1024) :
    k0_pay1 x (k0_pay4 x g wq (kk 0) (vv 0)) (k0_pay7 (k0_pay5 x g wq) (k0_pay6 (kk 1)) (vv 1)) (k0_pay8 (k0_pay3 x g wq) (kk 2) (vv 2))
        (k0_pay9 (k0_pay3 x g wq) (kk 3)) (k0_pay10 (k0_pay3 x g wq) (kk 3)) (vv 3) wo go (ix3 0 r e)
      = x (ix2 r e) + normed (out (heads (query (fun i => x (ix2 r i)) (fun i => g (ix2 0 i)) fun i j => wq (ix2 i j)) k v) fun i e => wo (ix2 i e)) (fun i => go (ix2 0 i)) e := by
  have hq : ∀ j, k0_pay3 x g wq (ix2 r j) = query (fun i => x (ix2 r i)) (fun i => g (ix2 0 i)) (fun i j => wq (ix2 i j)) j * ((1 / 16 * (Real.log 2)⁻¹ : ℝ) : EReal) := fun j => by
    rw [pay3_eq, qK_at]
    unfold query
    simp only [nK_at]
  have hQ := query_real (fun i => x (ix2 r i)) (fun i => g (ix2 0 i)) (fun i j => wq (ix2 i j)) hg hw
  rw [pay4_eq, pay7_eq, pay8_eq, pay1_eq]
  generalize k0_pay3 x g wq = q at hq
  have hc : ∀ i, catK (avK (powK (sK (hqK q 0) (kk 0))) (vv 0)) (avK (powK (sK (hqK q 1) (kk 1))) (vv 1)) (avK (powK (sK (hqK q 2) (kk 2))) (vv 2)) (avK (powK (sK (hqK q 3) (kk 3))) (vv 3)) (ix2 r i)
      = heads (query (fun i => x (ix2 r i)) (fun i => g (ix2 0 i)) fun i j => wq (ix2 i j)) k v i := fun i => by
    obtain ⟨h, d, rfl⟩ : ∃ (h : Fin 4) (d : Fin 256), i = ⟨256 * h.val + d.val, by omega⟩ :=
      ⟨⟨i.val / 256, by omega⟩, ⟨i.val % 256, by omega⟩, Fin.ext (by simp only []; omega)⟩
    refine (catK_at r (fun h => avK (powK (sK (hqK q h) (kk h))) (vv h)) h d).trans ?_
    refine (head_at q (kk h) (vv h) h r d _ k hq hQ (hk h) hK).trans ?_
    unfold heads
    simp only [hv, show (⟨(256 * h.val + d.val) / 256, by omega⟩ : Fin 4) = h from Fin.ext (by simp only []; omega)]
  refine Eq.trans (b := x (ix2 r e) + nK (oK (catK (avK (powK (sK (hqK q 0) (kk 0))) (vv 0)) (avK (powK (sK (hqK q 1) (kk 1))) (vv 1)) (avK (powK (sK (hqK q 2) (kk 2))) (vv 2)) (avK (powK (sK (hqK q 3) (kk 3))) (vv 3))) wo) go (ix2 r e)) ?_ ?_
  · generalize nK _ go = z
    pointwise []
  · rw [nK_at]
    simp only [oK_at, hc]

end Cert.CrossIdeal.Step

end
-- ==== Proof.CrossResult.lean ====
/- The mixing kernel's result array, entry by entry, from its arguments. -/
module

public import proofs.«01_k».proof.Proof.Gen.CrossIdeal.Value
public import proofs.«01_k».proof.Proof.CrossPoint
import Idealize.ShloMosaic.Lib.Pipeline.ValueKit

@[expose] public section

set_option maxRecDepth 16384

noncomputable section

namespace Cert.CrossIdeal.Step

open Cert.CrossIdeal Cert.CrossIdeal.Gen Idealize.ShloMosaic Idealize.ShloMosaic.TcCoe Idealize.SL.Sem Cert.CrossSpec
open Cert.FfnSpec (scale normed proj)

theorem idx : ∀ t : Fin cfg0.N,
    win0_0.index t = ![t.val / 32, t.val % 32, 0] ∧ win0_1.index t = ![t.val / 32, t.val % 32, 0] ∧ win0_2.index t = ![t.val / 32, t.val % 32, 0]
    ∧ win0_3.index t = ![t.val / 32, t.val % 32, 0] ∧ win0_4.index t = ![0, 0] ∧ win0_5.index t = ![0, 0] ∧ win0_6.index t = ![0, 0] ∧ win0_7.index t = ![0, 0]
    ∧ win0_8.index t = ![t.val / 32, 0, 0] ∧ win0_9.index t = ![0, 0] ∧ win0_10.index t = ![0, 0] ∧ win0_11.index t = ![t.val / 32, t.val % 32, 0] ∧ t.val / 32 < 2 :=
  (by decide +kernel : ∀ t : Fin grid0.N, _)

section
variable (m : (ℓ : Loc nD τ sig) → Buf (Elt Ideal) ℓ) (c : Dev nD) (t : Fin cfg0.N)

/-- The arguments of the call. -/
abbrev a0 : Vec Ideal S2x16384x1024 .f32 := m ((c : Thread nD τ).loc main_arg0)
abbrev a1 : Vec Ideal S2x16384x256 .bf16 := m ((c : Thread nD τ).loc main_arg1)
abbrev a2 : Vec Ideal S2x16384x256 .bf16 := m ((c : Thread nD τ).loc main_arg2)
abbrev a3 : Vec Ideal S2x16384x512 .bf16 := m ((c : Thread nD τ).loc main_arg3)
abbrev a4 : Vec Ideal S1024x1024 .bf16 := m ((c : Thread nD τ).loc main_arg4)
abbrev a5 : Vec Ideal S1x1024 .f32 := m ((c : Thread nD τ).loc main_arg5)
abbrev a6 : Vec Ideal S1x1024 .f32 := m ((c : Thread nD τ).loc main_arg6)
abbrev a7 : Vec Ideal S1024x1024 .bf16 := m ((c : Thread nD τ).loc main_arg7)
abbrev a8 : Vec Ideal S2x256x2048 .bf16 := m ((c : Thread nD τ).loc main_arg8)
abbrev a9 : Vec Ideal S1024x1024 .bf16 := m ((c : Thread nD τ).loc main_arg9)
abbrev a10 : Vec Ideal S1x1024 .f32 := m ((c : Thread nD τ).loc main_arg10)

theorem tlt : t.val < 64 := lt_of_lt_of_eq t.isLt (show cfg0.N = 64 from N_0)

theorem b0 (r : Fin 512) (i : Fin 1024) : (iblk m c 0 t : Vec Ideal S1x512x1024 .f32) (ix3 0 r i)
    = a0 m c (ix3 ⟨t.val / 32, by have := tlt t; omega⟩ ⟨512 * (t.val % 32) + r.val, by omega⟩ i) := by
  blk_ext [iblk, V, idx t, a0]
theorem b1 (r : Fin 512) (i : Fin 256) : (iblk m c 1 t : Vec Ideal S1x512x256 .bf16) (ix3 0 r i)
    = a1 m c (ix3 ⟨t.val / 32, by have := tlt t; omega⟩ ⟨512 * (t.val % 32) + r.val, by omega⟩ i) := by
  blk_ext [iblk, V, idx t, a1]
theorem b2 (r : Fin 512) (i : Fin 256) : (iblk m c 2 t : Vec Ideal S1x512x256 .bf16) (ix3 0 r i)
    = a2 m c (ix3 ⟨t.val / 32, by have := tlt t; omega⟩ ⟨512 * (t.val % 32) + r.val, by omega⟩ i) := by
  blk_ext [iblk, V, idx t, a2]
theorem b3 (r : Fin 512) (i : Fin 512) : (iblk m c 3 t : Vec Ideal S1x512x512 .bf16) (ix3 0 r i)
    = a3 m c (ix3 ⟨t.val / 32, by have := tlt t; omega⟩ ⟨512 * (t.val % 32) + r.val, by omega⟩ i) := by
  blk_ext [iblk, V, idx t, a3]
theorem b4 (i j : Fin 1024) : (iblk m c 4 t : Vec Ideal S1024x1024 .bf16) (ix2 i j) = a4 m c (ix2 i j) := by
  blk_ext [iblk, V, idx t, a4]
theorem b5 (i : Fin 1024) : (iblk m c 5 t : Vec Ideal S1x1024 .f32) (ix2 0 i) = a5 m c (ix2 0 i) := by
  blk_ext [iblk, V, idx t, a5]
theorem b6 (i : Fin 1024) : (iblk m c 6 t : Vec Ideal S1x1024 .f32) (ix2 0 i) = a6 m c (ix2 0 i) := by
  blk_ext [iblk, V, idx t, a6]
theorem b7 (i j : Fin 1024) : (iblk m c 7 t : Vec Ideal S1024x1024 .bf16) (ix2 i j) = a7 m c (ix2 i j) := by
  blk_ext [iblk, V, idx t, a7]
theorem b8 (n : Fin 256) (j : Fin 2048) : (iblk m c 8 t : Vec Ideal S1x256x2048 .bf16) (ix3 0 n j)
    = a8 m c (ix3 ⟨t.val / 32, by have := tlt t; omega⟩ n j) := by
  blk_ext [iblk, V, idx t, a8]
theorem b9 (i j : Fin 1024) : (iblk m c 9 t : Vec Ideal S1024x1024 .bf16) (ix2 i j) = a9 m c (ix2 i j) := by
  blk_ext [iblk, V, idx t, a9]
theorem b10 (i : Fin 1024) : (iblk m c 10 t : Vec Ideal S1x1024 .f32) (ix2 0 i) = a10 m c (ix2 0 i) := by
  blk_ext [iblk, V, idx t, a10]

/-- The result as one function of the arguments. -/
def G : Vec Ideal S2x16384x1024 .f32 := fun x =>
  result (fun i => a0 m c (ix3 (x 0) (x 1) i)) (fun i => a1 m c (ix3 (x 0) (x 1) i)) (fun i => a2 m c (ix3 (x 0) (x 1) i)) (fun i => a3 m c (ix3 (x 0) (x 1) i))
    (fun i j => a4 m c (ix2 i j)) (fun i => a5 m c (ix2 0 i)) (fun i => a6 m c (ix2 0 i)) (fun i j => a7 m c (ix2 i j))
    (fun n i => a8 m c (ix3 (x 0) n ⟨i.val, by omega⟩)) (fun n i => a8 m c (ix3 (x 0) n ⟨1024 + i.val, by omega⟩)) (fun i j => a9 m c (ix2 i j)) (fun i => a10 m c (ix2 0 i)) (x 2)

/-- What the precondition gives: the gain before the queries, the query weights and the keys are real. -/
structure RealKeys : Prop where
  g : ∀ x, ∃ y : ℝ, a6 m c x = (y : EReal)
  w : ∀ x, ∃ y : ℝ, a7 m c x = (y : EReal)
  k : ∀ (b : Fin 2) (n : Fin 256) (i : Fin 1024), ∃ y : ℝ, a8 m c (ix3 b n ⟨i.val, by omega⟩) = (y : EReal)

end

/-- The keys' and the values' blocks of the heads. -/
def kk (x8 : Vec Ideal S1x256x2048 .bf16) (h : Fin 4) : Vec Ideal S1x256x256 .bf16 :=
  match h with
  | 0 => View.ld x8 r0_8
  | 1 => View.ld x8 r0_10
  | 2 => View.ld x8 r0_12
  | 3 => View.ld x8 r0_14
def vv (x8 : Vec Ideal S1x256x2048 .bf16) (h : Fin 4) : Vec Ideal S1x256x256 .bf16 :=
  match h with
  | 0 => View.ld x8 r0_9
  | 1 => View.ld x8 r0_11
  | 2 => View.ld x8 r0_13
  | 3 => View.ld x8 r0_15

/-- A block of the keys and values read at an entry. -/
theorem ld_at (x8 : Vec Ideal S1x256x2048 .bf16) (o : ℕ) (inb) (n l : Fin 256) (j : Fin 2048) (hj : j.val = o + l.val) :
    (View.ld x8 (Rect.unit (s := S1x256x2048) ![0, 0, o] S1x256x256.size inb) : Vec Ideal S1x256x256 .bf16) (ix3 0 n l) = x8 (ix3 0 n j) := by
  refine congrArg x8 (funext fun a => ?_)
  match a with
  | 0 => exact Fin.ext (by show 0 + 1 * 0 = 0; omega)
  | 1 => exact Fin.ext (by show 0 + 1 * n.val = n.val; omega)
  | 2 => exact Fin.ext (by show o + 1 * l.val = j.val; omega)

theorem kk_at (x8 : Vec Ideal S1x256x2048 .bf16) (h : Fin 4) (n l : Fin 256) : kk x8 h (ix3 0 n l) = x8 (ix3 0 n ⟨256 * h.val + l.val, by omega⟩) := by
  match h with
  | 0 => exact ld_at x8 0 _ n l _ rfl
  | 1 => exact ld_at x8 256 _ n l _ rfl
  | 2 => exact ld_at x8 512 _ n l _ rfl
  | 3 => exact ld_at x8 768 _ n l _ rfl

theorem vv_at (x8 : Vec Ideal S1x256x2048 .bf16) (h : Fin 4) (n l : Fin 256) : vv x8 h (ix3 0 n l) = x8 (ix3 0 n ⟨1024 + (256 * h.val + l.val), by omega⟩) := by
  match h with
  | 0 => exact ld_at x8 1024 _ n l _ (by simp)
  | 1 => exact ld_at x8 1280 _ n l _ (by simp only []; omega)
  | 2 => exact ld_at x8 1536 _ n l _ (by simp only []; omega)
  | 3 => exact ld_at x8 1792 _ n l _ (by simp only []; omega)

/-- What a point leaves, from its blocks. -/
theorem out_at (x0 : Vec Ideal S1x512x1024 .f32) (x1 x2 : Vec Ideal S1x512x256 .bf16) (x3 : Vec Ideal S1x512x512 .bf16) (x4 : Vec Ideal S1024x1024 .bf16) (x5 x6 : Vec Ideal S1x1024 .f32)
    (x7 : Vec Ideal S1024x1024 .bf16) (x8 : Vec Ideal S1x256x2048 .bf16) (x9 : Vec Ideal S1024x1024 .bf16) (x10 : Vec Ideal S1x1024 .f32)
    (hg : ∀ i, ∃ y : ℝ, x6 (ix2 0 i) = (y : EReal)) (hw : ∀ i j, ∃ y : ℝ, x7 (ix2 i j) = (y : EReal))
    (hK : ∀ n (i : Fin 1024), ∃ y : ℝ, x8 (ix3 0 n ⟨i.val, by omega⟩) = (y : EReal)) (r : Fin 512) (e : Fin 1024) :
    out0_11 x0 x1 x2 x3 x4 x5 x6 x7 x8 x9 x10 (ix3 0 r e)
      = result (fun i => x0 (ix3 0 r i)) (fun i => x1 (ix3 0 r i)) (fun i => x2 (ix3 0 r i)) (fun i => x3 (ix3 0 r i)) (fun i j => x4 (ix2 i j)) (fun i => x5 (ix2 0 i)) (fun i => x6 (ix2 0 i))
        (fun i j => x7 (ix2 i j)) (fun n i => x8 (ix3 0 n ⟨i.val, by omega⟩)) (fun n i => x8 (ix3 0 n ⟨1024 + i.val, by omega⟩)) (fun i j => x9 (ix2 i j)) (fun i => x10 (ix2 0 i)) e := by
  have h3 : (![0, 0, 0] : Fin 3 → ℕ) = fun _ => 0 := funext fun a => by fin_cases a <;> rfl
  have h2 : (![0, 0] : Fin 2 → ℕ) = fun _ => 0 := funext fun a => by fin_cases a <;> rfl
  have hx : ∀ e, k0_pay11 x0 x1 x2 x3 x4 x5 x6 x7 x8 x9 x10 (ix2 r e)
      = middle (fun i => x0 (ix3 0 r i)) (fun i => x1 (ix3 0 r i)) (fun i => x2 (ix3 0 r i)) (fun i => x3 (ix3 0 r i)) (fun i j => x4 (ix2 i j)) (fun i => x5 (ix2 0 i)) e := fun e => by
    unfold k0_pay11
    rw [View.ld_unit_zero h3, View.ld_unit_zero h3, View.ld_unit_zero h3, View.ld_unit_zero h3, View.ld_unit_zero h2]
    refine pay2_at x1 _ x2 _ x3 _ x0 x5 (fun i j => x4 (ix2 i j)) (fun i e => ?_) (fun i e => ?_) (fun i e => ?_) r e
    · refine congrArg x4 (funext fun a => ?_)
      match a with
      | 0 => exact Fin.ext (by show 0 + 1 * i.val = i.val; omega)
      | 1 => exact Fin.ext (by show 0 + 1 * e.val = e.val; omega)
    · refine congrArg x4 (funext fun a => ?_)
      match a with
      | 0 => exact Fin.ext (by show 256 + 1 * i.val = 256 + i.val; omega)
      | 1 => exact Fin.ext (by show 0 + 1 * e.val = e.val; omega)
    · refine congrArg x4 (funext fun a => ?_)
      match a with
      | 0 => exact Fin.ext (by show 512 + 1 * i.val = 512 + i.val; omega)
      | 1 => exact Fin.ext (by show 0 + 1 * e.val = e.val; omega)
  unfold out0_11 k0_pay12
  generalize k0_pay11 x0 x1 x2 x3 x4 x5 x6 x7 x8 x9 x10 = x at hx
  rw [View.canon_unit_zero h3, View.ld_unit_zero h2, View.ld_unit_zero h2, View.ld_unit_zero h2, View.ld_unit_zero h2]
  refine (point_at x x6 x7 x9 (kk x8) (vv x8) x10 (fun n i => x8 (ix3 0 n ⟨i.val, by omega⟩)) (fun n i => x8 (ix3 0 n ⟨1024 + i.val, by omega⟩)) (kk_at x8) (vv_at x8) hg hw hK r e).trans ?_
  unfold result
  simp only [hx]

section
variable {m : (ℓ : Loc nD τ sig) → Buf (Elt Ideal) ℓ} {c : Dev nD}

/-- The result array after the run. -/
theorem final (hr : RealKeys m c) : (dats m 0 c).arrAt 11 cfg0.N = G m c := by
  refine (dats m 0 c).arrAt_eq_of_covers 11 _ (by decide +kernel) fun t hf y => ?_
  blk_simp
  rw [after0_11]
  have hy0 : (y 0).val < 1 := (y 0).isLt
  have hy1 : (y 1).val < 512 := (y 1).isLt
  have hy2 : (y 2).val < 1024 := (y 2).isLt
  have hy : y = (ix3 0 ⟨(y 1).val, hy1⟩ ⟨(y 2).val, hy2⟩ : S1x512x1024.Idx) := by
    funext a
    match a with
    | 0 => exact Fin.ext (by show (y 0).val = 0; omega)
    | 1 => rfl
    | 2 => rfl
  have ht := tlt t
  have he : (win0_11.blk t).view.emb y
      = (ix3 ⟨t.val / 32, by omega⟩ ⟨512 * (t.val % 32) + (y 1).val, by omega⟩ ⟨(y 2).val, hy2⟩ : S2x16384x1024.Idx) := by
    blk_ext [idx t]
  refine (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) hy).trans ?_
  refine (out_at _ _ _ _ _ _ _ _ _ _ _ (fun i => ?_) (fun i j => ?_) (fun n i => ?_) _ _).trans ?_
  · rw [b6]; exact hr.g _
  · rw [b7]; exact hr.w _
  · rw [b8]; exact hr.k _ n i
  refine Eq.trans ?_ (congrArg (G m c) he).symm
  unfold G
  simp only [b0, b1, b2, b3, b4, b5, b6, b7, b8, b9, b10]
  rfl

end

end Cert.CrossIdeal.Step

end
-- ==== Proof.CrossRef.lean ====
/- The cross-attention reference as a composition of steps, each read at an index. -/
module

public import proofs.«01_k».proof.Proof.Gen.CrossReferenceIdeal.Run
public import proofs.«01_k».proof.Proof.CrossRows
public import proofs.«01_k».proof.Proof.RefMax
public import Idealize.ShloMosaic.Lib.Pointwise

@[expose] public section

set_option maxRecDepth 16384

noncomputable section

namespace Cert.CrossReferenceIdeal.Step

open Cert.CrossReferenceIdeal Cert.CrossReferenceIdeal.Gen Cert.CrossReferenceIdeal.Value Idealize.ShloMosaic Idealize.ShloMosaic.TcCoe Idealize.SL.Sem Idealize.ShloMosaic.StableHlo Cert.CrossSpec
open Cert.FfnSpec (scale normed proj)

/-- The reciprocal root of each row's mean square. -/
def scR (x : FVec Ideal S2x16384x1024 .f32) : FVec Ideal S2x16384x1 .f32 :=
  Host.rsqrt (addf (Host.divf (broadcastInDim S2x16384x1 ![0, 1] bcast_S2x16384_S2x16384x1_0_1 (Host.reduceAdd (mulf x x) (constant (F := Ideal) S_ .f32 0x00000000#32) reducesTo_S2x16384x1024_S2x16384_d2 h_S_))
    (broadcastInDim S2x16384x1 ![] bcast_S_S2x16384x1 (constant (F := Ideal) S_ .f32 0x44800000#32))) (broadcastInDim S2x16384x1 ![] bcast_S_S2x16384x1 (constant (F := Ideal) S_ .f32 0x358637BD#32)))

/-- The normalised rows. -/
def nR (x : FVec Ideal S2x16384x1024 .f32) (g : FVec Ideal S1x1024 .f32) : FVec Ideal S2x16384x1024 .f32 :=
  mulf (mulf x (broadcastInDim S2x16384x1024 ![0, 1, 2] bcast_S2x16384x1_S2x16384x1024_0_1_2 (scR x)))
    (broadcastInDim S2x16384x1024 ![0, 1, 2] bcast_S1x1x1024_S2x16384x1024_0_1_2 (broadcastInDim S1x1x1024 ![2] bcast_S1024_S1x1x1024_2 (shapeCast _ g shapeCasts_S1x1024_S1024)))

/-- The three parts of each row side by side. -/
def catR (x1 x2 : FVec Ideal S2x16384x256 .bf16) (x3 : FVec Ideal S2x16384x512 .bf16) : FVec Ideal S2x16384x1024 .f32 :=
  concatenate S2x16384x1024 2 [⟨S2x16384x256, (extf .f32 x1 bitsLt_bf16_f32 : FVec Ideal S2x16384x256 .f32)⟩, ⟨S2x16384x256, (extf .f32 x2 bitsLt_bf16_f32 : FVec Ideal S2x16384x256 .f32)⟩,
    ⟨S2x16384x512, (extf .f32 x3 bitsLt_bf16_f32 : FVec Ideal S2x16384x512 .f32)⟩] concatenates_S2x16384x256_S2x16384x256_S2x16384x512_S2x16384x1024_d2

/-- A projection of the rows. -/
def pR (n : FVec Ideal S2x16384x1024 .f32) (w : FVec Ideal S1024x1024 .bf16) : FVec Ideal S2x16384x1024 .f32 :=
  Host.dotGeneral dot_S2x16384x1024_S1024x1024_S2x16384x1024_2_0_01_1_n_n none n (extf .f32 w bitsLt_bf16_f32)

/-- The heads' scores. -/
def sR (q : FVec Ideal S2x16384x1024 .f32) (kv : FVec Ideal S2x256x2048 .bf16) : FVec Ideal S2x4x16384x256 .f32 :=
  Host.divf (Host.dotGeneral dot_S2x16384x4x256_S2x256x4x256_S2x4x16384x256_3_3_1_1_02_02 none (shapeCast _ q shapeCasts_S2x16384x1024_S2x16384x4x256)
    (shapeCast _ (extractStridedSlice S2x256x1024 ![0, 0, 0] (extf .f32 kv bitsLt_bf16_f32) slices_S2x256x2048_S2x256x1024_0_0_0) shapeCasts_S2x256x1024_S2x256x4x256))
    (broadcastInDim S2x4x16384x256 ![] bcast_S_S2x4x16384x256 (constant (F := Ideal) S_ .f32 0x41800000#32))

/-- Each query's greatest score. -/
def maxR (s : FVec Ideal S2x4x16384x256 .f32) : FVec Ideal S2x4x16384 .f32 :=
  maximumf (broadcastInDim S2x4x16384 ![] bcast_S_S2x4x16384 (constant (F := Ideal) S_ .f32 0xFF800000#32)) (Host.reduce FloatOps.maximumf s (constant (F := Ideal) S_ .f32 0xFF800000#32) reducesTo_S2x4x16384x256_S2x4x16384_d3 h_S_)

/-- The exponentials of the scores, from each query's greatest. -/
def expR (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maxR s))))

/-- The weights. -/
def wR (s : FVec Ideal S2x4x16384x256 .f32) : FVec Ideal S2x4x16384x256 .f32 :=
  Host.divf (expR s) (broadcastInDim S2x4x16384x256 ![0, 1, 2, 3] bcast_S2x4x16384x1_S2x4x16384x256_0_1_2_3 (broadcastInDim S2x4x16384x1 ![0, 1, 2] bcast_S2x4x16384_S2x4x16384x1_0_1_2
    (Host.reduceAdd (expR s) (constant (F := Ideal) S_ .f32 0x00000000#32) reducesTo_S2x4x16384x256_S2x4x16384_d3 h_S_)))

/-- The heads' averages side by side. -/
def hR (p : FVec Ideal S2x4x16384x256 .f32) (kv : FVec Ideal S2x256x2048 .bf16) : FVec Ideal S2x16384x1024 .f32 :=
  shapeCast _ (transpose S2x16384x4x256 [0, 3, 1, 2] (Host.dotGeneral (F := Ideal) (φ₁ := .f32) (φ₂ := .f32) dot_S2x256x4x256_S2x4x16384x256_S2x4x256x16384_1_3_3_2_02_01 none
    (shapeCast _ (extractStridedSlice S2x256x1024 ![0, 0, 1024] (extf .f32 kv bitsLt_bf16_f32) slices_S2x256x2048_S2x256x1024_0_0_1024) shapeCasts_S2x256x1024_S2x256x4x256) p)
    transposes_S2x4x256x16384_S2x16384x4x256_0_3_1_2) shapeCasts_S2x16384x4x256_S2x16384x1024

/-- The rows with their normalised mix added. -/
def xR (x : FVec Ideal S2x16384x1024 .f32) (x1 x2 : FVec Ideal S2x16384x256 .bf16) (x3 : FVec Ideal S2x16384x512 .bf16) (w : FVec Ideal S1024x1024 .bf16) (g : FVec Ideal S1x1024 .f32) :
    FVec Ideal S2x16384x1024 .f32 := addf x (nR (pR (catR x1 x2 x3) w) g)

/-- The rows with their normalised cross attention added. -/
def yR (x : FVec Ideal S2x16384x1024 .f32) (g : FVec Ideal S1x1024 .f32) (wq : FVec Ideal S1024x1024 .bf16) (kv : FVec Ideal S2x256x2048 .bf16) (wo : FVec Ideal S1024x1024 .bf16)
    (go : FVec Ideal S1x1024 .f32) : FVec Ideal S2x16384x1024 .f32 := addf x (nR (pR (hR (wR (sR (pR (nR x g) wq) kv)) kv) wo) go)

theorem lit16 : Ideal.ofBits .f32 0x41800000#32 = ((16 : ℝ) : EReal) := by
  simp [Ideal.ofBits, Ideal.ieee, -EReal.coe_mul]; norm_num

theorem scR_at (x : FVec Ideal S2x16384x1024 .f32) (b : Fin 2) (s : Fin 16384) : scR x (ix3 b s 0) = scale fun i => x (ix3 b s i) := by
  unfold scale
  pointwise [scR]

theorem nR_at (x : FVec Ideal S2x16384x1024 .f32) (g : FVec Ideal S1x1024 .f32) (b : Fin 2) (s : Fin 16384) (i : Fin 1024) :
    nR x g (ix3 b s i) = normed (fun i => x (ix3 b s i)) (fun i => g (ix2 0 i)) i := by
  unfold normed
  rw [← scR_at]
  pointwise [nR]

theorem pR_at (n : FVec Ideal S2x16384x1024 .f32) (w : FVec Ideal S1024x1024 .bf16) (b : Fin 2) (s : Fin 16384) (j : Fin 1024) :
    pR n w (ix3 b s j) = ∑ i : Fin 1024, n (ix3 b s i) * w (ix2 i j) := by
  pointwise [pR]

theorem catR_0 (x1 x2 : FVec Ideal S2x16384x256 .bf16) (x3 : FVec Ideal S2x16384x512 .bf16) (b : Fin 2) (s : Fin 16384) (i : Fin 256) :
    catR x1 x2 x3 (ix3 b s ⟨i.val, by omega⟩) = x1 (ix3 b s i) := by
  pointwise [catR]
theorem catR_1 (x1 x2 : FVec Ideal S2x16384x256 .bf16) (x3 : FVec Ideal S2x16384x512 .bf16) (b : Fin 2) (s : Fin 16384) (i : Fin 256) :
    catR x1 x2 x3 (ix3 b s ⟨256 + i.val, by omega⟩) = x2 (ix3 b s i) := by
  pointwise [catR]
theorem catR_2 (x1 x2 : FVec Ideal S2x16384x256 .bf16) (x3 : FVec Ideal S2x16384x512 .bf16) (b : Fin 2) (s : Fin 16384) (i : Fin 512) :
    catR x1 x2 x3 (ix3 b s ⟨512 + i.val, by omega⟩) = x3 (ix3 b s i) := by
  pointwise [catR]
  rw [dif_neg (by omega), dif_neg (by omega)]
  exact congrArg x3 (congrArg (fun z => ix3 b s z) (Fin.ext (by simp only []; omega)))

theorem sR_at (q : FVec Ideal S2x16384x1024 .f32) (kv : FVec Ideal S2x256x2048 .bf16) (b : Fin 2) (h : Fin 4) (s : Fin 16384) (n : Fin 256) :
    sR q kv (ix4 b h s n) = Ideal.div (∑ l : Fin 256, q (ix3 b s ⟨h.val * 256 + l.val, by omega⟩) * kv (ix3 b n ⟨h.val * 256 + l.val, by omega⟩)) (Ideal.ofBits .f32 0x41800000#32) := by
  pointwise [sR]

theorem expR_at (x : FVec Ideal S2x4x16384x256 .f32) (b : Fin 2) (h : Fin 4) (s : Fin 16384) (n : Fin 256) :
    expR x (ix4 b h s n) = Ideal.exp (x (ix4 b h s n) - maxR x (ix3 b h s)) := by
  pointwise [expR]

theorem wR_at (x : FVec Ideal S2x4x16384x256 .f32) (b : Fin 2) (h : Fin 4) (s : Fin 16384) (n : Fin 256) :
    wR x (ix4 b h s n) = Ideal.div (expR x (ix4 b h s n)) (∑ j : Fin 256, expR x (ix4 b h s j)) := by
  pointwise [wR]

theorem hR_at (p : FVec Ideal S2x4x16384x256 .f32) (kv : FVec Ideal S2x256x2048 .bf16) (b : Fin 2) (s : Fin 16384) (h : Fin 4) (d : Fin 256) :
    hR p kv (ix3 b s ⟨256 * h.val + d.val, by omega⟩) = ∑ n : Fin 256, kv (ix3 b n ⟨1024 + (256 * h.val + d.val), by omega⟩) * p (ix4 b h s n) := by
  pointwise [hR]
  simp only [Nat.mul_comm h.val 256]

theorem maxR_real (x : FVec Ideal S2x4x16384x256 .f32) (hx : ∀ i, ∃ r : ℝ, x i = (r : EReal)) (j : S2x4x16384.Idx) : ∃ r : ℝ, maxR x j = (r : EReal) := by
  unfold maxR
  exact Cert.ReferenceIdeal.Step.max_real (a := 3) x _ _ reducesTo_S2x4x16384x256_S2x4x16384_d3 ⟨rfl, by decide, reducesTo_S2x4x16384x256_S2x4x16384_d3.2⟩ h_S_ (fun _ => neg_inf) (fun _ => neg_inf) (by decide) hx j

theorem out_eq (m : (ℓ : Loc nD τ sig) → Buf (Elt Ideal) ℓ) (c : Dev nD) :
    addf (res_main_v23 (launchContents m c)) (nR (res_main_v61 (launchContents m c)) (m ((c.tc : Thread nD τ).loc main_arg10)))
      = yR (xR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v61 res_main_v53 res_main_v46 res_main_v23 res_main_v8 res_main_v5 yR xR hR wR expR maxR sR pR catR nR scR
  rfl

end Cert.CrossReferenceIdeal.Step

end
-- ==== Proof.CrossRefResult.lean ====
/- The cross-attention reference's result, row by row, when the gain before the queries, the query weights and the keys are real. -/
module

public import proofs.«01_k».proof.Proof.CrossRef

@[expose] public section

set_option maxRecDepth 16384

noncomputable section

namespace Cert.CrossReferenceIdeal.Step

open Cert.CrossReferenceIdeal Idealize.ShloMosaic Cert.CrossSpec
open Cert.FfnSpec (scale normed proj)

theorem xR_at (x : FVec Ideal S2x16384x1024 .f32) (x1 x2 : FVec Ideal S2x16384x256 .bf16) (x3 : FVec Ideal S2x16384x512 .bf16) (w : FVec Ideal S1024x1024 .bf16) (g : FVec Ideal S1x1024 .f32)
    (b : Fin 2) (s : Fin 16384) (e : Fin 1024) :
    xR x x1 x2 x3 w g (ix3 b s e) = middle (fun i => x (ix3 b s i)) (fun i => x1 (ix3 b s i)) (fun i => x2 (ix3 b s i)) (fun i => x3 (ix3 b s i)) (fun i j => w (ix2 i j)) (fun i => g (ix2 0 i)) e := by
  refine congrArg (x (ix3 b s e) + ·) ((nR_at _ _ _ _ _).trans ?_)
  have h : ∀ e, pR (catR x1 x2 x3) w (ix3 b s e)
      = mixed (fun i => x1 (ix3 b s i)) (fun i => x2 (ix3 b s i)) (fun i => x3 (ix3 b s i)) (fun i j => w (ix2 i j)) e := fun e => by
    rw [pR_at, sum_parts]
    unfold mixed
    simp only [catR_0, catR_1, catR_2]
  simp only [h]

/-- A score of the reference is the head's score over sixteen. -/
theorem sR_score (q : FVec Ideal S2x16384x1024 .f32) (kv : FVec Ideal S2x256x2048 .bf16) (hq : ∀ (b : Fin 2) (s : Fin 16384) (i : Fin 1024), ∃ y : ℝ, q (ix3 b s i) = (y : EReal))
    (hk : ∀ (b : Fin 2) (n : Fin 256) (i : Fin 1024), ∃ y : ℝ, kv (ix3 b n ⟨i.val, by omega⟩) = (y : EReal)) (b : Fin 2) (h : Fin 4) (s : Fin 16384) (n : Fin 256) :
    sR q kv (ix4 b h s n) = (((score (fun i => q (ix3 b s i)) (fun n i => kv (ix3 b n ⟨i.val, by omega⟩)) h n).toReal * (1 / 16) : ℝ) : EReal) := by
  obtain ⟨y, hy⟩ := score_real (fun i => q (ix3 b s i)) (fun n i => kv (ix3 b n ⟨i.val, by omega⟩)) (hq b s) (hk b) h n
  rw [hy, EReal.toReal_coe, sR_at, lit16, Ideal.div_coe (by norm_num), EReal.coe_mul, ← hy]
  unfold score
  refine congrArg (· * (((1 / 16 : ℝ)) : EReal)) (Finset.sum_congr rfl fun l _ => ?_)
  exact congrArg₂ (fun i j => q (ix3 b s i) * kv (ix3 b n j)) (Fin.ext (congrArg (· + l.val) (Nat.mul_comm _ _))) (Fin.ext (congrArg (· + l.val) (Nat.mul_comm _ _)))

/-- The reference's result, row by row. -/
theorem result_at (x : FVec Ideal S2x16384x1024 .f32) (x1 x2 : FVec Ideal S2x16384x256 .bf16) (x3 : FVec Ideal S2x16384x512 .bf16) (w : FVec Ideal S1024x1024 .bf16) (g gx : FVec Ideal S1x1024 .f32)
    (wq : FVec Ideal S1024x1024 .bf16) (kv : FVec Ideal S2x256x2048 .bf16) (wo : FVec Ideal S1024x1024 .bf16) (go : FVec Ideal S1x1024 .f32)
    (hg : ∀ i : Fin 1024, ∃ y : ℝ, gx (ix2 0 i) = (y : EReal)) (hw : ∀ i j : Fin 1024, ∃ y : ℝ, wq (ix2 i j) = (y : EReal))
    (hk : ∀ (b : Fin 2) (n : Fin 256) (i : Fin 1024), ∃ y : ℝ, kv (ix3 b n ⟨i.val, by omega⟩) = (y : EReal)) (b : Fin 2) (s : Fin 16384) (e : Fin 1024) :
    yR (xR x x1 x2 x3 w g) gx wq kv wo go (ix3 b s e)
      = result (fun i => x (ix3 b s i)) (fun i => x1 (ix3 b s i)) (fun i => x2 (ix3 b s i)) (fun i => x3 (ix3 b s i)) (fun i j => w (ix2 i j)) (fun i => g (ix2 0 i)) (fun i => gx (ix2 0 i))
        (fun i j => wq (ix2 i j)) (fun n i => kv (ix3 b n ⟨i.val, by omega⟩)) (fun n i => kv (ix3 b n ⟨1024 + i.val, by omega⟩)) (fun i j => wo (ix2 i j)) (fun i => go (ix2 0 i)) e := by
  unfold result
  rw [show middle (fun i => x (ix3 b s i)) (fun i => x1 (ix3 b s i)) (fun i => x2 (ix3 b s i)) (fun i => x3 (ix3 b s i)) (fun i j => w (ix2 i j)) (fun i => g (ix2 0 i))
    = fun e => xR x x1 x2 x3 w g (ix3 b s e) from funext fun e => (xR_at x x1 x2 x3 w g b s e).symm]
  generalize xR x x1 x2 x3 w g = z
  have hq : ∀ (b : Fin 2) (s : Fin 16384) (j : Fin 1024), pR (nR z gx) wq (ix3 b s j) = query (fun i => z (ix3 b s i)) (fun i => gx (ix2 0 i)) (fun i j => wq (ix2 i j)) j := fun b s j => by
    rw [pR_at]
    unfold query proj
    simp only [nR_at]
  have hQ : ∀ (b : Fin 2) (s : Fin 16384) (j : Fin 1024), ∃ y : ℝ, pR (nR z gx) wq (ix3 b s j) = (y : EReal) := fun b s j => by
    rw [hq]; exact query_real _ _ _ hg hw j
  refine congrArg (z (ix3 b s e) + ·) ((nR_at _ _ _ _ _).trans ?_)
  rw [show query (fun i => z (ix3 b s i)) (fun i => gx (ix2 0 i)) (fun i j => wq (ix2 i j)) = fun j => pR (nR z gx) wq (ix3 b s j) from funext fun j => (hq b s j).symm]
  generalize pR (nR z gx) wq = q at hQ
  have hh : ∀ i, hR (wR (sR q kv)) kv (ix3 b s i) = heads (fun i => q (ix3 b s i)) (fun n i => kv (ix3 b n ⟨i.val, by omega⟩)) (fun n i => kv (ix3 b n ⟨1024 + i.val, by omega⟩)) i := fun i => by
    obtain ⟨h, d, rfl⟩ : ∃ (h : Fin 4) (d : Fin 256), i = ⟨256 * h.val + d.val, by omega⟩ :=
      ⟨⟨i.val / 256, by omega⟩, ⟨i.val % 256, by omega⟩, Fin.ext (by simp only []; omega)⟩
    have hs := sR_score q kv hQ hk
    have hm : ∃ y : ℝ, maxR (sR q kv) (ix3 b h s) = (y : EReal) := maxR_real _ (fun j => by
      obtain ⟨b', h', s', n', rfl⟩ : ∃ (b' : Fin 2) (h' : Fin 4) (s' : Fin 16384) (n' : Fin 256), j = ix4 b' h' s' n' :=
        ⟨j 0, j 1, j 2, j 3, funext fun a => by match a with | 0 => rfl | 1 => rfl | 2 => rfl | 3 => rfl⟩
      exact ⟨_, hs b' h' s' n'⟩) _
    rw [hR_at]
    simp only [wR_at, expR_at]
    refine (average_exp (fun n => sR q kv (ix4 b h s n)) (fun n => kv (ix3 b n ⟨1024 + (256 * h.val + d.val), by omega⟩)) _ _ (hs b h s) hm).trans ?_
    unfold heads
    simp only [show (⟨(256 * h.val + d.val) / 256, by omega⟩ : Fin 4) = h from Fin.ext (by simp only []; omega)]
  unfold out
  simp only [pR_at, hh]

end Cert.CrossReferenceIdeal.Step

end
-- ==== Proof.CrossFinite.lean ====
/- What the precondition of the cross attention says: the gain before the queries, the query weights and the keys are finite. -/
module

public import proofs.«01_k».proof.Defs
public import proofs.«01_k».proof.Proof.CrossResult
public import proofs.«01_k».proof.Proof.Finite

@[expose] public section

set_option maxRecDepth 16384

noncomputable section

namespace Cert.Pre_finite_keys.Gen

open Idealize.ShloMosaic

theorem facts : Cert.Pre_finite_keys.Facts := ⟨by decide, by decide, by decide, by decide, by decide⟩

end Cert.Pre_finite_keys.Gen

namespace Cert.Finite

open Idealize.ShloMosaic Idealize.ShloMosaic.TcCoe Cert.CrossIdeal.Step

theorem real_of_abs (x : EReal) (h : Ideal.cmp .olt (max x (-x)) (Ideal.ofBits .f32 0x7F800000#32) = 1#1) : ∃ y : ℝ, x = (y : EReal) :=
  ⟨_, (EReal.coe_toReal (of_abs x h).1 (of_abs x h).2).symm⟩

variable {m : (ℓ : Loc Cert.CrossIdeal.nD Cert.CrossIdeal.τ Cert.CrossIdeal.sig) → Buf (Elt Ideal) ℓ}

theorem keys (h : Cert.Pre_CrossIdeal_finite_keys (hPre_finite_keys := Cert.Pre_finite_keys.Gen.facts) m) (c : Dev Cert.CrossIdeal.nD) : RealKeys m c := by
  obtain ⟨h6, h7, h8⟩ := h c
  refine ⟨fun x => real_of_abs _ (congrFun h6 x), fun x => real_of_abs _ (congrFun h7 x), fun b n i => ?_⟩
  obtain ⟨y, hy⟩ := real_of_abs _ (congrFun h8 (ix3 b n i))
  refine ⟨y, Eq.trans (congrArg (a8 m c) (funext fun a => ?_)) hy⟩
  match a with
  | 0 => exact Fin.ext (by show b.val = 0 + b.val; omega)
  | 1 => exact Fin.ext (by show n.val = 0 + n.val; omega)
  | 2 => exact Fin.ext (by show i.val = 0 + i.val; omega)

end Cert.Finite

end
-- ==== Proof.ProjRows.lean ====
/- The input projection's arithmetic, one row at a time. -/
module

public import Idealize.ShloMosaic.Lib.Pointwise

@[expose] public section

noncomputable section

namespace Cert.ProjSpec

open Idealize.ShloMosaic

/-- A row over its root mean square (the sum of squares over `d`, with 1e-6 added under the root), times a gain. -/
def rms {n : Nat} (d : EReal) (x g : Fin n → EReal) (i : Fin n) : EReal :=
  x i * Ideal.rsqrt (Ideal.div (∑ j : Fin n, x j * x j) d + Ideal.ofBits .f32 0x358637BD#32) * g i

/-- A row times a matrix. -/
def up {n k : Nat} (x : Fin n → EReal) (w : Fin n → Fin k → EReal) (j : Fin k) : EReal := ∑ i : Fin n, x i * w i j

/-- All the columns of a projected row. -/
def cols (x g : Fin 1024 → EReal) (w : Fin 1024 → Fin 1952 → EReal) : Fin 1952 → EReal :=
  up (rms (Ideal.ofBits .f32 0x44800000#32) x g) w

/-- The latent queries of a projected row, before rotation. -/
def latq (c : Fin 1952 → EReal) (g : Fin 256 → EReal) (w : Fin 256 → Fin 384 → EReal) : Fin 384 → EReal :=
  up (rms (Ideal.ofBits .f32 0x43800000#32) (fun i : Fin 256 => c ⟨768 + i.val, by omega⟩) g) w

/-- The latent keys and values of a projected row. -/
def latkv (c : Fin 1952 → EReal) (g : Fin 128 → EReal) (w : Fin 128 → Fin 512 → EReal) : Fin 512 → EReal :=
  up (rms (Ideal.ofBits .f32 0x43000000#32) (fun i : Fin 128 => c ⟨1024 + i.val, by omega⟩) g) w

/-- The half-split rotation of 32 entries by 16 angles. -/
def rope (u : Fin 32 → EReal) (C S : Fin 16 → EReal) (d : Fin 32) : EReal :=
  if h : d.val < 16 then u d * C ⟨d.val, h⟩ - u ⟨16 + d.val, by omega⟩ * S ⟨d.val, h⟩
  else u ⟨d.val - 16, by omega⟩ * S ⟨d.val - 16, by omega⟩ + u d * C ⟨d.val - 16, by omega⟩

/-- One head's 128 lanes: 64 plain entries, 32 rotated ones, and zeros. -/
def head (a : Fin 64 → EReal) (u : Fin 32 → EReal) (C S : Fin 16 → EReal) (l : Nat) : EReal :=
  if h : l < 64 then a ⟨l, h⟩ else if h' : l - 64 < 32 then rope u C S ⟨l - 64, h'⟩ else 0

/-- The latent queries' lanes. -/
def qlanes (q : Fin 384 → EReal) (C S : Fin 16 → EReal) (h : Fin 4) (l : Nat) : EReal :=
  head (fun d => q ⟨h.val * 96 + d.val, by omega⟩) (fun d => q ⟨h.val * 96 + (64 + d.val), by omega⟩) C S l

/-- The latent keys' lanes: each head's plain entries, and the one rotated key. -/
def klanes (kv : Fin 512 → EReal) (c : Fin 1952 → EReal) (C S : Fin 16 → EReal) (h : Fin 4) (l : Nat) : EReal :=
  head (fun d => kv ⟨h.val * 128 + d.val, by omega⟩) (fun d => c ⟨1152 + d.val, by omega⟩) C S l

/-- An entry past the first half is one of the second. -/
theorem upper (d : Fin 32) : ¬d.val < 16 → ∃ k : Fin 16, d = ⟨16 + k.val, by omega⟩ :=
  fun h => ⟨⟨d.val - 16, by omega⟩, Fin.ext (by simp only []; omega)⟩

theorem rope_low (u : Fin 32 → EReal) (C S : Fin 16 → EReal) (d : Fin 16) :
    rope u C S ⟨d.val, by omega⟩ = u ⟨d.val, by omega⟩ * C d - u ⟨16 + d.val, by omega⟩ * S d := by
  unfold rope
  rw [dif_pos d.isLt]

theorem rope_high (u : Fin 32 → EReal) (C S : Fin 16 → EReal) (d : Fin 16) :
    rope u C S ⟨16 + d.val, by omega⟩ = u ⟨d.val, by omega⟩ * S d + u ⟨16 + d.val, by omega⟩ * C d := by
  unfold rope
  rw [dif_neg (by simp)]
  simp only [Nat.add_sub_cancel_left]

/-- An equation of the rotation's entries, from its two halves. -/
theorem rope_ext (u : Fin 32 → EReal) (C S : Fin 16 → EReal) (f : Fin 32 → EReal)
    (h0 : ∀ d : Fin 16, f ⟨d.val, by omega⟩ = u ⟨d.val, by omega⟩ * C d - u ⟨16 + d.val, by omega⟩ * S d)
    (h1 : ∀ d : Fin 16, f ⟨16 + d.val, by omega⟩ = u ⟨d.val, by omega⟩ * S d + u ⟨16 + d.val, by omega⟩ * C d) (d : Fin 32) : f d = rope u C S d := by
  by_cases h : d.val < 16
  · exact (h0 ⟨d.val, h⟩).trans (rope_low u C S ⟨d.val, h⟩).symm
  · obtain ⟨k, rfl⟩ := upper d h
    exact (h1 k).trans (rope_high u C S k).symm

/-- An equation of a head's lanes, from its three parts. -/
theorem head_ext (a : Fin 64 → EReal) (u : Fin 32 → EReal) (C S : Fin 16 → EReal) (f : Fin 128 → EReal) (k : EReal)
    (h0 : ∀ l : Fin 64, f ⟨l.val, by omega⟩ = a l * k) (h1 : ∀ l : Fin 32, f ⟨64 + l.val, by omega⟩ = rope u C S l * k)
    (h2 : ∀ l : Fin 32, f ⟨96 + l.val, by omega⟩ = 0) (l : Fin 128) : f l = head a u C S l.val * k := by
  unfold head
  by_cases h : l.val < 64
  · rw [dif_pos h]
    exact h0 ⟨l.val, h⟩
  · rw [dif_neg h]
    by_cases h' : l.val - 64 < 32
    · rw [dif_pos h', ← h1 ⟨l.val - 64, h'⟩]
      exact congrArg f (Fin.ext (by simp only []; omega))
    · rw [dif_neg h', zero_mul, ← h2 ⟨l.val - 96, by omega⟩]
      exact congrArg f (Fin.ext (by simp only []; omega))

end Cert.ProjSpec

end
-- ==== Proof.ProjRef.lean ====
/- The input projection's reference as a composition of steps, each read at an index. -/
module

public import proofs.«01_k».proof.Proof.Gen.ProjReferenceIdeal.Run
public import proofs.«01_k».proof.Proof.ProjRows
public import Idealize.ShloMosaic.Lib.Pointwise

@[expose] public section

set_option maxRecDepth 16384

noncomputable section

namespace Cert.ProjReferenceIdeal.Step

open Cert.ProjReferenceIdeal Cert.ProjReferenceIdeal.Gen Cert.ProjReferenceIdeal.Value Idealize.ShloMosaic Idealize.ShloMosaic.TcCoe Idealize.SL.Sem Idealize.ShloMosaic.StableHlo Cert.ProjSpec

/-- The normalised rows. -/
def nR (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1
      (Host.reduceAdd (mulf x x) (constant (F := Ideal) S_ .f32 0x00000000#32) reducesTo_S2x16384x1024_S2x16384_d2 h_S_)) (broadcastInDim S2x16384x1 ![] bcast_S_S2x16384x1 (constant (F := Ideal) S_ .f32 0x44800000#32)))
      (broadcastInDim S2x16384x1 ![] bcast_S_S2x16384x1 (constant (F := Ideal) S_ .f32 0x358637BD#32))))))
    (broadcastInDim S2x16384x1024 ![0, 1, 2] bcast_S1x1x1024_S2x16384x1024_0_1_2 (broadcastInDim S1x1x1024 ![2] bcast_S1024_S1x1x1024_2 g))

/-- The projected rows. -/
def cR (x : FVec Ideal S2x16384x1024 .f32) (g : FVec Ideal S1024 .f32) (w : FVec Ideal S1024x1952 .f32) : FVec Ideal S2x16384x1952 .f32 :=
  Host.dotGeneral (F := Ideal) (φ₁ := .f32) (φ₂ := .f32) dot_S2x16384x1024_S1024x1952_S2x16384x1952_2_0_01_1_n_n none (nR x g) w

/-- The normalised latent queries. -/
def nqR (c : FVec Ideal S2x16384x1952 .f32) (g : FVec Ideal S256 .f32) : FVec Ideal S2x16384x256 .f32 :=
  have x : FVec Ideal S2x16384x256 .f32 := extractStridedSlice S2x16384x256 ![0, 0, 768] c slices_S2x16384x1952_S2x16384x256_0_0_768
  mulf (mulf x (broadcastInDim S2x16384x256 ![0, 1, 2] bcast_S2x16384x1_S2x16384x256_0_1_2 (Host.rsqrt (addf (Host.divf (broadcastInDim S2x16384x1 ![0, 1] bcast_S2x16384_S2x16384x1_0_1
      (Host.reduceAdd (mulf x x) (constant (F := Ideal) S_ .f32 0x00000000#32) reducesTo_S2x16384x256_S2x16384_d2 h_S_)) (broadcastInDim S2x16384x1 ![] bcast_S_S2x16384x1 (constant (F := Ideal) S_ .f32 0x43800000#32)))
      (broadcastInDim S2x16384x1 ![] bcast_S_S2x16384x1 (constant (F := Ideal) S_ .f32 0x358637BD#32))))))
    (broadcastInDim S2x16384x256 ![0, 1, 2] bcast_S1x1x256_S2x16384x256_0_1_2 (broadcastInDim S1x1x256 ![2] bcast_S256_S1x1x256_2 g))

/-- The latent queries. -/
def qR (c : FVec Ideal S2x16384x1952 .f32) (g : FVec Ideal S256 .f32) (w : FVec Ideal S256x384 .f32) : FVec Ideal S2x16384x384 .f32 :=
  Host.dotGeneral (F := Ideal) (φ₁ := .f32) (φ₂ := .f32) dot_S2x16384x256_S256x384_S2x16384x384_2_0_01_1_n_n none (nqR c g) w

/-- The normalised latent keys and values. -/
def nkvR (c : FVec Ideal S2x16384x1952 .f32) (g : FVec Ideal S128 .f32) : FVec Ideal S2x16384x128 .f32 :=
  have x : FVec Ideal S2x16384x128 .f32 := extractStridedSlice S2x16384x128 ![0, 0, 1024] c slices_S2x16384x1952_S2x16384x128_0_0_1024
  mulf (mulf x (broadcastInDim S2x16384x128 ![0, 1, 2] bcast_S2x16384x1_S2x16384x128_0_1_2 (Host.rsqrt (addf (Host.divf (broadcastInDim S2x16384x1 ![0, 1] bcast_S2x16384_S2x16384x1_0_1
      (Host.reduceAdd (mulf x x) (constant (F := Ideal) S_ .f32 0x00000000#32) reducesTo_S2x16384x128_S2x16384_d2 h_S_)) (broadcastInDim S2x16384x1 ![] bcast_S_S2x16384x1 (constant (F := Ideal) S_ .f32 0x43000000#32)))
      (broadcastInDim S2x16384x1 ![] bcast_S_S2x16384x1 (constant (F := Ideal) S_ .f32 0x358637BD#32))))))
    (broadcastInDim S2x16384x128 ![0, 1, 2] bcast_S1x1x128_S2x16384x128_0_1_2 (broadcastInDim S1x1x128 ![2] bcast_S128_S1x1x128_2 g))

/-- The latent keys and values. -/
def kvR (c : FVec Ideal S2x16384x1952 .f32) (g : FVec Ideal S128 .f32) (w : FVec Ideal S128x512 .f32) : FVec Ideal S2x16384x512 .f32 :=
  Host.dotGeneral (F := Ideal) (φ₁ := .f32) (φ₂ := .f32) dot_S2x16384x128_S128x512_S2x16384x512_2_0_01_1_n_n none (nkvR c g) w

/-- The angles. -/
def angR (p : Vec Ideal S2x16384 .i32) : FVec Ideal S2x16384x16 .f32 :=
  mulf (broadcastInDim S2x16384x16 ![0, 1, 2] bcast_S2x16384x1_S2x16384x16_0_1_2 (broadcastInDim S2x16384x1 ![0, 1] bcast_S2x16384_S2x16384x1_0_1 (sitofp .f32 p)))
    (broadcastInDim S2x16384x16 ![0, 1, 2] bcast_S1x1x16_S2x16384x16_0_1_2 (broadcastInDim S1x1x16 ![2] bcast_S16_S1x1x16_2 (Host.powf (broadcastInDim S16 ![] bcast_S_S16 (constant (F := Ideal) S_ .f32 0x461C4000#32))
      (Host.divf (Host.negf (sitofp .f32 (iotaInDim S16 32 0))) (broadcastInDim S16 ![] bcast_S_S16 (constant (F := Ideal) S_ .f32 0x41800000#32))))))

/-- The rotated key. -/
def rkR (c : FVec Ideal S2x16384x1952 .f32) (C S : FVec Ideal S2x16384x16 .f32) : FVec Ideal S2x16384x32 .f32 :=
  have u : FVec Ideal S2x16384x32 .f32 := extractStridedSlice S2x16384x32 ![0, 0, 1152] c slices_S2x16384x1952_S2x16384x32_0_0_1152
  have a : FVec Ideal S2x16384x16 .f32 := extractStridedSlice S2x16384x16 ![0, 0, 0] u slices_S2x16384x32_S2x16384x16_0_0_0
  have b : FVec Ideal S2x16384x16 .f32 := extractStridedSlice S2x16384x16 ![0, 0, 16] u slices_S2x16384x32_S2x16384x16_0_0_16
  concatenate S2x16384x32 2 [⟨S2x16384x16, subf (mulf a C) (mulf b S)⟩, ⟨S2x16384x16, addf (mulf a S) (mulf b C)⟩] concatenates_S2x16384x16_S2x16384x16_S2x16384x32_d2

/-- The rotated queries. -/
def rqR (q : FVec Ideal S2x16384x384 .f32) (A : FVec Ideal S2x16384x16 .f32) : FVec Ideal S2x16384x4x32 .f32 :=
  have u : FVec Ideal S2x16384x4x32 .f32 := extractStridedSlice S2x16384x4x32 ![0, 0, 0, 64] (shapeCast _ q shapeCasts_S2x16384x384_S2x16384x4x96) slices_S2x16384x4x96_S2x16384x4x32_0_0_0_64
  have a : FVec Ideal S2x16384x4x16 .f32 := extractStridedSlice S2x16384x4x16 ![0, 0, 0, 0] u slices_S2x16384x4x32_S2x16384x4x16_0_0_0_0
  have b : FVec Ideal S2x16384x4x16 .f32 := extractStridedSlice S2x16384x4x16 ![0, 0, 0, 16] u slices_S2x16384x4x32_S2x16384x4x16_0_0_0_16
  have C : FVec Ideal S2x16384x4x16 .f32 := broadcastInDim S2x16384x4x16 ![0, 1, 2, 3] bcast_S2x16384x1x16_S2x16384x4x16_0_1_2_3 (Host.cos (shapeCast _ A shapeCasts_S2x16384x16_S2x16384x1x16))
  have S : FVec Ideal S2x16384x4x16 .f32 := broadcastInDim S2x16384x4x16 ![0, 1, 2, 3] bcast_S2x16384x1x16_S2x16384x4x16_0_1_2_3 (Host.sin (shapeCast _ A shapeCasts_S2x16384x16_S2x16384x1x16))
  concatenate S2x16384x4x32 3 [⟨S2x16384x4x16, subf (mulf a C) (mulf b S)⟩, ⟨S2x16384x4x16, addf (mulf a S) (mulf b C)⟩] concatenates_S2x16384x4x16_S2x16384x4x16_S2x16384x4x32_d3

/-- The plain entries and the rotated ones. -/
def jR (a : FVec Ideal S2x16384x4x64 .f32) (b : FVec Ideal S2x16384x4x32 .f32) : FVec Ideal S2x16384x4x96 .f32 :=
  concatenate S2x16384x4x96 3 [⟨S2x16384x4x64, a⟩, ⟨S2x16384x4x32, b⟩] concatenates_S2x16384x4x64_S2x16384x4x32_S2x16384x4x96_d3

/-- The heads filled up with zeros. -/
def fR (a : FVec Ideal S2x16384x4x96 .f32) : FVec Ideal S2x16384x4x128 .f32 :=
  concatenate S2x16384x4x128 3 [⟨S2x16384x4x96, a⟩, ⟨S2x16384x4x32, broadcastInDim S2x16384x4x32 ![] bcast_S_S2x16384x4x32 (constant (F := Ideal) S_ .f32 0x00000000#32)⟩]
    concatenates_S2x16384x4x96_S2x16384x4x32_S2x16384x4x128_d3

/-- The logarithm of two times the root of a literal. -/
def lR (b : BitVec 32) : FVec Ideal S_ .f32 := mulf (Host.log (constant (F := Ideal) S_ .f32 0x40000000#32)) (Host.sqrt (constant (F := Ideal) S_ .f32 b))

/-- The latent queries' entries, divided. -/
def zq (q : FVec Ideal S2x16384x384 .f32) (A : FVec Ideal S2x16384x16 .f32) : FVec Ideal S2x16384x4x96 .f32 :=
  Host.divf (jR (extractStridedSlice S2x16384x4x64 ![0, 0, 0, 0] (shapeCast _ q shapeCasts_S2x16384x384_S2x16384x4x96) slices_S2x16384x4x96_S2x16384x4x64_0_0_0_0) (rqR q A))
    (broadcastInDim S2x16384x4x96 ![] bcast_S_S2x16384x4x96 (lR 0x42C00000#32))

/-- The latent keys' entries. -/
def zk (kv : FVec Ideal S2x16384x512 .f32) (c : FVec Ideal S2x16384x1952 .f32) (A : FVec Ideal S2x16384x16 .f32) : FVec Ideal S2x16384x4x96 .f32 :=
  jR (extractStridedSlice S2x16384x4x64 ![0, 0, 0, 0] (shapeCast _ kv shapeCasts_S2x16384x512_S2x16384x4x128) slices_S2x16384x4x128_S2x16384x4x64_0_0_0_0)
    (broadcastInDim S2x16384x4x32 ![0, 1, 2, 3] bcast_S2x16384x1x32_S2x16384x4x32_0_1_2_3 (broadcastInDim S2x16384x1x32 ![0, 1, 3] bcast_S2x16384x32_S2x16384x1x32_0_1_3
      (rkR c (Host.cos A) (Host.sin A))))

/-- The nine results, from the projected rows, the latent queries, keys and values, and the angles. -/
def o0 (c : FVec Ideal S2x16384x1952 .f32) : FVec Ideal S2x256x16384 .bf16 :=
  truncf .bf16 (transpose S2x256x16384 [0, 2, 1] (Host.divf (extractStridedSlice S2x16384x256 ![0, 0, 0] c slices_S2x16384x1952_S2x16384x256_0_0_0)
    (broadcastInDim S2x16384x256 ![] bcast_S_S2x16384x256 (lR 0x42000000#32))) transposes_S2x16384x256_S2x256x16384_0_2_1) bitsLt_bf16_f32
def o1 (c : FVec Ideal S2x16384x1952 .f32) : FVec Ideal S2x16384x256 .bf16 :=
  truncf .bf16 (extractStridedSlice S2x16384x256 ![0, 0, 256] c slices_S2x16384x1952_S2x16384x256_0_0_256) bitsLt_bf16_f32
def o2 (c : FVec Ideal S2x16384x1952 .f32) : FVec Ideal S2x256x16384 .bf16 :=
  truncf .bf16 (transpose S2x256x16384 [0, 2, 1] (extractStridedSlice S2x16384x256 ![0, 0, 512] c slices_S2x16384x1952_S2x16384x256_0_0_512) transposes_S2x16384x256_S2x256x16384_0_2_1) bitsLt_bf16_f32
def o3 (q : FVec Ideal S2x16384x384 .f32) (A : FVec Ideal S2x16384x16 .f32) : FVec Ideal S2x512x16384 .bf16 :=
  truncf .bf16 (transpose S2x512x16384 [0, 2, 1] (shapeCast _ (fR (zq q A)) shapeCasts_S2x16384x4x128_S2x16384x512) transposes_S2x16384x512_S2x512x16384_0_2_1) bitsLt_bf16_f32
def o4 (kv : FVec Ideal S2x16384x512 .f32) (c : FVec Ideal S2x16384x1952 .f32) (A : FVec Ideal S2x16384x16 .f32) : FVec Ideal S2x16384x512 .bf16 :=
  truncf .bf16 (shapeCast _ (fR (zk kv c A)) shapeCasts_S2x16384x4x128_S2x16384x512) bitsLt_bf16_f32
def o5 (kv : FVec Ideal S2x16384x512 .f32) : FVec Ideal S2x256x16384 .bf16 :=
  truncf .bf16 (transpose S2x256x16384 [0, 2, 1] (shapeCast _ (extractStridedSlice S2x16384x4x64 ![0, 0, 0, 64] (shapeCast _ kv shapeCasts_S2x16384x512_S2x16384x4x128)
    slices_S2x16384x4x128_S2x16384x4x64_0_0_0_64) shapeCasts_S2x16384x4x64_S2x16384x256) transposes_S2x16384x256_S2x256x16384_0_2_1) bitsLt_bf16_f32
def o6 (c : FVec Ideal S2x16384x1952 .f32) : FVec Ideal S2x512x16384 .bf16 :=
  truncf .bf16 (transpose S2x512x16384 [0, 2, 1] (Host.divf (extractStridedSlice S2x16384x512 ![0, 0, 1184] c slices_S2x16384x1952_S2x16384x512_0_0_1184)
    (broadcastInDim S2x16384x512 ![] bcast_S_S2x16384x512 (lR 0x42800000#32))) transposes_S2x16384x512_S2x512x16384_0_2_1) bitsLt_bf16_f32
def o7 (c : FVec Ideal S2x16384x1952 .f32) : FVec Ideal S2x16384x128 .bf16 :=
  truncf .bf16 (extractStridedSlice S2x16384x128 ![0, 0, 1696] c slices_S2x16384x1952_S2x16384x128_0_0_1696) bitsLt_bf16_f32
def o8 (c : FVec Ideal S2x16384x1952 .f32) : FVec Ideal S2x128x16384 .bf16 :=
  truncf .bf16 (transpose S2x128x16384 [0, 2, 1] (extractStridedSlice S2x16384x128 ![0, 0, 1824] c slices_S2x16384x1952_S2x16384x128_0_0_1824) transposes_S2x16384x128_S2x128x16384_0_2_1) bitsLt_bf16_f32

section
variable (m : (ℓ : Loc nD τ sig) → Buf (Elt Ideal) ℓ) (c : Dev nD)

abbrev cM : FVec Ideal S2x16384x1952 .f32 := cR (m ((c.tc : Thread nD τ).loc main_arg0)) (m ((c.tc : Thread nD τ).loc main_arg2)) (m ((c.tc : Thread nD τ).loc main_arg3))
abbrev qM : FVec Ideal S2x16384x384 .f32 := qR (cM m c) (m ((c.tc : Thread nD τ).loc main_arg4)) (m ((c.tc : Thread nD τ).loc main_arg5))
abbrev kvM : FVec Ideal S2x16384x512 .f32 := kvR (cM m c) (m ((c.tc : Thread nD τ).loc main_arg6)) (m ((c.tc : Thread nD τ).loc main_arg7))
abbrev aM : FVec Ideal S2x16384x16 .f32 := angR (m ((c.tc : Thread nD τ).loc main_arg1))

theorem o3_eq : res_out3 m c = o3 (qM m c) (aM m c) := by
  unfold res_out3 res_main_v140 o3 zq fR jR rqR lR qM qR nqR cM cR nR aM angR
  rfl

theorem o4_eq : res_out4 m c = o4 (kvM m c) (cM m c) (aM m c) := by
  unfold res_out4 res_main_v141 o4 zk fR jR rkR kvM kvR nkvR cM cR nR aM angR
  rfl

end

end Cert.ProjReferenceIdeal.Step

end
-- ==== Proof.ProjRefResult.lean ====
/- The input projection's reference, row by row. -/
module

public import proofs.«01_k».proof.Proof.ProjRef

@[expose] public section

set_option maxRecDepth 16384

noncomputable section

namespace Cert.ProjReferenceIdeal.Step

open Cert.ProjReferenceIdeal Cert.ProjReferenceIdeal.Gen Idealize.ShloMosaic Cert.ProjSpec

variable (x : FVec Ideal S2x16384x1024 .f32) (g : FVec Ideal S1024 .f32) (w : FVec Ideal S1024x1952 .f32) (c : FVec Ideal S2x16384x1952 .f32) (gq : FVec Ideal S256 .f32)
  (wq : FVec Ideal S256x384 .f32) (gkv : FVec Ideal S128 .f32) (wkv : FVec Ideal S128x512 .f32) (C S A : FVec Ideal S2x16384x16 .f32) (q : FVec Ideal S2x16384x384 .f32)
  (kv : FVec Ideal S2x16384x512 .f32) (b : Fin 2) (s : Fin 16384)

theorem nR_at (i : Fin 1024) : nR x g (ix3 b s i) = rms (Ideal.ofBits .f32 0x44800000#32) (fun i => x (ix3 b s i)) (fun i => g (ix1 i)) i := by
  unfold rms
  pointwise [nR]

theorem cR_at (j : Fin 1952) : cR x g w (ix3 b s j) = cols (fun i => x (ix3 b s i)) (fun i => g (ix1 i)) (fun i j => w (ix2 i j)) j := by
  unfold cols up
  simp only [← nR_at]
  pointwise [cR]

theorem nqR_at (i : Fin 256) : nqR c gq (ix3 b s i) = rms (Ideal.ofBits .f32 0x43800000#32) (fun i : Fin 256 => c (ix3 b s ⟨768 + i.val, by omega⟩)) (fun i => gq (ix1 i)) i := by
  unfold rms
  pointwise [nqR]

theorem qR_at (j : Fin 384) : qR c gq wq (ix3 b s j) = latq (fun j => c (ix3 b s j)) (fun i => gq (ix1 i)) (fun i j => wq (ix2 i j)) j := by
  unfold latq up
  simp only [← nqR_at]
  pointwise [qR]

theorem nkvR_at (i : Fin 128) : nkvR c gkv (ix3 b s i) = rms (Ideal.ofBits .f32 0x43000000#32) (fun i : Fin 128 => c (ix3 b s ⟨1024 + i.val, by omega⟩)) (fun i => gkv (ix1 i)) i := by
  unfold rms
  pointwise [nkvR]

theorem kvR_at (j : Fin 512) : kvR c gkv wkv (ix3 b s j) = latkv (fun j => c (ix3 b s j)) (fun i => gkv (ix1 i)) (fun i j => wkv (ix2 i j)) j := by
  unfold latkv up
  simp only [← nkvR_at]
  pointwise [kvR]

theorem rkR_0 (d : Fin 16) : rkR c C S (ix3 b s ⟨d.val, by omega⟩)
    = c (ix3 b s ⟨1152 + d.val, by omega⟩) * C (ix3 b s d) - c (ix3 b s ⟨1152 + (16 + d.val), by omega⟩) * S (ix3 b s d) := by
  pointwise [rkR]

theorem rkR_1 (d : Fin 16) : rkR c C S (ix3 b s ⟨16 + d.val, by omega⟩)
    = c (ix3 b s ⟨1152 + d.val, by omega⟩) * S (ix3 b s d) + c (ix3 b s ⟨1152 + (16 + d.val), by omega⟩) * C (ix3 b s d) := by
  pointwise [rkR]

theorem rkR_at (d : Fin 32) : rkR c C S (ix3 b s d) = rope (fun d => c (ix3 b s ⟨1152 + d.val, by omega⟩)) (fun i => C (ix3 b s i)) (fun i => S (ix3 b s i)) d :=
  rope_ext _ _ _ (fun d => rkR c C S (ix3 b s d)) (rkR_0 c C S b s) (rkR_1 c C S b s) d

theorem rqR_0 (h : Fin 4) (d : Fin 16) : rqR q A (ix4 b s h ⟨d.val, by omega⟩)
    = q (ix3 b s ⟨h.val * 96 + (64 + d.val), by omega⟩) * Ideal.cos (A (ix3 b s d)) - q (ix3 b s ⟨h.val * 96 + (64 + (16 + d.val)), by omega⟩) * Ideal.sin (A (ix3 b s d)) := by
  pointwise [rqR]

theorem rqR_1 (h : Fin 4) (d : Fin 16) : rqR q A (ix4 b s h ⟨16 + d.val, by omega⟩)
    = q (ix3 b s ⟨h.val * 96 + (64 + d.val), by omega⟩) * Ideal.sin (A (ix3 b s d)) + q (ix3 b s ⟨h.val * 96 + (64 + (16 + d.val)), by omega⟩) * Ideal.cos (A (ix3 b s d)) := by
  pointwise [rqR]

theorem rqR_at (h : Fin 4) (d : Fin 32) : rqR q A (ix4 b s h d)
    = rope (fun d => q (ix3 b s ⟨h.val * 96 + (64 + d.val), by omega⟩)) (fun i => Ideal.cos (A (ix3 b s i))) (fun i => Ideal.sin (A (ix3 b s i))) d :=
  rope_ext _ _ _ (fun d => rqR q A (ix4 b s h d)) (rqR_0 A q b s h) (rqR_1 A q b s h) d

section
variable (a : FVec Ideal S2x16384x4x64 .f32) (r : FVec Ideal S2x16384x4x32 .f32) (z : FVec Ideal S2x16384x4x96 .f32) (h : Fin 4)

theorem jR_0 (l : Fin 64) : jR a r (ix4 b s h ⟨l.val, by omega⟩) = a (ix4 b s h l) := by
  pointwise [jR]
theorem jR_1 (l : Fin 32) : jR a r (ix4 b s h ⟨64 + l.val, by omega⟩) = r (ix4 b s h l) := by
  pointwise [jR]
theorem fR_0 (l : Fin 96) : fR z (ix4 b s h ⟨l.val, by omega⟩) = z (ix4 b s h l) := by
  pointwise [fR]
theorem zero32 : Ideal.ofBits .f32 0x00000000#32 = 0 := by
  simp [Ideal.ofBits, Ideal.ieee]
theorem fR_1 (l : Fin 32) : fR z (ix4 b s h ⟨96 + l.val, by omega⟩) = 0 := by
  rw [← zero32]
  pointwise [fR]
end

theorem two32 : Ideal.ofBits .f32 0x40000000#32 = ((2 : ℝ) : EReal) := by
  simp [Ideal.ofBits, Ideal.ieee, -EReal.coe_mul]; norm_num

theorem l_at (d : ℝ) (hd : 0 < d) (n : BitVec 32) (hn : Ideal.ofBits .f32 n = (d : EReal)) (y : EReal) (i : S_.Idx) :
    Ideal.div y (lR n i) = y * ((((Real.log 2)⁻¹) * (Real.sqrt d)⁻¹ : ℝ) : EReal) := by
  have e : lR n i = ((Real.log 2 * Real.sqrt d : ℝ) : EReal) := by
    have : lR n i = Ideal.log (Ideal.ofBits .f32 0x40000000#32) * Ideal.sqrt (Ideal.ofBits .f32 n) := by
      pointwise [lR]
    rw [this, two32, hn, Ideal.log_coe, Ideal.sqrt_coe, if_neg (by norm_num), if_neg (not_lt.2 hd.le), EReal.coe_mul]
  rw [e, Ideal.div_coe (mul_ne_zero (Real.log_pos (by norm_num)).ne' (Real.sqrt_pos.2 hd).ne')]
  rw [one_div, mul_inv]

theorem d32 : Ideal.ofBits .f32 0x42000000#32 = ((32 : ℝ) : EReal) := by
  simp [Ideal.ofBits, Ideal.ieee, -EReal.coe_mul]; norm_num
theorem d96 : Ideal.ofBits .f32 0x42C00000#32 = ((96 : ℝ) : EReal) := by
  simp [Ideal.ofBits, Ideal.ieee, -EReal.coe_mul]; norm_num
theorem d64 : Ideal.ofBits .f32 0x42800000#32 = ((64 : ℝ) : EReal) := by
  simp [Ideal.ofBits, Ideal.ieee, -EReal.coe_mul]; norm_num

theorem o0_at (j : Fin 256) : o0 c (ix3 b j s) = c (ix3 b s ⟨j.val, by omega⟩) * ((((Real.log 2)⁻¹) * (Real.sqrt 32)⁻¹ : ℝ) : EReal) := by
  rw [← l_at 32 (by norm_num) 0x42000000#32 d32 _ ix0]
  pointwise [o0]
theorem o1_at (j : Fin 256) : o1 c (ix3 b s j) = c (ix3 b s ⟨256 + j.val, by omega⟩) := by
  pointwise [o1]
theorem o2_at (j : Fin 256) : o2 c (ix3 b j s) = c (ix3 b s ⟨512 + j.val, by omega⟩) := by
  pointwise [o2]
theorem fR_head (z : FVec Ideal S2x16384x4x96 .f32) (h : Fin 4) (a : Fin 64 → EReal) (u : Fin 32 → EReal) (C S : Fin 16 → EReal) (k : EReal)
    (h0 : ∀ l : Fin 64, z (ix4 b s h ⟨l.val, by omega⟩) = a l * k) (h1 : ∀ l : Fin 32, z (ix4 b s h ⟨64 + l.val, by omega⟩) = rope u C S l * k) (l : Fin 128) :
    fR z (ix4 b s h l) = head a u C S l.val * k :=
  head_ext a u C S (fun l => fR z (ix4 b s h l)) k (fun l => (fR_0 b s z h ⟨l.val, by omega⟩).trans (h0 l)) (fun l => (fR_0 b s z h ⟨64 + l.val, by omega⟩).trans (h1 l))
    (fun l => fR_1 b s z h l) l

theorem zq_0 (h : Fin 4) (l : Fin 64) : zq q A (ix4 b s h ⟨l.val, by omega⟩) = q (ix3 b s ⟨h.val * 96 + l.val, by omega⟩) * ((((Real.log 2)⁻¹) * (Real.sqrt 96)⁻¹ : ℝ) : EReal) := by
  rw [← l_at 96 (by norm_num) 0x42C00000#32 d96 _ ix0]
  pointwise [zq, jR]

theorem zq_1 (h : Fin 4) (l : Fin 32) : zq q A (ix4 b s h ⟨64 + l.val, by omega⟩)
    = rope (fun d => q (ix3 b s ⟨h.val * 96 + (64 + d.val), by omega⟩)) (fun i => Ideal.cos (A (ix3 b s i))) (fun i => Ideal.sin (A (ix3 b s i))) l
      * ((((Real.log 2)⁻¹) * (Real.sqrt 96)⁻¹ : ℝ) : EReal) := by
  rw [← l_at 96 (by norm_num) 0x42C00000#32 d96 _ ix0, ← rqR_at]
  unfold zq
  generalize rqR q A = z
  pointwise [jR]

theorem zk_0 (h : Fin 4) (l : Fin 64) : zk kv c A (ix4 b s h ⟨l.val, by omega⟩) = kv (ix3 b s ⟨h.val * 128 + l.val, by omega⟩) := by
  pointwise [zk, jR]

theorem zk_1 (h : Fin 4) (l : Fin 32) : zk kv c A (ix4 b s h ⟨64 + l.val, by omega⟩) = rkR c (Host.cos A) (Host.sin A) (ix3 b s l) := by
  unfold zk
  generalize rkR c (Host.cos A) (Host.sin A) = z
  pointwise [jR]

theorem cast_0 (z : FVec Ideal S2x16384x4x128 .f32) (h : Fin 4) (l : Fin 128) :
    (truncf .bf16 (transpose S2x512x16384 [0, 2, 1] (shapeCast S2x16384x512 z shapeCasts_S2x16384x4x128_S2x16384x512) transposes_S2x16384x512_S2x512x16384_0_2_1) bitsLt_bf16_f32 : FVec Ideal S2x512x16384 .bf16)
      (ix3 b ⟨h.val * 128 + l.val, by omega⟩ s) = z (ix4 b s h l) := by
  pointwise []

theorem cast_1 (z : FVec Ideal S2x16384x4x128 .f32) (h : Fin 4) (l : Fin 128) :
    (truncf .bf16 (shapeCast S2x16384x512 z shapeCasts_S2x16384x4x128_S2x16384x512) bitsLt_bf16_f32 : FVec Ideal S2x16384x512 .bf16) (ix3 b s ⟨h.val * 128 + l.val, by omega⟩) = z (ix4 b s h l) := by
  pointwise []

theorem o3_at (h : Fin 4) (l : Fin 128) : o3 q A (ix3 b ⟨h.val * 128 + l.val, by omega⟩ s)
    = qlanes (fun j => q (ix3 b s j)) (fun i => Ideal.cos (A (ix3 b s i))) (fun i => Ideal.sin (A (ix3 b s i))) h l.val * ((((Real.log 2)⁻¹) * (Real.sqrt 96)⁻¹ : ℝ) : EReal) := by
  unfold qlanes o3
  rw [cast_0]
  exact fR_head b s _ h _ _ _ _ _ (zq_0 A q b s h) (zq_1 A q b s h) l

theorem o4_at (h : Fin 4) (l : Fin 128) : o4 kv c A (ix3 b s ⟨h.val * 128 + l.val, by omega⟩)
    = klanes (fun j => kv (ix3 b s j)) (fun j => c (ix3 b s j)) (fun i => Ideal.cos (A (ix3 b s i))) (fun i => Ideal.sin (A (ix3 b s i))) h l.val := by
  unfold klanes o4
  rw [cast_1, ← mul_one (head _ _ _ _ _)]
  refine fR_head b s _ h _ _ _ _ _ (fun l => ?_) (fun l => ?_) l
  · rw [mul_one]
    exact zk_0 c A kv b s h l
  · rw [mul_one, zk_1, rkR_at]
    rfl

theorem o5_at (h : Fin 4) (d : Fin 64) : o5 kv (ix3 b ⟨64 * h.val + d.val, by omega⟩ s) = kv (ix3 b s ⟨h.val * 128 + (64 + d.val), by omega⟩) := by
  pointwise [o5]
theorem o6_at (j : Fin 512) : o6 c (ix3 b j s) = c (ix3 b s ⟨1184 + j.val, by omega⟩) * ((((Real.log 2)⁻¹) * (Real.sqrt 64)⁻¹ : ℝ) : EReal) := by
  rw [← l_at 64 (by norm_num) 0x42800000#32 d64 _ ix0]
  pointwise [o6]
theorem o7_at (j : Fin 128) : o7 c (ix3 b s j) = c (ix3 b s ⟨1696 + j.val, by omega⟩) := by
  pointwise [o7]
theorem o8_at (j : Fin 128) : o8 c (ix3 b j s) = c (ix3 b s ⟨1824 + j.val, by omega⟩) := by
  pointwise [o8]

end Cert.ProjReferenceIdeal.Step

end
-- ==== Proof.ProjSteps.lean ====
/- The input projection kernel's steps, each read at an index. -/
module

public import proofs.«01_k».proof.Proof.Gen.ProjIdeal.Skeleton
public import proofs.«01_k».proof.Proof.ProjRows
public import Idealize.ShloMosaic.Lib.Pointwise

@[expose] public section

set_option maxRecDepth 16384

noncomputable section

namespace Cert.ProjIdeal.Step

open Cert.ProjIdeal Cert.ProjIdeal.Gen Idealize.ShloMosaic Idealize.ShloMosaic.TcCoe Cert.ProjSpec

variable (v0 : Vec Ideal S1x512x1024 .f32) (v2 : Vec Ideal S1x1024 .f32) (wn : Vec Ideal S1024x896 .bf16) (wt : Vec Ideal S1152x1024 .bf16)
  (n : FVec Ideal S512x896 .f32) (u : FVec Ideal S1152x512 .f32) (gq : Vec Ideal S1x256 .f32) (gkv : Vec Ideal S1x128 .f32) (tab : Vec Ideal S1x512x128 .f32)
  (wk pl : Vec Ideal S128x512 .bf16) (wv : Vec Ideal S256x128 .bf16) (qn : FVec Ideal S512x256 .bf16) (wqa : Vec Ideal S512x256 .bf16) (wqb : Vec Ideal S128x256 .bf16)
  (ct st : Vec Ideal S1x32x512 .f32) (a : FVec Ideal S512x512 .f32) (b : FVec Ideal S128x512 .f32) (C S : FVec Ideal S32x512 .f32) (r : Fin 512)

/-- The three scales of the queries. -/
abbrev kd : EReal := ((((Real.log 2)⁻¹) * (Real.sqrt 32)⁻¹ : ℝ) : EReal)
abbrev km : EReal := ((((Real.log 2)⁻¹) * (Real.sqrt 96)⁻¹ : ℝ) : EReal)
abbrev ks : EReal := ((((Real.log 2)⁻¹) * (Real.sqrt 64)⁻¹ : ℝ) : EReal)

theorem kd_val : (Named.named κ "diff_log2e" 0x3E8293EE#32 : Ideal .f32) = kd := IdealRules.named_const.ideal_named_scalar _ _ _ _ rfl
theorem km_val : (Named.named κ "mla_log2e" 0x3E16C740#32 : Ideal .f32) = km := IdealRules.named_const.ideal_named_scalar _ _ _ _ rfl
theorem ks_val : (Named.named κ "swa_log2e" 0x3E38AA3B#32 : Ideal .f32) = ks := IdealRules.named_const.ideal_named_scalar _ _ _ _ rfl

theorem pay2_at (i : Fin 1024) : k0_pay2 v0 v2 (ix2 r i) = rms (Ideal.ofBits .f32 0x44800000#32) (fun i => v0 (ix3 0 r i)) (fun i => v2 (ix2 0 i)) i := by
  unfold rms
  pointwise [k0_pay2]

theorem pay3_at (j : Fin 896) : k0_pay3 v0 v2 wn (ix2 r j) = ∑ i : Fin 1024, k0_pay2 v0 v2 (ix2 r i) * wn (ix2 i j) := by
  pointwise [k0_pay3]

theorem pay4_at (j : Fin 1152) : k0_pay4 v0 v2 wt (ix2 j r) = ∑ i : Fin 1024, k0_pay2 v0 v2 (ix2 r i) * wt (ix2 j i) := by
  simp only [mul_comm (k0_pay2 v0 v2 _)]
  pointwise [k0_pay4]

theorem pay5_at (j : Fin 256) : k0_pay5 v0 v2 wt (ix3 0 j r) = k0_pay4 v0 v2 wt (ix2 ⟨j.val, by omega⟩ r) * kd := by
  rw [← kd_val]
  pointwise [k0_pay5]

theorem pay6_at (j : Fin 256) : k0_pay6 v0 v2 wt (ix3 0 j r) = k0_pay4 v0 v2 wt (ix2 ⟨256 + j.val, by omega⟩ r) := by
  pointwise [k0_pay6]

theorem pay7_at (j : Fin 512) : k0_pay7 u (ix3 0 j r) = u (ix2 ⟨512 + j.val, by omega⟩ r) * ks := by
  rw [← ks_val]
  pointwise [k0_pay7]

theorem pay8_at (j : Fin 128) : k0_pay8 u (ix3 0 j r) = u (ix2 ⟨1024 + j.val, by omega⟩ r) := by
  pointwise [k0_pay8]

theorem pay9_at (j : Fin 256) : k0_pay9 n (ix3 0 r j) = n (ix2 r ⟨j.val, by omega⟩) := by
  pointwise [k0_pay9]

theorem pay10_at (j : Fin 128) : k0_pay10 n (ix3 0 r j) = n (ix2 r ⟨768 + j.val, by omega⟩) := by
  pointwise [k0_pay10]

theorem pay11_at (i : Fin 256) : k0_pay11 n gq (ix2 r i) = rms (Ideal.ofBits .f32 0x43800000#32) (fun i : Fin 256 => n (ix2 r ⟨256 + i.val, by omega⟩)) (fun i => gq (ix2 0 i)) i := by
  unfold rms
  pointwise [k0_pay11]

theorem pay12_at (i : Fin 128) : k0_pay12 n gkv (ix2 r i) = rms (Ideal.ofBits .f32 0x43000000#32) (fun i : Fin 128 => n (ix2 r ⟨512 + i.val, by omega⟩)) (fun i => gkv (ix2 0 i)) i := by
  unfold rms
  pointwise [k0_pay12]

/-- The lanes of the rotated key: products of the key's lanes and the table's, each with the one 32 lanes on. -/
def rotK : FVec Ideal S512x128 .bf16 :=
  have x : FVec Ideal S512x128 .f32 := mulf (extractStridedSlice S512x128 ![0, 640] n slices_S512x896_o0_640_S512x128) (shapeCast S512x128 tab shapeCasts_S1x512x128_S512x128)
  truncf .bf16 (addf x (dynamicRotate 1 96#32 none x rotates_S512x128_d1)) bitsLt_bf16_f32

theorem rotK_at (k : Fin 32) : rotK n tab (ix2 r ⟨k.val, by omega⟩)
    = n (ix2 r ⟨640 + k.val, by omega⟩) * tab (ix3 0 r ⟨k.val, by omega⟩) + n (ix2 r ⟨672 + k.val, by omega⟩) * tab (ix3 0 r ⟨32 + k.val, by omega⟩) := by
  pointwise [rotK]
  have e1 : (⟨640 + (k.val + 128 - 96) % 128, by omega⟩ : Fin 896) = ⟨672 + k.val, by omega⟩ := Fin.ext (by simp only []; omega)
  have e2 : (⟨(k.val + 128 - 96) % 128, by omega⟩ : Fin 128) = ⟨32 + k.val, by omega⟩ := Fin.ext (by simp only []; omega)
  rw [e1, e2]

theorem pay13_at (j : Fin 512) : k0_pay13 n gkv tab wk pl (ix3 0 r j)
    = (∑ i : Fin 128, k0_pay12 n gkv (ix2 r i) * wk (ix2 i j)) + ∑ i : Fin 128, rotK n tab (ix2 r i) * pl (ix2 i j) := by
  have e : k0_pay13 n gkv tab wk pl = shapeCast S1x512x512 (truncf .bf16 (addf
      (matmul (φ₂ := .bf16) dot_S512x128_S128x512_S512x512_1_0_0_1_n_n none (k0_pay12 n gkv) (shapeCast S128x512 wk shapeCasts_S128x512_S128x512 : FVec Ideal S128x512 .bf16) (constant S512x512 .f32 0x00000000#32))
      (matmul (φ₂ := .bf16) dot_S512x128_S128x512_S512x512_1_0_0_1_n_n none (rotK n tab) (shapeCast S128x512 pl shapeCasts_S128x512_S128x512 : FVec Ideal S128x512 .bf16) (constant S512x512 .f32 0x00000000#32)))
      bitsLt_bf16_f32 : FVec Ideal S512x512 .bf16) shapeCasts_S512x512_S1x512x512 := rfl
  rw [e]
  generalize rotK n tab = x
  generalize k0_pay12 n gkv = y
  pointwise []

theorem pay15_at (j : Fin 256) : k0_pay15 (k0_pay14 n gkv wv) (ix3 0 j r) = ∑ i : Fin 128, k0_pay12 n gkv (ix2 r i) * wv (ix2 j i) := by
  simp only [mul_comm (k0_pay12 n gkv _)]
  pointwise [k0_pay15, k0_pay14]

theorem pay16_at (j : Fin 512) : k0_pay16 qn wqa (ix2 j r) = ∑ i : Fin 256, qn (ix2 r i) * wqa (ix2 j i) := by
  simp only [mul_comm (qn _)]
  pointwise [k0_pay16]

theorem pay17_at (j : Fin 128) : k0_pay17 qn wqb (ix2 j r) = ∑ i : Fin 256, qn (ix2 r i) * wqb (ix2 j i) := by
  simp only [mul_comm (qn _)]
  pointwise [k0_pay17]

theorem pay18_at (j : Fin 32) : k0_pay18 ct (ix2 j r) = ct (ix3 0 j r) := by
  pointwise [k0_pay18]

theorem pay19_at (j : Fin 32) : k0_pay19 st (ix2 j r) = st (ix3 0 j r) := by
  pointwise [k0_pay19]

/-- A head's plain lanes. -/
def plainK (h : Fin 4) : FVec Ideal S1x64x512 .bf16 :=
  match h with
  | 0 => k0_pay20 qn wqa
  | 1 => k0_pay24 (k0_pay16 qn wqa)
  | 2 => k0_pay27 (k0_pay16 qn wqa)
  | 3 => k0_pay31 (k0_pay16 qn wqa)

/-- A head's rotated lanes. -/
def turnK (h : Fin 4) : FVec Ideal S1x32x512 .bf16 :=
  match h with
  | 0 => k0_pay21 qn wqa wqb ct st
  | 1 => k0_pay25 (k0_pay16 qn wqa) (k0_pay17 qn wqb) (k0_pay18 ct) (k0_pay19 st)
  | 2 => k0_pay29 (k0_pay28 (k0_pay16 qn wqa) (k0_pay17 qn wqb) (k0_pay18 ct) (k0_pay19 st))
  | 3 => k0_pay32 (k0_pay16 qn wqa) (k0_pay17 qn wqb) (k0_pay18 ct) (k0_pay19 st)

/-- A head's lanes past its entries. -/
def restK (h : Fin 4) : FVec Ideal S1x32x512 .bf16 :=
  match h with
  | 0 => k0_pay23 k0_pay22
  | 1 => k0_pay26
  | 2 => k0_pay30
  | 3 => k0_pay1 k0_pay33

theorem plainK_at (h : Fin 4) (l : Fin 64) : plainK qn wqa h (ix3 0 l r) = k0_pay16 qn wqa (ix2 ⟨128 * h.val + l.val, by omega⟩ r) * km := by
  unfold plainK
  rw [← km_val]
  match h with
  | 0 => pointwise [k0_pay20]
  | 1 =>
    generalize k0_pay16 qn wqa = a
    pointwise [k0_pay24]
  | 2 =>
    generalize k0_pay16 qn wqa = a
    pointwise [k0_pay27]
  | 3 =>
    generalize k0_pay16 qn wqa = a
    pointwise [k0_pay31]

theorem turnK_at (h : Fin 4) (l : Fin 32) : turnK qn wqa wqb ct st h (ix3 0 l r)
    = (k0_pay16 qn wqa (ix2 ⟨128 * h.val + 64 + l.val, by omega⟩ r) * ct (ix3 0 l r) + k0_pay17 qn wqb (ix2 ⟨32 * h.val + l.val, by omega⟩ r) * st (ix3 0 l r)) * km := by
  unfold turnK
  rw [← km_val, ← pay18_at ct r l, ← pay19_at st r l]
  match h with
  | 0 => pointwise [k0_pay21]
  | 1 =>
    generalize k0_pay16 qn wqa = a
    generalize k0_pay17 qn wqb = b
    generalize k0_pay18 ct = C
    generalize k0_pay19 st = S
    pointwise [k0_pay25]
  | 2 =>
    generalize k0_pay16 qn wqa = a
    generalize k0_pay17 qn wqb = b
    generalize k0_pay18 ct = C
    generalize k0_pay19 st = S
    pointwise [k0_pay29, k0_pay28]
  | 3 =>
    generalize k0_pay16 qn wqa = a
    generalize k0_pay17 qn wqb = b
    generalize k0_pay18 ct = C
    generalize k0_pay19 st = S
    pointwise [k0_pay32]

theorem zero16 : Ideal.ofBits .bf16 0x0000#16 = 0 := by
  simp [Ideal.ofBits, Ideal.ieee]

theorem restK_at (h : Fin 4) (l : Fin 32) : restK h (ix3 0 l r) = 0 := by
  unfold restK
  rw [← zero16]
  match h with
  | 0 => pointwise [k0_pay23, k0_pay22]
  | 1 => pointwise [k0_pay26]
  | 2 => pointwise [k0_pay30]
  | 3 => pointwise [k0_pay1, k0_pay33]

end Cert.ProjIdeal.Step

end
-- ==== Proof.ProjPoint.lean ====
/- What the input projection's host prepares for the kernel, as entries of the arguments. -/
module

public import proofs.«01_k».proof.Proof.Gen.ProjIdeal.Frame.Runs
public import proofs.«01_k».proof.Proof.ProjRows
import Idealize.ShloMosaic.Lib.Pipeline.ValueKit
public import Idealize.ShloMosaic.Lib.Pointwise

@[expose] public section

set_option maxRecDepth 16384

noncomputable section

namespace Cert.ProjIdeal.Step

open Cert.ProjIdeal Cert.ProjIdeal.Gen Idealize.ShloMosaic Idealize.ShloMosaic.TcCoe Idealize.SL.Sem Cert.ProjSpec

/-- The rows' weights, side by side. -/
def wnH (w : FVec Ideal S1024x1952 .f32) : FVec Ideal S1024x896 .bf16 :=
  have k : FVec Ideal S1024x32 .f32 := extractStridedSlice S1024x32 ![0, 1152] w slices_S1024x1952_S1024x32_0_1152
  truncf .bf16 (concatenate S1024x896 1 [⟨S1024x256, extractStridedSlice S1024x256 ![0, 256] w slices_S1024x1952_S1024x256_0_256⟩,
    ⟨S1024x256, extractStridedSlice S1024x256 ![0, 768] w slices_S1024x1952_S1024x256_0_768⟩, ⟨S1024x128, extractStridedSlice S1024x128 ![0, 1024] w slices_S1024x1952_S1024x128_0_1024⟩,
    ⟨S1024x32, k⟩, ⟨S1024x16, extractStridedSlice S1024x16 ![0, 16] k slices_S1024x32_S1024x16_0_16⟩, ⟨S1024x16, extractStridedSlice S1024x16 ![0, 0] k slices_S1024x32_S1024x16_0_0⟩,
    ⟨S1024x64, broadcastInDim S1024x64 ![] bcast_S_S1024x64 (constant (F := Ideal) S_ .f32 0x00000000#32)⟩,
    ⟨S1024x128, extractStridedSlice S1024x128 ![0, 1696] w slices_S1024x1952_S1024x128_0_1696⟩] concatenates_S1024x256_S1024x256_S1024x128_S1024x32_S1024x16_S1024x16_S1024x64_S1024x128_S1024x896_d1) bitsLt_bf16_f32

/-- The columns' weights, side by side and transposed. -/
def wtH (w : FVec Ideal S1024x1952 .f32) : FVec Ideal S1152x1024 .bf16 :=
  truncf .bf16 (transpose S1152x1024 [1, 0] (concatenate S1024x1152 1 [⟨S1024x256, extractStridedSlice S1024x256 ![0, 0] w slices_S1024x1952_S1024x256_0_0⟩,
    ⟨S1024x256, extractStridedSlice S1024x256 ![0, 512] w slices_S1024x1952_S1024x256_0_512⟩, ⟨S1024x512, extractStridedSlice S1024x512 ![0, 1184] w slices_S1024x1952_S1024x512_0_1184⟩,
    ⟨S1024x128, extractStridedSlice S1024x128 ![0, 1824] w slices_S1024x1952_S1024x128_0_1824⟩] concatenates_S1024x256_S1024x256_S1024x512_S1024x128_S1024x1152_d1) transposes_S1024x1152_S1152x1024_1_0) bitsLt_bf16_f32

/-- The latent queries' weights, each head filled up to 128 rows. -/
def waH (w : FVec Ideal S256x384 .f32) : FVec Ideal S512x256 .bf16 :=
  truncf .bf16 (transpose S512x256 [1, 0] (shapeCast S256x512 (concatenate S256x4x128 2 [⟨S256x4x96, (shapeCast S256x4x96 w shapeCasts_S256x384_S256x4x96 : FVec Ideal S256x4x96 .f32)⟩,
    ⟨S256x4x32, broadcastInDim S256x4x32 ![] bcast_S_S256x4x32 (constant (F := Ideal) S_ .f32 0x00000000#32)⟩] concatenates_S256x4x96_S256x4x32_S256x4x128_d2) shapeCasts_S256x4x128_S256x512)
    transposes_S256x512_S512x256_1_0) bitsLt_bf16_f32

/-- The rotated entries' weights, the halves exchanged. -/
def wbH (w : FVec Ideal S256x384 .f32) : FVec Ideal S128x256 .bf16 :=
  have q : FVec Ideal S256x4x96 .f32 := shapeCast S256x4x96 w shapeCasts_S256x384_S256x4x96
  truncf .bf16 (transpose S128x256 [1, 0] (shapeCast S256x128 (concatenate S256x4x32 2 [⟨S256x4x16, extractStridedSlice S256x4x16 ![0, 0, 80] q slices_S256x4x96_S256x4x16_0_0_80⟩,
    ⟨S256x4x16, extractStridedSlice S256x4x16 ![0, 0, 64] q slices_S256x4x96_S256x4x16_0_0_64⟩] concatenates_S256x4x16_S256x4x16_S256x4x32_d2) shapeCasts_S256x4x32_S256x128)
    transposes_S256x128_S128x256_1_0) bitsLt_bf16_f32

/-- The latent keys' weights, each head filled up to 128 columns. -/
def wkH (w : FVec Ideal S128x512 .f32) : FVec Ideal S128x512 .bf16 :=
  truncf .bf16 (shapeCast S128x512 (concatenate S128x4x128 2 [⟨S128x4x64, extractStridedSlice S128x4x64 ![0, 0, 0] (shapeCast S128x4x128 w shapeCasts_S128x512_S128x4x128 : FVec Ideal S128x4x128 .f32) slices_S128x4x128_S128x4x64_0_0_0⟩,
    ⟨S128x4x64, broadcastInDim S128x4x64 ![] bcast_S_S128x4x64 (constant (F := Ideal) S_ .f32 0x00000000#32)⟩] concatenates_S128x4x64_S128x4x64_S128x4x128_d2) shapeCasts_S128x4x128_S128x512) bitsLt_bf16_f32

/-- The latent values' weights, transposed. -/
def wvH (w : FVec Ideal S128x512 .f32) : FVec Ideal S256x128 .bf16 :=
  truncf .bf16 (transpose S256x128 [1, 0] (shapeCast S128x256 (extractStridedSlice S128x4x64 ![0, 0, 64] (shapeCast S128x4x128 w shapeCasts_S128x512_S128x4x128 : FVec Ideal S128x4x128 .f32) slices_S128x4x128_S128x4x64_0_0_64)
    shapeCasts_S128x4x64_S128x256) transposes_S128x256_S256x128_1_0) bitsLt_bf16_f32

/-- The placement: one at row `r` below 32 and lane `64 + r` of each head, zero elsewhere. -/
def plH : FVec Ideal S128x512 .bf16 :=
  truncf .bf16 (shapeCast S128x512 (select (andi (cmpi .slt (iotaInDim S128x4x128 32 0) (broadcastInDim S128x4x128 ![] bcast_S_S128x4x128 (constantI S_ 32 32#32)))
      (cmpi .eq (iotaInDim S128x4x128 32 2) (addi (iotaInDim S128x4x128 32 0) (broadcastInDim S128x4x128 ![] bcast_S_S128x4x128 (constantI S_ 32 64#32)))))
    (broadcastInDim S128x4x128 ![] bcast_S_S128x4x128 (constant (F := Ideal) S_ .f32 0x3F800000#32)) (broadcastInDim S128x4x128 ![] bcast_S_S128x4x128 (constant (F := Ideal) S_ .f32 0x00000000#32)))
    shapeCasts_S128x4x128_S128x512) bitsLt_bf16_f32

/-- The angles. -/
def angH (p : Vec Ideal S2x16384 .i32) : FVec Ideal S2x16384x16 .f32 :=
  mulf (broadcastInDim S2x16384x16 ![0, 1, 2] bcast_S2x16384x1_S2x16384x16_0_1_2 (broadcastInDim S2x16384x1 ![0, 1] bcast_S2x16384_S2x16384x1_0_1 (sitofp .f32 p)))
    (broadcastInDim S2x16384x16 ![0, 1, 2] bcast_S1x1x16_S2x16384x16_0_1_2 (broadcastInDim S1x1x16 ![2] bcast_S16_S1x1x16_2 (Host.powf (broadcastInDim S16 ![] bcast_S_S16 (constant (F := Ideal) S_ .f32 0x461C4000#32))
      (Host.divf (Host.negf (sitofp .f32 (iotaInDim S16 32 0))) (broadcastInDim S16 ![] bcast_S_S16 (constant (F := Ideal) S_ .f32 0x41800000#32))))))

/-- The cosines twice over, and the sines with the first half's sign changed. -/
def cH (A : FVec Ideal S2x16384x16 .f32) : FVec Ideal S2x16384x32 .f32 :=
  concatenate S2x16384x32 2 [⟨S2x16384x16, Host.cos A⟩, ⟨S2x16384x16, Host.cos A⟩] concatenates_S2x16384x16_S2x16384x16_S2x16384x32_d2
def sH (A : FVec Ideal S2x16384x16 .f32) : FVec Ideal S2x16384x32 .f32 :=
  concatenate S2x16384x32 2 [⟨S2x16384x16, Host.negf (Host.sin A)⟩, ⟨S2x16384x16, Host.sin A⟩] concatenates_S2x16384x16_S2x16384x16_S2x16384x32_d2

/-- The keys' table. -/
def tH (A : FVec Ideal S2x16384x16 .f32) : FVec Ideal S2x16384x128 .f32 :=
  concatenate S2x16384x128 2 [⟨S2x16384x32, cH A⟩, ⟨S2x16384x32, sH A⟩, ⟨S2x16384x64, broadcastInDim S2x16384x64 ![] bcast_S_S2x16384x64 (constant (F := Ideal) S_ .f32 0x00000000#32)⟩]
    concatenates_S2x16384x32_S2x16384x32_S2x16384x64_S2x16384x128_d2

variable (m : (ℓ : Loc nD τ sig) → Buf (Elt Ideal) ℓ) (c : Dev nD)

/-- The arguments of the call. -/
abbrev a0 : Vec Ideal S2x16384x1024 .f32 := m ((c : Thread nD τ).loc main_arg0)
abbrev a1 : Vec Ideal S2x16384 .i32 := m ((c : Thread nD τ).loc main_arg1)
abbrev a2 : Vec Ideal S1024 .f32 := m ((c : Thread nD τ).loc main_arg2)
abbrev a3 : Vec Ideal S1024x1952 .f32 := m ((c : Thread nD τ).loc main_arg3)
abbrev a4 : Vec Ideal S256 .f32 := m ((c : Thread nD τ).loc main_arg4)
abbrev a5 : Vec Ideal S256x384 .f32 := m ((c : Thread nD τ).loc main_arg5)
abbrev a6 : Vec Ideal S128 .f32 := m ((c : Thread nD τ).loc main_arg6)
abbrev a7 : Vec Ideal S128x512 .f32 := m ((c : Thread nD τ).loc main_arg7)

theorem V64 : V m c main_v64 = wnH (a3 m c) := rfl
theorem V65 : V m c main_v65 = wtH (a3 m c) := rfl
theorem V68 : V m c main_v68 = waH (a5 m c) := rfl
theorem V69 : V m c main_v69 = wbH (a5 m c) := rfl
theorem V70 : V m c main_v70 = wkH (a7 m c) := rfl
theorem V71 : V m c main_v71 = wvH (a7 m c) := rfl
theorem V72 : V m c main_v72 = plH := rfl
set_option maxHeartbeats 4000000 in
theorem V18 : V m c main_v18 = tH (angH (a1 m c)) := rfl
set_option maxHeartbeats 4000000 in
theorem V19 : V m c main_v19 = (transpose S2x32x16384 [0, 2, 1] (cH (angH (a1 m c))) transposes_S2x16384x32_S2x32x16384_0_2_1) := rfl
set_option maxHeartbeats 4000000 in
theorem V20 : V m c main_v20 = (transpose S2x32x16384 [0, 2, 1] (sH (angH (a1 m c))) transposes_S2x16384x32_S2x32x16384_0_2_1) := rfl
theorem V66 : V m c main_v66 = shapeCast S1x256 (a4 m c) shapeCasts_S256_S1x256 := rfl
theorem V67 : V m c main_v67 = shapeCast S1x128 (a6 m c) shapeCasts_S128_S1x128 := rfl
theorem V73 : V m c main_v73 = shapeCast S1x1024 (a2 m c) shapeCasts_S1024_S1x1024 := rfl

end Cert.ProjIdeal.Step

end
-- ==== Proof.ProjBlocks.lean ====
/- The blocks of the input projection's windows, as entries of the call's arguments. -/
module

public import proofs.«01_k».proof.Proof.ProjPoint
import Idealize.ShloMosaic.Lib.Pipeline.ValueKit

@[expose] public section

set_option maxRecDepth 16384

noncomputable section

namespace Cert.ProjIdeal.Step

open Cert.ProjIdeal Cert.ProjIdeal.Gen Idealize.ShloMosaic Idealize.ShloMosaic.TcCoe Idealize.SL.Sem Cert.ProjSpec

theorem idx : ∀ t : Fin cfg0.N,
    win0_0.index t = ![t.val / 32, t.val % 32, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val / 32, t.val % 32, 0] ∧ win0_12.index t = ![t.val / 32, 0, t.val % 32] ∧ win0_13.index t = ![t.val / 32, 0, t.val % 32]
    ∧ win0_14.index t = ![t.val / 32, 0, t.val % 32] ∧ win0_15.index t = ![t.val / 32, t.val % 32, 0] ∧ win0_16.index t = ![t.val / 32, 0, t.val % 32]
    ∧ win0_17.index t = ![t.val / 32, 0, t.val % 32] ∧ win0_18.index t = ![t.val / 32, t.val % 32, 0] ∧ win0_19.index t = ![t.val / 32, 0, t.val % 32]
    ∧ win0_20.index t = ![t.val / 32, 0, t.val % 32] ∧ win0_21.index t = ![t.val / 32, t.val % 32, 0] ∧ win0_22.index t = ![t.val / 32, 0, t.val % 32] ∧ t.val / 32 < 2 :=
  (by decide +kernel : ∀ t : Fin grid0.N, _)

variable (m : (ℓ : Loc nD τ sig) → Buf (Elt Ideal) ℓ) (c : Dev nD) (t : Fin cfg0.N)

theorem tlt : t.val < 64 := lt_of_lt_of_eq t.isLt (show cfg0.N = 64 from N_0)

/-- The window of the batch and of the token at row `r` of a point's blocks. -/
def bt : Fin 2 := ⟨t.val / 32, by have := tlt t; omega⟩
def tok (r : Fin 512) : Fin 16384 := ⟨512 * (t.val % 32) + r.val, by omega⟩

theorem b0 (r : Fin 512) (i : Fin 1024) : (iblk m c 0 t : Vec Ideal S1x512x1024 .f32) (ix3 0 r i) = a0 m c (ix3 (bt t) (tok t r) i) := by
  blk_ext [iblk, V, idx t, a0, bt, tok]
theorem w1 (i : Fin 1024) : (iblk m c 1 t : Vec Ideal S1x1024 .f32) (ix2 0 i) = (V m c main_v73 : Vec Ideal S1x1024 .f32) (ix2 0 i) := by
  unfold iblk
  generalize V m c = v
  blk_ext [idx t]
theorem w4 (i : Fin 256) : (iblk m c 4 t : Vec Ideal S1x256 .f32) (ix2 0 i) = (V m c main_v66 : Vec Ideal S1x256 .f32) (ix2 0 i) := by
  unfold iblk
  generalize V m c = v
  blk_ext [idx t]
theorem w5 (i : Fin 128) : (iblk m c 5 t : Vec Ideal S1x128 .f32) (ix2 0 i) = (V m c main_v67 : Vec Ideal S1x128 .f32) (ix2 0 i) := by
  unfold iblk
  generalize V m c = v
  blk_ext [idx t]
theorem b1 (i : Fin 1024) : (iblk m c 1 t : Vec Ideal S1x1024 .f32) (ix2 0 i) = a2 m c (ix1 i) := by
  rw [w1, V73]
  generalize a2 m c = z
  pointwise []
theorem b4 (i : Fin 256) : (iblk m c 4 t : Vec Ideal S1x256 .f32) (ix2 0 i) = a4 m c (ix1 i) := by
  rw [w4, V66]
  generalize a4 m c = z
  pointwise []
theorem b5 (i : Fin 128) : (iblk m c 5 t : Vec Ideal S1x128 .f32) (ix2 0 i) = a6 m c (ix1 i) := by
  rw [w5, V67]
  generalize a6 m c = z
  pointwise []
theorem b2 (i : Fin 1024) (j : Fin 896) : (iblk m c 2 t : Vec Ideal S1024x896 .bf16) (ix2 i j) = wnH (a3 m c) (ix2 i j) := by
  rw [← V64]
  unfold iblk
  generalize V m c = v
  blk_ext [idx t]
theorem b3 (i : Fin 1152) (j : Fin 1024) : (iblk m c 3 t : Vec Ideal S1152x1024 .bf16) (ix2 i j) = wtH (a3 m c) (ix2 i j) := by
  rw [← V65]
  unfold iblk
  generalize V m c = v
  blk_ext [idx t]
theorem b6 (i : Fin 512) (j : Fin 256) : (iblk m c 6 t : Vec Ideal S512x256 .bf16) (ix2 i j) = waH (a5 m c) (ix2 i j) := by
  rw [← V68]
  unfold iblk
  generalize V m c = v
  blk_ext [idx t]
theorem b7 (i : Fin 128) (j : Fin 256) : (iblk m c 7 t : Vec Ideal S128x256 .bf16) (ix2 i j) = wbH (a5 m c) (ix2 i j) := by
  rw [← V69]
  unfold iblk
  generalize V m c = v
  blk_ext [idx t]
theorem b8 (i : Fin 128) (j : Fin 512) : (iblk m c 8 t : Vec Ideal S128x512 .bf16) (ix2 i j) = wkH (a7 m c) (ix2 i j) := by
  rw [← V70]
  unfold iblk
  generalize V m c = v
  blk_ext [idx t]
theorem b9 (i : Fin 256) (j : Fin 128) : (iblk m c 9 t : Vec Ideal S256x128 .bf16) (ix2 i j) = wvH (a7 m c) (ix2 i j) := by
  rw [← V71]
  unfold iblk
  generalize V m c = v
  blk_ext [idx t]
theorem b10 (i : Fin 128) (j : Fin 512) : (iblk m c 10 t : Vec Ideal S128x512 .bf16) (ix2 i j) = plH (ix2 i j) := by
  rw [← V72 m c]
  unfold iblk
  generalize V m c = v
  blk_ext [idx t]
theorem b11 (r : Fin 512) (j : Fin 128) : (iblk m c 11 t : Vec Ideal S1x512x128 .f32) (ix3 0 r j) = tH (angH (a1 m c)) (ix3 (bt t) (tok t r) j) := by
  rw [← V18]
  unfold iblk bt tok
  generalize V m c = v
  blk_ext [idx t]
theorem w12 (j : Fin 32) (r : Fin 512) : (iblk m c 12 t : Vec Ideal S1x32x512 .f32) (ix3 0 j r) = (V m c main_v19 : Vec Ideal S2x32x16384 .f32) (ix3 (bt t) j (tok t r)) := by
  unfold iblk bt tok
  generalize V m c = v
  blk_ext [idx t]
theorem b12 (j : Fin 32) (r : Fin 512) : (iblk m c 12 t : Vec Ideal S1x32x512 .f32) (ix3 0 j r) = cH (angH (a1 m c)) (ix3 (bt t) (tok t r) j) := by
  rw [w12, V19]
  generalize cH (angH (a1 m c)) = z
  pointwise []
theorem w13 (j : Fin 32) (r : Fin 512) : (iblk m c 13 t : Vec Ideal S1x32x512 .f32) (ix3 0 j r) = (V m c main_v20 : Vec Ideal S2x32x16384 .f32) (ix3 (bt t) j (tok t r)) := by
  unfold iblk bt tok
  generalize V m c = v
  blk_ext [idx t]
theorem b13 (j : Fin 32) (r : Fin 512) : (iblk m c 13 t : Vec Ideal S1x32x512 .f32) (ix3 0 j r) = sH (angH (a1 m c)) (ix3 (bt t) (tok t r) j) := by
  rw [w13, V20]
  generalize sH (angH (a1 m c)) = z
  pointwise []

end Cert.ProjIdeal.Step

end
-- ==== Proof.ProjHost.lean ====
/- What the input projection's host prepares, entry by entry. -/
module

public import proofs.«01_k».proof.Proof.ProjPoint

@[expose] public section

set_option maxRecDepth 16384

noncomputable section

namespace Cert.ProjIdeal.Step

open Cert.ProjIdeal Cert.ProjIdeal.Gen Idealize.ShloMosaic Idealize.ShloMosaic.TcCoe Idealize.SL.Sem Cert.ProjSpec

section
variable (w : FVec Ideal S1024x1952 .f32) (i : Fin 1024)
theorem wn_0 (j : Fin 256) : wnH w (ix2 i ⟨j.val, by omega⟩) = w (ix2 i ⟨256 + j.val, by omega⟩) := by
  pointwise [wnH]
theorem wn_1 (j : Fin 256) : wnH w (ix2 i ⟨256 + j.val, by omega⟩) = w (ix2 i ⟨768 + j.val, by omega⟩) := by
  pointwise [wnH]
theorem wn_2 (j : Fin 128) : wnH w (ix2 i ⟨512 + j.val, by omega⟩) = w (ix2 i ⟨1024 + j.val, by omega⟩) := by
  pointwise [wnH]
  rw [dif_neg (by omega), dif_neg (by omega), dif_pos (by omega)]
  exact congrArg w (congrArg (ix2 i) (Fin.ext (by simp only []; omega)))
theorem wn_3 (j : Fin 32) : wnH w (ix2 i ⟨640 + j.val, by omega⟩) = w (ix2 i ⟨1152 + j.val, by omega⟩) := by
  pointwise [wnH]
  rw [dif_neg (by omega), dif_neg (by omega), dif_neg (by omega), dif_pos (by omega)]
  exact congrArg w (congrArg (ix2 i) (Fin.ext (by simp only []; omega)))
theorem wn_4 (j : Fin 16) : wnH w (ix2 i ⟨672 + j.val, by omega⟩) = w (ix2 i ⟨1152 + (16 + j.val), by omega⟩) := by
  pointwise [wnH]
  rw [dif_neg (by omega), dif_neg (by omega), dif_neg (by omega), dif_neg (by omega), dif_pos (by omega)]
  exact congrArg w (congrArg (ix2 i) (Fin.ext (by simp only []; omega)))
theorem wn_5 (j : Fin 16) : wnH w (ix2 i ⟨688 + j.val, by omega⟩) = w (ix2 i ⟨1152 + j.val, by omega⟩) := by
  pointwise [wnH]
  rw [dif_neg (by omega), dif_neg (by omega), dif_neg (by omega), dif_neg (by omega), dif_neg (by omega), dif_pos (by omega)]
  exact congrArg w (congrArg (ix2 i) (Fin.ext (by simp only []; omega)))
theorem wn_6 (j : Fin 128) : wnH w (ix2 i ⟨768 + j.val, by omega⟩) = w (ix2 i ⟨1696 + j.val, by omega⟩) := by
  pointwise [wnH]
  rw [dif_neg (by omega), dif_neg (by omega), dif_neg (by omega), dif_neg (by omega), dif_neg (by omega), dif_neg (by omega), dif_neg (by omega)]
  exact congrArg w (congrArg (ix2 i) (Fin.ext (by simp only []; omega)))
theorem wt_0 (j : Fin 256) : wtH w (ix2 ⟨j.val, by omega⟩ i) = w (ix2 i ⟨j.val, by omega⟩) := by
  pointwise [wtH]
theorem wt_1 (j : Fin 256) : wtH w (ix2 ⟨256 + j.val, by omega⟩ i) = w (ix2 i ⟨512 + j.val, by omega⟩) := by
  pointwise [wtH]
theorem wt_2 (j : Fin 512) : wtH w (ix2 ⟨512 + j.val, by omega⟩ i) = w (ix2 i ⟨1184 + j.val, by omega⟩) := by
  pointwise [wtH]
  rw [dif_neg (by omega), dif_neg (by omega), dif_pos (by omega)]
  exact congrArg w (congrArg (ix2 i) (Fin.ext (by simp only []; omega)))
theorem wt_3 (j : Fin 128) : wtH w (ix2 ⟨1024 + j.val, by omega⟩ i) = w (ix2 i ⟨1824 + j.val, by omega⟩) := by
  pointwise [wtH]
  rw [dif_neg (by omega), dif_neg (by omega), dif_neg (by omega)]
  exact congrArg w (congrArg (ix2 i) (Fin.ext (by simp only []; omega)))
end

theorem zero32 : Ideal.ofBits .f32 0x00000000#32 = 0 := by simp [Ideal.ofBits, Ideal.ieee]
theorem one32 : Ideal.ofBits .f32 0x3F800000#32 = 1 := by
  have e : Ideal.ofBits .f32 0x3F800000#32 = ((1 : ℝ) : EReal) := by
    simp [Ideal.ofBits, Ideal.ieee, -EReal.coe_mul]
    norm_num
  exact e

section
variable (w : FVec Ideal S256x384 .f32) (i : Fin 256) (h : Fin 4)
theorem wa_0 (l : Fin 96) : waH w (ix2 ⟨128 * h.val + l.val, by omega⟩ i) = w (ix2 i ⟨h.val * 96 + l.val, by omega⟩) := by
  pointwise [waH]
  rw [dif_pos (by omega)]
  exact congrArg w (congrArg (ix2 i) (Fin.ext (by simp only []; omega)))
theorem wb_0 (d : Fin 16) : wbH w (ix2 ⟨32 * h.val + d.val, by omega⟩ i) = w (ix2 i ⟨h.val * 96 + (80 + d.val), by omega⟩) := by
  pointwise [wbH]
  rw [dif_pos (by omega)]
  exact congrArg w (congrArg (ix2 i) (Fin.ext (by simp only []; omega)))
theorem wb_1 (d : Fin 16) : wbH w (ix2 ⟨32 * h.val + (16 + d.val), by omega⟩ i) = w (ix2 i ⟨h.val * 96 + (64 + d.val), by omega⟩) := by
  pointwise [wbH]
  rw [dif_neg (by omega)]
  exact congrArg w (congrArg (ix2 i) (Fin.ext (by simp only []; omega)))
end

section
variable (w : FVec Ideal S128x512 .f32) (i : Fin 128) (h : Fin 4)
theorem wk_0 (l : Fin 64) : wkH w (ix2 i ⟨128 * h.val + l.val, by omega⟩) = w (ix2 i ⟨h.val * 128 + l.val, by omega⟩) := by
  pointwise [wkH]
  rw [dif_pos (by omega)]
  exact congrArg w (congrArg (ix2 i) (Fin.ext (by simp only []; omega)))
theorem wk_1 (l : Fin 64) : wkH w (ix2 i ⟨128 * h.val + (64 + l.val), by omega⟩) = 0 := by
  rw [← zero32]
  pointwise [wkH]
  exact dif_neg (by omega)
theorem wv_0 (d : Fin 64) : wvH w (ix2 ⟨64 * h.val + d.val, by omega⟩ i) = w (ix2 i ⟨h.val * 128 + (64 + d.val), by omega⟩) := by
  pointwise [wvH]
end

section
variable (A : FVec Ideal S2x16384x16 .f32) (b : Fin 2) (s : Fin 16384) (d : Fin 16)
theorem c_0  : cH A (ix3 b s ⟨d.val, by omega⟩) = Ideal.cos (A (ix3 b s d)) := by
  pointwise [cH]
theorem c_1  : cH A (ix3 b s ⟨16 + d.val, by omega⟩) = Ideal.cos (A (ix3 b s d)) := by
  pointwise [cH]
theorem s_0  : sH A (ix3 b s ⟨d.val, by omega⟩) = -Ideal.sin (A (ix3 b s d)) := by
  pointwise [sH]
theorem s_1  : sH A (ix3 b s ⟨16 + d.val, by omega⟩) = Ideal.sin (A (ix3 b s d)) := by
  pointwise [sH]
theorem t_0 (k : Fin 32) : tH A (ix3 b s ⟨k.val, by omega⟩) = cH A (ix3 b s k) := by
  unfold tH
  generalize cH A = z
  generalize sH A = z'
  pointwise []
theorem t_1 (k : Fin 32) : tH A (ix3 b s ⟨32 + k.val, by omega⟩) = sH A (ix3 b s k) := by
  unfold tH
  generalize cH A = z
  generalize sH A = z'
  pointwise []
end

theorem pl_word : ∀ i l : Fin 128, IntOp.andi (IntOp.cmpi CmpIPredicate.slt (BitVec.ofNat 32 i.val) 32#32) (IntOp.cmpi CmpIPredicate.eq (BitVec.ofNat 32 l.val) (IntOp.addi (BitVec.ofNat 32 i.val) 64#32))
    = if i.val < 32 ∧ l.val = i.val + 64 then 1#1 else 0#1 := by
  decide +kernel

theorem pl_at (i : Fin 128) (h : Fin 4) (l : Fin 128) : plH (ix2 i ⟨128 * h.val + l.val, by omega⟩) = if i.val < 32 ∧ l.val = i.val + 64 then 1 else 0 := by
  rw [← zero32, ← one32]
  pointwise [plH]
  rw [pl_word]
  split <;> rfl

end Cert.ProjIdeal.Step

end
-- ==== Proof.ProjValue.lean ====
/- What a point of the input projection computes from its blocks, in terms of the call's arguments. -/
module

public import proofs.«01_k».proof.Proof.ProjSteps
public import proofs.«01_k».proof.Proof.ProjBlocks
public import proofs.«01_k».proof.Proof.ProjHost

@[expose] public section

set_option maxRecDepth 16384

noncomputable section

namespace Cert.ProjIdeal.Step

open Cert.ProjIdeal Cert.ProjIdeal.Gen Idealize.ShloMosaic Idealize.ShloMosaic.TcCoe Idealize.SL.Sem Cert.ProjSpec

variable (m : (ℓ : Loc nD τ sig) → Buf (Elt Ideal) ℓ) (c : Dev nD)

/-- The columns, the latent queries, the latent keys and values, and the angles' cosines and sines of a token. -/
def cA (b : Fin 2) (s : Fin 16384) : Fin 1952 → EReal :=
  cols (fun i => a0 m c (ix3 b s i)) (fun i => a2 m c (ix1 i)) (fun i j => a3 m c (ix2 i j))
def qA (b : Fin 2) (s : Fin 16384) : Fin 384 → EReal := latq (cA m c b s) (fun i => a4 m c (ix1 i)) (fun i j => a5 m c (ix2 i j))
def kvA (b : Fin 2) (s : Fin 16384) : Fin 512 → EReal := latkv (cA m c b s) (fun i => a6 m c (ix1 i)) (fun i j => a7 m c (ix2 i j))
def csA (b : Fin 2) (s : Fin 16384) (i : Fin 16) : EReal := Ideal.cos (angH (a1 m c) (ix3 b s i))
def snA (b : Fin 2) (s : Fin 16384) (i : Fin 16) : EReal := Ideal.sin (angH (a1 m c) (ix3 b s i))

variable (t : Fin cfg0.N) (r : Fin 512)

/-- The point's projected rows and columns, and its normalised latents. -/
abbrev nP : FVec Ideal S512x896 .f32 := k0_pay3 (iblk m c 0 t) (iblk m c 1 t) (iblk m c 2 t)
abbrev uP : FVec Ideal S1152x512 .f32 := k0_pay4 (iblk m c 0 t) (iblk m c 1 t) (iblk m c 3 t)
abbrev qP : FVec Ideal S512x256 .bf16 := k0_pay11 (nP m c t) (iblk m c 4 t)

theorem pay2_blk (i : Fin 1024) : k0_pay2 (iblk m c 0 t) (iblk m c 1 t) (ix2 r i)
    = rms (Ideal.ofBits .f32 0x44800000#32) (fun i => a0 m c (ix3 (bt t) (tok t r) i)) (fun i => a2 m c (ix1 i)) i := by
  rw [pay2_at]
  simp only [b0, b1]

theorem n_at (j : Fin 896) (j' : Fin 1952) (h : ∀ i, wnH (a3 m c) (ix2 i j) = a3 m c (ix2 i j')) : nP m c t (ix2 r j) = cA m c (bt t) (tok t r) j' := by
  unfold nP cA cols up
  rw [pay3_at]
  exact Finset.sum_congr rfl fun i _ => by rw [pay2_blk, b2, h]

theorem u_at (j : Fin 1152) (j' : Fin 1952) (h : ∀ i, wtH (a3 m c) (ix2 j i) = a3 m c (ix2 i j')) : uP m c t (ix2 j r) = cA m c (bt t) (tok t r) j' := by
  unfold uP cA cols up
  rw [pay4_at]
  exact Finset.sum_congr rfl fun i _ => by rw [pay2_blk, b3, h]

theorem p14 (j : Fin 256) : k0_pay5 (iblk m c 0 t) (iblk m c 1 t) (iblk m c 3 t) (ix3 0 j r) = cA m c (bt t) (tok t r) ⟨j.val, by omega⟩ * kd := by
  rw [pay5_at]
  exact congrArg (fun z : EReal => z * kd) (u_at m c t r _ _ fun i => wt_0 _ i j)

theorem p15 (j : Fin 256) : k0_pay9 (nP m c t) (ix3 0 r j) = cA m c (bt t) (tok t r) ⟨256 + j.val, by omega⟩ := by
  rw [pay9_at]
  exact n_at m c t r _ _ fun i => wn_0 _ i j

theorem p16 (j : Fin 256) : k0_pay6 (iblk m c 0 t) (iblk m c 1 t) (iblk m c 3 t) (ix3 0 j r) = cA m c (bt t) (tok t r) ⟨512 + j.val, by omega⟩ := by
  rw [pay6_at]
  exact u_at m c t r _ _ fun i => wt_1 _ i j

theorem p20 (j : Fin 512) : k0_pay7 (uP m c t) (ix3 0 j r) = cA m c (bt t) (tok t r) ⟨1184 + j.val, by omega⟩ * ks := by
  rw [pay7_at]
  exact congrArg (fun z : EReal => z * ks) (u_at m c t r _ _ fun i => wt_2 _ i j)

theorem p21 (j : Fin 128) : k0_pay10 (nP m c t) (ix3 0 r j) = cA m c (bt t) (tok t r) ⟨1696 + j.val, by omega⟩ := by
  rw [pay10_at]
  exact n_at m c t r _ _ fun i => wn_6 _ i j

theorem p22 (j : Fin 128) : k0_pay8 (uP m c t) (ix3 0 j r) = cA m c (bt t) (tok t r) ⟨1824 + j.val, by omega⟩ := by
  rw [pay8_at]
  exact u_at m c t r _ _ fun i => wt_3 _ i j

theorem q_at (i : Fin 256) : qP m c t (ix2 r i)
    = rms (Ideal.ofBits .f32 0x43800000#32) (fun i : Fin 256 => cA m c (bt t) (tok t r) ⟨768 + i.val, by omega⟩) (fun i => a4 m c (ix1 i)) i := by
  unfold qP
  rw [pay11_at, show (fun i : Fin 256 => nP m c t (ix2 r ⟨256 + i.val, by omega⟩)) = fun i : Fin 256 => cA m c (bt t) (tok t r) ⟨768 + i.val, by omega⟩ from
    funext fun j => n_at m c t r _ _ fun i => wn_1 _ i j]
  simp only [b4]

theorem kv_at (i : Fin 128) : k0_pay12 (nP m c t) (iblk m c 5 t) (ix2 r i)
    = rms (Ideal.ofBits .f32 0x43000000#32) (fun i : Fin 128 => cA m c (bt t) (tok t r) ⟨1024 + i.val, by omega⟩) (fun i => a6 m c (ix1 i)) i := by
  rw [pay12_at, show (fun i : Fin 128 => nP m c t (ix2 r ⟨512 + i.val, by omega⟩)) = fun i : Fin 128 => cA m c (bt t) (tok t r) ⟨1024 + i.val, by omega⟩ from
    funext fun j => n_at m c t r _ _ fun i => wn_2 _ i j]
  simp only [b5]

theorem p19 (h : Fin 4) (d : Fin 64) : k0_pay15 (k0_pay14 (nP m c t) (iblk m c 5 t) (iblk m c 9 t)) (ix3 0 ⟨64 * h.val + d.val, by omega⟩ r)
    = kvA m c (bt t) (tok t r) ⟨h.val * 128 + (64 + d.val), by omega⟩ := by
  unfold kvA latkv up
  rw [pay15_at]
  exact Finset.sum_congr rfl fun i _ => by rw [kv_at, b9, wv_0]

theorem q16_at (j : Fin 512) (j' : Fin 384) (h : ∀ i, waH (a5 m c) (ix2 j i) = a5 m c (ix2 i j')) : k0_pay16 (qP m c t) (iblk m c 6 t) (ix2 j r) = qA m c (bt t) (tok t r) j' := by
  unfold qA latq up
  rw [pay16_at]
  exact Finset.sum_congr rfl fun i _ => by rw [q_at, b6, h]

theorem q17_at (j : Fin 128) (j' : Fin 384) (h : ∀ i, wbH (a5 m c) (ix2 j i) = a5 m c (ix2 i j')) : k0_pay17 (qP m c t) (iblk m c 7 t) (ix2 j r) = qA m c (bt t) (tok t r) j' := by
  unfold qA latq up
  rw [pay17_at]
  exact Finset.sum_congr rfl fun i _ => by rw [q_at, b7, h]

theorem plain_at (h : Fin 4) (l : Fin 64) : plainK (qP m c t) (iblk m c 6 t) h (ix3 0 l r) = qA m c (bt t) (tok t r) ⟨h.val * 96 + l.val, by omega⟩ * km := by
  rw [plainK_at]
  exact congrArg (fun z : EReal => z * km) (q16_at m c t r _ _ fun i => wa_0 _ i h ⟨l.val, by omega⟩)

/-- The rotated part of a head, before its scale. -/
def turnP (h : Fin 4) (l : Fin 32) : EReal :=
  k0_pay16 (qP m c t) (iblk m c 6 t) (ix2 ⟨128 * h.val + 64 + l.val, by omega⟩ r) * (iblk m c 12 t : Vec Ideal S1x32x512 .f32) (ix3 0 l r)
    + k0_pay17 (qP m c t) (iblk m c 7 t) (ix2 ⟨32 * h.val + l.val, by omega⟩ r) * (iblk m c 13 t : Vec Ideal S1x32x512 .f32) (ix3 0 l r)

theorem turnP_at (h : Fin 4) (l : Fin 32) : turnP m c t r h l
    = rope (fun d => qA m c (bt t) (tok t r) ⟨h.val * 96 + (64 + d.val), by omega⟩) (csA m c (bt t) (tok t r)) (snA m c (bt t) (tok t r)) l := by
  refine rope_ext _ _ _ (turnP m c t r h) (fun d => ?_) (fun d => ?_) l
  · have e : k0_pay16 (qP m c t) (iblk m c 6 t) (ix2 ⟨128 * h.val + 64 + d.val, by omega⟩ r) = qA m c (bt t) (tok t r) ⟨h.val * 96 + (64 + d.val), by omega⟩ :=
      q16_at m c t r _ _ fun i => Eq.trans (congrArg (fun z => waH (a5 m c) (ix2 z i)) (Fin.ext (by simp only []; omega))) (wa_0 _ i h ⟨64 + d.val, by omega⟩)
    have f : k0_pay17 (qP m c t) (iblk m c 7 t) (ix2 ⟨32 * h.val + d.val, by omega⟩ r) = qA m c (bt t) (tok t r) ⟨h.val * 96 + (64 + (16 + d.val)), by omega⟩ :=
      q17_at m c t r _ _ fun i => (wb_0 _ i h d).trans (congrArg (fun z => a5 m c (ix2 i z)) (Fin.ext (by simp only []; omega)))
    unfold turnP csA snA
    rw [b12, b13, c_0, s_0, e, f, mul_neg, sub_eq_add_neg]
  · have e : k0_pay16 (qP m c t) (iblk m c 6 t) (ix2 ⟨128 * h.val + 64 + (16 + d.val), by omega⟩ r) = qA m c (bt t) (tok t r) ⟨h.val * 96 + (64 + (16 + d.val)), by omega⟩ :=
      q16_at m c t r _ _ fun i => Eq.trans (congrArg (fun z => waH (a5 m c) (ix2 z i)) (Fin.ext (by simp only []; omega))) (wa_0 _ i h ⟨64 + (16 + d.val), by omega⟩)
    have f : k0_pay17 (qP m c t) (iblk m c 7 t) (ix2 ⟨32 * h.val + (16 + d.val), by omega⟩ r) = qA m c (bt t) (tok t r) ⟨h.val * 96 + (64 + d.val), by omega⟩ :=
      q17_at m c t r _ _ fun i => wb_1 _ i h d
    unfold turnP csA snA
    rw [b12, b13, c_1, s_1, e, f]
    exact add_comm _ _

theorem turn_at (h : Fin 4) (l : Fin 32) : turnK (qP m c t) (iblk m c 6 t) (iblk m c 7 t) (iblk m c 12 t) (iblk m c 13 t) h (ix3 0 l r)
    = rope (fun d => qA m c (bt t) (tok t r) ⟨h.val * 96 + (64 + d.val), by omega⟩) (csA m c (bt t) (tok t r)) (snA m c (bt t) (tok t r)) l * km := by
  rw [turnK_at, ← turnP_at m c t r h l]
  rfl

theorem rot_at (k : Fin 32) : rotK (nP m c t) (iblk m c 11 t) (ix2 r ⟨k.val, by omega⟩)
    = rope (fun d => cA m c (bt t) (tok t r) ⟨1152 + d.val, by omega⟩) (csA m c (bt t) (tok t r)) (snA m c (bt t) (tok t r)) k := by
  refine rope_ext _ _ _ (fun k : Fin 32 => rotK (nP m c t) (iblk m c 11 t) (ix2 r ⟨k.val, by omega⟩)) (fun d => ?_) (fun d => ?_) k
  · refine (rotK_at _ _ r ⟨d.val, by omega⟩).trans ?_
    unfold csA snA
    rw [n_at m c t r ⟨640 + d.val, by omega⟩ ⟨1152 + d.val, by omega⟩ fun i => wn_3 _ i ⟨d.val, by omega⟩,
      n_at m c t r ⟨672 + d.val, by omega⟩ ⟨1152 + (16 + d.val), by omega⟩ fun i => wn_4 _ i d, b11, b11]
    erw [t_0 _ _ _ ⟨d.val, by omega⟩, t_1 _ _ _ ⟨d.val, by omega⟩]
    rw [c_0, s_0, mul_neg, sub_eq_add_neg]
  · refine (rotK_at _ _ r ⟨16 + d.val, by omega⟩).trans ?_
    unfold csA snA
    rw [n_at m c t r ⟨640 + (16 + d.val), by omega⟩ ⟨1152 + (16 + d.val), by omega⟩ fun i => wn_3 _ i ⟨16 + d.val, by omega⟩,
      n_at m c t r ⟨672 + (16 + d.val), by omega⟩ ⟨1152 + d.val, by omega⟩ fun i =>
        Eq.trans (congrArg (fun z => wnH (a3 m c) (ix2 i z)) (Fin.ext (by simp only []; omega))) (wn_5 _ i d), b11, b11]
    erw [t_0 _ _ _ ⟨16 + d.val, by omega⟩, t_1 _ _ _ ⟨16 + d.val, by omega⟩]
    rw [c_1, s_1, add_comm]

/-- The two products of the latent keys' block. -/
theorem up_0 (h : Fin 4) (l : Fin 64) : ∑ i : Fin 128, k0_pay12 (nP m c t) (iblk m c 5 t) (ix2 r i) * (iblk m c 8 t : Vec Ideal S128x512 .bf16) (ix2 i ⟨128 * h.val + l.val, by omega⟩)
    = kvA m c (bt t) (tok t r) ⟨h.val * 128 + l.val, by omega⟩ := by
  unfold kvA latkv up
  exact Finset.sum_congr rfl fun i _ => by rw [kv_at, b8, wk_0]
theorem up_1 (h : Fin 4) (l : Fin 64) :
    ∑ i : Fin 128, k0_pay12 (nP m c t) (iblk m c 5 t) (ix2 r i) * (iblk m c 8 t : Vec Ideal S128x512 .bf16) (ix2 i ⟨128 * h.val + (64 + l.val), by omega⟩) = 0 :=
  Finset.sum_eq_zero fun i _ => by rw [b8, wk_1, mul_zero]
theorem place_0 (z : FVec Ideal S512x128 .bf16) (h : Fin 4) (l : Fin 128) (hl : l.val < 64 ∨ 96 ≤ l.val) :
    ∑ i : Fin 128, z (ix2 r i) * (iblk m c 10 t : Vec Ideal S128x512 .bf16) (ix2 i ⟨128 * h.val + l.val, by omega⟩) = 0 :=
  Finset.sum_eq_zero fun i _ => by rw [b10, pl_at, if_neg (by omega), mul_zero]
theorem place_1 (z : FVec Ideal S512x128 .bf16) (h : Fin 4) (k : Fin 32) :
    ∑ i : Fin 128, z (ix2 r i) * (iblk m c 10 t : Vec Ideal S128x512 .bf16) (ix2 i ⟨128 * h.val + (64 + k.val), by omega⟩) = z (ix2 r ⟨k.val, by omega⟩) := by
  have e : ∀ i : Fin 128, (iblk m c 10 t : Vec Ideal S128x512 .bf16) (ix2 i ⟨128 * h.val + (64 + k.val), by omega⟩) = if i.val < 32 ∧ 64 + k.val = i.val + 64 then (1 : EReal) else (0 : EReal) :=
    fun i => (b10 m c t _ _).trans (pl_at i h ⟨64 + k.val, by omega⟩)
  rw [Finset.sum_eq_single (⟨k.val, by omega⟩ : Fin 128)]
  · rw [e, if_pos ⟨k.isLt, by simp only []; omega⟩, mul_one]
  · intro i _ hi
    rw [e, if_neg fun hc => hi (Fin.ext (by simp only []; omega)), mul_zero]
  · exact fun hn => absurd (Finset.mem_univ _) hn

theorem p18 (h : Fin 4) (l : Fin 128) : k0_pay13 (nP m c t) (iblk m c 5 t) (iblk m c 11 t) (iblk m c 8 t) (iblk m c 10 t) (ix3 0 r ⟨128 * h.val + l.val, by omega⟩)
    = klanes (kvA m c (bt t) (tok t r)) (cA m c (bt t) (tok t r)) (csA m c (bt t) (tok t r)) (snA m c (bt t) (tok t r)) h l.val := by
  unfold klanes
  rw [← mul_one (head _ _ _ _ _)]
  refine head_ext _ _ _ _ (fun l : Fin 128 => k0_pay13 (nP m c t) (iblk m c 5 t) (iblk m c 11 t) (iblk m c 8 t) (iblk m c 10 t) (ix3 0 r ⟨128 * h.val + l.val, by omega⟩)) 1
    (fun l => ?_) (fun l => ?_) (fun l => ?_) l
  · rw [mul_one]
    refine (pay13_at _ _ _ _ _ r _).trans ?_
    rw [up_0 m c t r h l, place_0 m c t r _ h ⟨l.val, by omega⟩ (Or.inl l.isLt), add_zero]
  · rw [mul_one]
    refine (pay13_at _ _ _ _ _ r _).trans ?_
    rw [up_1 m c t r h ⟨l.val, by omega⟩, place_1 m c t r _ h l, rot_at, zero_add]
  · refine (pay13_at _ _ _ _ _ r _).trans ?_
    rw [place_0 m c t r _ h ⟨96 + l.val, by omega⟩ (Or.inr (by simp only []; omega)), add_zero]
    refine Eq.trans (Finset.sum_congr rfl fun i _ => congrArg (fun z => k0_pay12 (nP m c t) (iblk m c 5 t) (ix2 r i) * (iblk m c 8 t : Vec Ideal S128x512 .bf16) (ix2 i z)) (Fin.ext ?_))
      (up_1 m c t r h ⟨32 + l.val, by omega⟩)
    simp only []
    omega

end Cert.ProjIdeal.Step

end
-- ==== Proof.ProjReads.lean ====
/- A load of all of one of the input projection's blocks is the block. -/
module

public import proofs.«01_k».proof.Proof.Gen.ProjIdeal.Skeleton
import Idealize.ShloMosaic.Lib.Pipeline.ValueKit
public import Idealize.ShloMosaic.Lib.WholeRead

@[expose] public section

set_option maxRecDepth 16384

noncomputable section

namespace Cert.ProjIdeal.Step

open Cert.ProjIdeal Cert.ProjIdeal.Gen Idealize.ShloMosaic Idealize.ShloMosaic.TcCoe Idealize.SL.Sem

/-- A load of all of a buffer held at known contents is the contents. -/
theorem readAt_whole {sig : RefSig} {κ : Kind} {sp : Space} {s : Shape} {e : EltTy} {m : Memref sig κ sp s e} {Val : EltTy → Type} (h : m.IsWhole)
    (X : s.Idx → Val e) (off : Fin s.rank → ℕ) (hoff : off = fun _ => 0) (inb : ∀ a, off a + s.size a ≤ s.size a) :
    View.readAt Val m.view (Rect.unit off s.size inb).toLoadRect (h.unread X) = X := by
  subst hoff
  exact funext fun x => (h.readAt_unread X _ x).trans (congrArg X (funext fun a => Fin.ext (by show 0 + 1 * (x a).val = (x a).val; omega)))

theorem z2 : (![0, 0] : Fin 2 → ℕ) = fun _ => 0 := funext fun a => by fin_cases a <;> rfl
theorem z3 : (![0, 0, 0] : Fin 3 → ℕ) = fun _ => 0 := funext fun a => by fin_cases a <;> rfl

theorem e0 (arg2 : Memref sig .tc .vmem S1x512x1024 .f32) (harg2 : arg2.IsWhole) (x0 : Vec Ideal S1x512x1024 .f32) :
    View.readAt (Elt Ideal) arg2.view (Rect.unit (s := S1x512x1024) ![0, 0, 0] ![1, 512, 1024] inb_S1x512x1024_S1x512x1024_0_0_0).toLoadRect (harg2.unread x0) = x0 :=
  readAt_whole harg2 x0 _ z3 _

theorem e1 (arg3 : Memref sig .tc .vmem S1x1024 .f32) (harg3 : arg3.IsWhole) (x1 : Vec Ideal S1x1024 .f32) :
    View.readAt (Elt Ideal) arg3.view (Rect.unit (s := S1x1024) ![0, 0] ![1, 1024] inb_S1x1024_S1x1024_0_0).toLoadRect (harg3.unread x1) = x1 :=
  readAt_whole harg3 x1 _ z2 _

theorem e2 (arg4 : Memref sig .tc .vmem S1024x896 .bf16) (harg4 : arg4.IsWhole) (x2 : Vec Ideal S1024x896 .bf16) :
    View.readAt (Elt Ideal) arg4.view (Rect.unit (s := S1024x896) ![0, 0] ![1024, 896] inb_S1024x896_S1024x896_0_0).toLoadRect (harg4.unread x2) = x2 :=
  readAt_whole harg4 x2 _ z2 _

theorem e3 (arg5 : Memref sig .tc .vmem S1152x1024 .bf16) (harg5 : arg5.IsWhole) (x3 : Vec Ideal S1152x1024 .bf16) :
    View.readAt (Elt Ideal) arg5.view (Rect.unit (s := S1152x1024) ![0, 0] ![1152, 1024] inb_S1152x1024_S1152x1024_0_0).toLoadRect (harg5.unread x3) = x3 :=
  readAt_whole harg5 x3 _ z2 _

theorem e4 (arg6 : Memref sig .tc .vmem S1x256 .f32) (harg6 : arg6.IsWhole) (x4 : Vec Ideal S1x256 .f32) :
    View.readAt (Elt Ideal) arg6.view (Rect.unit (s := S1x256) ![0, 0] ![1, 256] inb_S1x256_S1x256_0_0).toLoadRect (harg6.unread x4) = x4 :=
  readAt_whole harg6 x4 _ z2 _

theorem e5 (arg7 : Memref sig .tc .vmem S1x128 .f32) (harg7 : arg7.IsWhole) (x5 : Vec Ideal S1x128 .f32) :
    View.readAt (Elt Ideal) arg7.view (Rect.unit (s := S1x128) ![0, 0] ![1, 128] inb_S1x128_S1x128_0_0).toLoadRect (harg7.unread x5) = x5 :=
  readAt_whole harg7 x5 _ z2 _

theorem e6 (arg8 : Memref sig .tc .vmem S512x256 .bf16) (harg8 : arg8.IsWhole) (x6 : Vec Ideal S512x256 .bf16) :
    View.readAt (Elt Ideal) arg8.view (Rect.unit (s := S512x256) ![0, 0] ![512, 256] inb_S512x256_S512x256_0_0).toLoadRect (harg8.unread x6) = x6 :=
  readAt_whole harg8 x6 _ z2 _

theorem e7 (arg9 : Memref sig .tc .vmem S128x256 .bf16) (harg9 : arg9.IsWhole) (x7 : Vec Ideal S128x256 .bf16) :
    View.readAt (Elt Ideal) arg9.view (Rect.unit (s := S128x256) ![0, 0] ![128, 256] inb_S128x256_S128x256_0_0).toLoadRect (harg9.unread x7) = x7 :=
  readAt_whole harg9 x7 _ z2 _

theorem e8 (arg10 : Memref sig .tc .vmem S128x512 .bf16) (harg10 : arg10.IsWhole) (x8 : Vec Ideal S128x512 .bf16) :
    View.readAt (Elt Ideal) arg10.view (Rect.unit (s := S128x512) ![0, 0] ![128, 512] inb_S128x512_S128x512_0_0).toLoadRect (harg10.unread x8) = x8 :=
  readAt_whole harg10 x8 _ z2 _

theorem e9 (arg11 : Memref sig .tc .vmem S256x128 .bf16) (harg11 : arg11.IsWhole) (x9 : Vec Ideal S256x128 .bf16) :
    View.readAt (Elt Ideal) arg11.view (Rect.unit (s := S256x128) ![0, 0] ![256, 128] inb_S256x128_S256x128_0_0).toLoadRect (harg11.unread x9) = x9 :=
  readAt_whole harg11 x9 _ z2 _

theorem e10 (arg12 : Memref sig .tc .vmem S128x512 .bf16) (harg12 : arg12.IsWhole) (x10 : Vec Ideal S128x512 .bf16) :
    View.readAt (Elt Ideal) arg12.view (Rect.unit (s := S128x512) ![0, 0] ![128, 512] inb_S128x512_S128x512_0_0).toLoadRect (harg12.unread x10) = x10 :=
  readAt_whole harg12 x10 _ z2 _

theorem e11 (arg13 : Memref sig .tc .vmem S1x512x128 .f32) (harg13 : arg13.IsWhole) (x11 : Vec Ideal S1x512x128 .f32) :
    View.readAt (Elt Ideal) arg13.view (Rect.unit (s := S1x512x128) ![0, 0, 0] ![1, 512, 128] inb_S1x512x128_S1x512x128_0_0_0).toLoadRect (harg13.unread x11) = x11 :=
  readAt_whole harg13 x11 _ z3 _

theorem e12 (arg14 : Memref sig .tc .vmem S1x32x512 .f32) (harg14 : arg14.IsWhole) (x12 : Vec Ideal S1x32x512 .f32) :
    View.readAt (Elt Ideal) arg14.view (Rect.unit (s := S1x32x512) ![0, 0, 0] ![1, 32, 512] inb_S1x32x512_S1x32x512_0_0_0).toLoadRect (harg14.unread x12) = x12 :=
  readAt_whole harg14 x12 _ z3 _

theorem e13 (arg15 : Memref sig .tc .vmem S1x32x512 .f32) (harg15 : arg15.IsWhole) (x13 : Vec Ideal S1x32x512 .f32) :
    View.readAt (Elt Ideal) arg15.view (Rect.unit (s := S1x32x512) ![0, 0, 0] ![1, 32, 512] inb_S1x32x512_S1x32x512_0_0_0).toLoadRect (harg15.unread x13) = x13 :=
  readAt_whole harg15 x13 _ z3 _

end Cert.ProjIdeal.Step

end
-- ==== Proof.ProjOuts.lean ====
/- What a point of the input projection leaves in the blocks of its results. -/
module

public import proofs.«01_k».proof.Proof.ProjIdealFrame
public import proofs.«01_k».proof.Proof.ProjSteps
public import proofs.«01_k».proof.Proof.ProjReads
import Idealize.ShloMosaic.Lib.Pipeline.ValueKit
import Idealize.ShloMosaic.Lib.WritesUnit
import Idealize.ShloMosaic.Lib.Pipeline.ReadBack
public import Idealize.ShloMosaic.Lib.WholeRead

@[expose] public section

set_option maxRecDepth 16384

noncomputable section

namespace Cert.ProjIdeal.Step

open Cert.ProjIdeal Cert.ProjIdeal.Gen Idealize.ShloMosaic Idealize.ShloMosaic.TcCoe Idealize.SL.Sem

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
  (x0 : Vec Ideal S1x512x1024 .f32) (x1 : Vec Ideal S1x1024 .f32) (x2 : Vec Ideal S1024x896 .bf16) (x3 : Vec Ideal S1152x1024 .bf16) (x4 : Vec Ideal S1x256 .f32) (x5 : Vec Ideal S1x128 .f32) (x6 : Vec Ideal S512x256 .bf16) (x7 : Vec Ideal S128x256 .bf16) (x8 : Vec Ideal S128x512 .bf16) (x9 : Vec Ideal S256x128 .bf16) (x10 : Vec Ideal S128x512 .bf16) (x11 : Vec Ideal S1x512x128 .f32) (x12 : Vec Ideal S1x32x512 .f32) (x13 : Vec Ideal S1x32x512 .f32)

theorem out14 : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay5 x0 x1 x3 := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out15 : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay9 (k0_pay3 x0 x1 x2) := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out16 : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay6 x0 x1 x3 := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out18 : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay13 (k0_pay3 x0 x1 x2) x5 x11 x8 x10 := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out19 : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay15 (k0_pay14 (k0_pay3 x0 x1 x2) x5 x9) := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out20 : out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay7 (k0_pay4 x0 x1 x3) := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out21 : out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay10 (k0_pay3 x0 x1 x2) := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

theorem out22 : out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay8 (k0_pay4 x0 x1 x3) := by
  frame_open
  simp (disch := decide) only [↓ View.readCov_skip, ↓ View.readCov_cons_toLoadRect, ↓ View.readCov_fill]
  simp only [e0, e1, e2, e3, e4, e5, e6, e7, e8, e9, e10, e11, e12, e13]
  funext y
  refine (View.read_writes_cons_unit_of_mem _ _ _ _ _ y y rfl (Fin.forall_fin_succ.2 ⟨(Nat.zero_add _).symm, Fin.forall_fin_two.2 ⟨(Nat.zero_add _).symm, (Nat.zero_add _).symm⟩⟩)).trans ?_
  refine congrFun ?_ y
  rfl

end Cert.ProjIdeal.Step

end
-- ==== Proof.ProjQ.lean ====
/- What a point of the input projection leaves in the block of the latent queries. -/
module

public import proofs.«01_k».proof.Proof.ProjIdealFrame
public import proofs.«01_k».proof.Proof.ProjSteps
public import proofs.«01_k».proof.Proof.ProjReads
import Idealize.ShloMosaic.Lib.Pipeline.ValueKit
import Idealize.ShloMosaic.Lib.WritesUnit
import Idealize.ShloMosaic.Lib.Pipeline.ReadBack
public import Idealize.ShloMosaic.Lib.WholeRead

@[expose] public section

set_option maxRecDepth 16384

noncomputable section

namespace Cert.ProjIdeal.Step

open Cert.ProjIdeal Cert.ProjIdeal.Gen Idealize.ShloMosaic Idealize.ShloMosaic.TcCoe Idealize.SL.Sem

/-- Rows of the block named by equal numbers. -/
theorem ix3_row (i j : Fin 512) (h : i.val = j.val) (r : Fin 512) : (ix3 0 i r : S1x512x512.Idx) = ix3 0 j r := by
  rw [Fin.ext h]

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1152x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S256x128 .bf16) (harg11 : arg11.IsWhole) (arg12 : Memref sig .tc .vmem S128x512 .bf16) (harg12 : arg12.IsWhole) (arg13 : Memref sig .tc .vmem S1x512x128 .f32) (harg13 : arg13.IsWhole) (arg14 : Memref sig .tc .vmem S1x32x512 .f32) (harg14 : arg14.IsWhole) (arg15 : Memref sig .tc .vmem S1x32x512 .f32) (harg15 : arg15.IsWhole) (arg16 : Memref sig .tc .vmem S1x256x512 .bf16) (harg16 : arg16.IsWhole) (arg17 : Memref sig .tc .vmem S1x512x256 .bf16) (harg17 : arg17.IsWhole) (arg18 : Memref sig .tc .vmem S1x256x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x512 .bf16) (harg22 : arg22.IsWhole) (arg23 : Memref sig .tc .vmem S1x512x128 .bf16) (harg23 : arg23.IsWhole) (arg24 : Memref sig .tc .vmem S1x128x512 .bf16) (harg24 : arg24.IsWhole)
  (x0 : Vec Ideal S1x512x1024 .f32) (x1 : Vec Ideal S1x1024 .f32) (x2 : Vec Ideal S1024x896 .bf16) (x3 : Vec Ideal S1152x1024 .bf16) (x4 : Vec Ideal S1x256 .f32) (x5 : Vec Ideal S1x128 .f32) (x6 : Vec Ideal S512x256 .bf16) (x7 : Vec Ideal S128x256 .bf16) (x8 : Vec Ideal S128x512 .bf16) (x9 : Vec Ideal S256x128 .bf16) (x10 : Vec Ideal S128x512 .bf16) (x11 : Vec Ideal S1x512x128 .f32) (x12 : Vec Ideal S1x32x512 .f32) (x13 : Vec Ideal S1x32x512 .f32)

theorem out17_0 (l : Fin 64) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨0 + l.val, by omega⟩ r)
    = plainK (k0_pay11 (k0_pay3 x0 x1 x2) x4) x6 0 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 0 + l.val < 480; omega))).trans ?_
  refine (View.read_writes_cons_unit_of_not_mem _ _ _ _ _ _ rfl 1 (Or.inl (by show 0 + l.val < 448; omega))).trans ?_
  refine (View.read_writes_cons_unit_of_not_mem _ _ _ _ _ _ rfl 1 (Or.inl (by show 0 + l.val < 384; omega))).trans ?_
  refine (View.read_writes_cons_unit_of_not_mem _ _ _ _ _ _ rfl 1 (Or.inl (by show 0 + l.val < 352; omega))).trans ?_
  refine (View.read_writes_cons_unit_of_not_mem _ _ _ _ _ _ rfl 1 (Or.inl (by show 0 + l.val < 320; omega))).trans ?_
  refine (View.read_writes_cons_unit_of_not_mem _ _ _ _ _ _ rfl 1 (Or.inl (by show 0 + l.val < 256; omega))).trans ?_
  refine (View.read_writes_cons_unit_of_not_mem _ _ _ _ _ _ rfl 1 (Or.inl (by show 0 + l.val < 224; omega))).trans ?_
  refine (View.read_writes_cons_unit_of_not_mem _ _ _ _ _ _ rfl 1 (Or.inl (by show 0 + l.val < 192; omega))).trans ?_
  refine (View.read_writes_cons_unit_of_not_mem _ _ _ _ _ _ rfl 1 (Or.inl (by show 0 + l.val < 128; omega))).trans ?_
  refine (View.read_writes_cons_unit_of_not_mem _ _ _ _ _ _ rfl 1 (Or.inl (by show 0 + l.val < 96; omega))).trans ?_
  refine (View.read_writes_cons_unit_of_not_mem _ _ _ _ _ _ rfl 1 (Or.inl (by show 0 + l.val < 64; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_1 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨64 + l.val, by omega⟩ r)
    = turnK (k0_pay11 (k0_pay3 x0 x1 x2) x4) x6 x7 x12 x13 0 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 64 + l.val < 480; omega))).trans ?_
  refine (View.read_writes_cons_unit_of_not_mem _ _ _ _ _ _ rfl 1 (Or.inl (by show 64 + l.val < 448; omega))).trans ?_
  refine (View.read_writes_cons_unit_of_not_mem _ _ _ _ _ _ rfl 1 (Or.inl (by show 64 + l.val < 384; omega))).trans ?_
  refine (View.read_writes_cons_unit_of_not_mem _ _ _ _ _ _ rfl 1 (Or.inl (by show 64 + l.val < 352; omega))).trans ?_
  refine (View.read_writes_cons_unit_of_not_mem _ _ _ _ _ _ rfl 1 (Or.inl (by show 64 + l.val < 320; omega))).trans ?_
  refine (View.read_writes_cons_unit_of_not_mem _ _ _ _ _ _ rfl 1 (Or.inl (by show 64 + l.val < 256; omega))).trans ?_
  refine (View.read_writes_cons_unit_of_not_mem _ _ _ _ _ _ rfl 1 (Or.inl (by show 64 + l.val < 224; omega))).trans ?_
  refine (View.read_writes_cons_unit_of_not_mem _ _ _ _ _ _ rfl 1 (Or.inl (by show 64 + l.val < 192; omega))).trans ?_
  refine (View.read_writes_cons_unit_of_not_mem _ _ _ _ _ _ rfl 1 (Or.inl (by show 64 + l.val < 128; omega))).trans ?_
  refine (View.read_writes_cons_unit_of_not_mem _ _ _ _ _ _ rfl 1 (Or.inl (by show 64 + l.val < 96; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_2 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨96 + l.val, by omega⟩ r)
    = restK  0 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 96 + l.val < 480; omega))).trans ?_
  refine (View.read_writes_cons_unit_of_not_mem _ _ _ _ _ _ rfl 1 (Or.inl (by show 96 + l.val < 448; omega))).trans ?_
  refine (View.read_writes_cons_unit_of_not_mem _ _ _ _ _ _ rfl 1 (Or.inl (by show 96 + l.val < 384; omega))).trans ?_
  refine (View.read_writes_cons_unit_of_not_mem _ _ _ _ _ _ rfl 1 (Or.inl (by show 96 + l.val < 352; omega))).trans ?_
  refine (View.read_writes_cons_unit_of_not_mem _ _ _ _ _ _ rfl 1 (Or.inl (by show 96 + l.val < 320; omega))).trans ?_
  refine (View.read_writes_cons_unit_of_not_mem _ _ _ _ _ _ rfl 1 (Or.inl (by show 96 + l.val < 256; omega))).trans ?_
  refine (View.read_writes_cons_unit_of_not_mem _ _ _ _ _ _ rfl 1 (Or.inl (by show 96 + l.val < 224; omega))).trans ?_
  refine (View.read_writes_cons_unit_of_not_mem _ _ _ _ _ _ rfl 1 (Or.inl (by show 96 + l.val < 192; omega))).trans ?_
  refine (View.read_writes_cons_unit_of_not_mem _ _ _ _ _ _ rfl 1 (Or.inl (by show 96 + l.val < 128; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_3 (l : Fin 64) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨128 + l.val, by omega⟩ r)
    = plainK (k0_pay11 (k0_pay3 x0 x1 x2) x4) x6 1 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 128 + l.val < 480; omega))).trans ?_
  refine (View.read_writes_cons_unit_of_not_mem _ _ _ _ _ _ rfl 1 (Or.inl (by show 128 + l.val < 448; omega))).trans ?_
  refine (View.read_writes_cons_unit_of_not_mem _ _ _ _ _ _ rfl 1 (Or.inl (by show 128 + l.val < 384; omega))).trans ?_
  refine (View.read_writes_cons_unit_of_not_mem _ _ _ _ _ _ rfl 1 (Or.inl (by show 128 + l.val < 352; omega))).trans ?_
  refine (View.read_writes_cons_unit_of_not_mem _ _ _ _ _ _ rfl 1 (Or.inl (by show 128 + l.val < 320; omega))).trans ?_
  refine (View.read_writes_cons_unit_of_not_mem _ _ _ _ _ _ rfl 1 (Or.inl (by show 128 + l.val < 256; omega))).trans ?_
  refine (View.read_writes_cons_unit_of_not_mem _ _ _ _ _ _ rfl 1 (Or.inl (by show 128 + l.val < 224; omega))).trans ?_
  refine (View.read_writes_cons_unit_of_not_mem _ _ _ _ _ _ rfl 1 (Or.inl (by show 128 + l.val < 192; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_4 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨192 + l.val, by omega⟩ r)
    = turnK (k0_pay11 (k0_pay3 x0 x1 x2) x4) x6 x7 x12 x13 1 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 192 + l.val < 480; omega))).trans ?_
  refine (View.read_writes_cons_unit_of_not_mem _ _ _ _ _ _ rfl 1 (Or.inl (by show 192 + l.val < 448; omega))).trans ?_
  refine (View.read_writes_cons_unit_of_not_mem _ _ _ _ _ _ rfl 1 (Or.inl (by show 192 + l.val < 384; omega))).trans ?_
  refine (View.read_writes_cons_unit_of_not_mem _ _ _ _ _ _ rfl 1 (Or.inl (by show 192 + l.val < 352; omega))).trans ?_
  refine (View.read_writes_cons_unit_of_not_mem _ _ _ _ _ _ rfl 1 (Or.inl (by show 192 + l.val < 320; omega))).trans ?_
  refine (View.read_writes_cons_unit_of_not_mem _ _ _ _ _ _ rfl 1 (Or.inl (by show 192 + l.val < 256; omega))).trans ?_
  refine (View.read_writes_cons_unit_of_not_mem _ _ _ _ _ _ rfl 1 (Or.inl (by show 192 + l.val < 224; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_5 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨224 + l.val, by omega⟩ r)
    = restK  1 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 224 + l.val < 480; omega))).trans ?_
  refine (View.read_writes_cons_unit_of_not_mem _ _ _ _ _ _ rfl 1 (Or.inl (by show 224 + l.val < 448; omega))).trans ?_
  refine (View.read_writes_cons_unit_of_not_mem _ _ _ _ _ _ rfl 1 (Or.inl (by show 224 + l.val < 384; omega))).trans ?_
  refine (View.read_writes_cons_unit_of_not_mem _ _ _ _ _ _ rfl 1 (Or.inl (by show 224 + l.val < 352; omega))).trans ?_
  refine (View.read_writes_cons_unit_of_not_mem _ _ _ _ _ _ rfl 1 (Or.inl (by show 224 + l.val < 320; omega))).trans ?_
  refine (View.read_writes_cons_unit_of_not_mem _ _ _ _ _ _ rfl 1 (Or.inl (by show 224 + l.val < 256; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_6 (l : Fin 64) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨256 + l.val, by omega⟩ r)
    = plainK (k0_pay11 (k0_pay3 x0 x1 x2) x4) x6 2 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 256 + l.val < 480; omega))).trans ?_
  refine (View.read_writes_cons_unit_of_not_mem _ _ _ _ _ _ rfl 1 (Or.inl (by show 256 + l.val < 448; omega))).trans ?_
  refine (View.read_writes_cons_unit_of_not_mem _ _ _ _ _ _ rfl 1 (Or.inl (by show 256 + l.val < 384; omega))).trans ?_
  refine (View.read_writes_cons_unit_of_not_mem _ _ _ _ _ _ rfl 1 (Or.inl (by show 256 + l.val < 352; omega))).trans ?_
  refine (View.read_writes_cons_unit_of_not_mem _ _ _ _ _ _ rfl 1 (Or.inl (by show 256 + l.val < 320; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_7 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨320 + l.val, by omega⟩ r)
    = turnK (k0_pay11 (k0_pay3 x0 x1 x2) x4) x6 x7 x12 x13 2 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 320 + l.val < 480; omega))).trans ?_
  refine (View.read_writes_cons_unit_of_not_mem _ _ _ _ _ _ rfl 1 (Or.inl (by show 320 + l.val < 448; omega))).trans ?_
  refine (View.read_writes_cons_unit_of_not_mem _ _ _ _ _ _ rfl 1 (Or.inl (by show 320 + l.val < 384; omega))).trans ?_
  refine (View.read_writes_cons_unit_of_not_mem _ _ _ _ _ _ rfl 1 (Or.inl (by show 320 + l.val < 352; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_8 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨352 + l.val, by omega⟩ r)
    = restK  2 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 352 + l.val < 480; omega))).trans ?_
  refine (View.read_writes_cons_unit_of_not_mem _ _ _ _ _ _ rfl 1 (Or.inl (by show 352 + l.val < 448; omega))).trans ?_
  refine (View.read_writes_cons_unit_of_not_mem _ _ _ _ _ _ rfl 1 (Or.inl (by show 352 + l.val < 384; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_9 (l : Fin 64) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨384 + l.val, by omega⟩ r)
    = plainK (k0_pay11 (k0_pay3 x0 x1 x2) x4) x6 3 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 384 + l.val < 480; omega))).trans ?_
  refine (View.read_writes_cons_unit_of_not_mem _ _ _ _ _ _ rfl 1 (Or.inl (by show 384 + l.val < 448; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_10 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨448 + l.val, by omega⟩ r)
    = turnK (k0_pay11 (k0_pay3 x0 x1 x2) x4) x6 x7 x12 x13 3 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_not_mem _ _ _ _ _ _ rfl 1 (Or.inl (by show 448 + l.val < 480; omega))).trans ?_
  refine (View.read_writes_cons_unit_of_mem _ _ _ _ _ _ (ix3 0 l r) rfl (fun a => by match a with | 0 => rfl | 1 => rfl | 2 => exact (Nat.zero_add _).symm)).trans ?_
  refine congrFun ?_ _
  rfl

theorem out17_11 (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨480 + l.val, by omega⟩ r)
    = restK  3 (ix3 0 l r) := by
  frame_open
  simp (disch := decide) only [↓ View.readCov_skip, ↓ View.readCov_cons_toLoadRect, ↓ View.readCov_fill]
  simp only [e0, e1, e2, e3, e4, e5, e6, e7, e8, e9, e10, e11, e12, e13]
  refine (View.read_writes_cons_unit_of_mem _ _ _ _ _ _ (ix3 0 l r) rfl (fun a => by match a with | 0 => rfl | 1 => rfl | 2 => exact (Nat.zero_add _).symm)).trans ?_
  refine congrFun ?_ _
  rfl

theorem plain_out (h : Fin 4) (l : Fin 64) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨128 * h.val + l.val, by omega⟩ r)
    = plainK (k0_pay11 (k0_pay3 x0 x1 x2) x4) x6 h (ix3 0 l r) := by
  match h with
  | 0 => exact (congrArg _ (ix3_row _ _ (by simp only []; omega) r)).trans (out17_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 1 => exact (congrArg _ (ix3_row _ _ (by simp only []; omega) r)).trans (out17_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 2 => exact (congrArg _ (ix3_row _ _ (by simp only []; omega) r)).trans (out17_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 3 => exact (congrArg _ (ix3_row _ _ (by simp only []; omega) r)).trans (out17_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)

theorem turn_out (h : Fin 4) (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨128 * h.val + (64 + l.val), by omega⟩ r)
    = turnK (k0_pay11 (k0_pay3 x0 x1 x2) x4) x6 x7 x12 x13 h (ix3 0 l r) := by
  match h with
  | 0 => exact (congrArg _ (ix3_row _ _ (by simp only []; omega) r)).trans (out17_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 1 => exact (congrArg _ (ix3_row _ _ (by simp only []; omega) r)).trans (out17_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 2 => exact (congrArg _ (ix3_row _ _ (by simp only []; omega) r)).trans (out17_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 3 => exact (congrArg _ (ix3_row _ _ (by simp only []; omega) r)).trans (out17_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)

theorem rest_out (h : Fin 4) (l : Fin 32) (r : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 0 ⟨128 * h.val + (96 + l.val), by omega⟩ r)
    = restK  h (ix3 0 l r) := by
  match h with
  | 0 => exact (congrArg _ (ix3_row _ _ (by simp only []; omega) r)).trans (out17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 1 => exact (congrArg _ (ix3_row _ _ (by simp only []; omega) r)).trans (out17_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 2 => exact (congrArg _ (ix3_row _ _ (by simp only []; omega) r)).trans (out17_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)
  | 3 => exact (congrArg _ (ix3_row _ _ (by simp only []; omega) r)).trans (out17_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 l r)

end Cert.ProjIdeal.Step

end
-- ==== Proof.ProjResult.lean ====
/- The input projection's result arrays after the run, entry by entry, from the call's arguments. -/
module

public import proofs.«01_k».proof.Proof.ProjValue
public import proofs.«01_k».proof.Proof.ProjOuts
public import proofs.«01_k».proof.Proof.ProjQ
import Idealize.ShloMosaic.Lib.Pipeline.ValueKit

@[expose] public section

set_option maxRecDepth 16384

noncomputable section

namespace Cert.ProjIdeal.Step

open Cert.ProjIdeal Cert.ProjIdeal.Gen Idealize.ShloMosaic Idealize.ShloMosaic.TcCoe Idealize.SL.Sem Cert.ProjSpec

section
variable (m : (ℓ : Loc nD τ sig) → Buf (Elt Ideal) ℓ) (c : Dev nD)

/-- The nine results' entries at a token. -/
def g14 (b : Fin 2) (s : Fin 16384) (j : Fin 256) : EReal := cA m c b s ⟨j.val, by omega⟩ * kd
def g15 (b : Fin 2) (s : Fin 16384) (j : Fin 256) : EReal := cA m c b s ⟨256 + j.val, by omega⟩
def g16 (b : Fin 2) (s : Fin 16384) (j : Fin 256) : EReal := cA m c b s ⟨512 + j.val, by omega⟩
def g17 (b : Fin 2) (s : Fin 16384) (j : Fin 512) : EReal := qlanes (qA m c b s) (csA m c b s) (snA m c b s) ⟨j.val / 128, by omega⟩ (j.val % 128) * km
def g18 (b : Fin 2) (s : Fin 16384) (j : Fin 512) : EReal := klanes (kvA m c b s) (cA m c b s) (csA m c b s) (snA m c b s) ⟨j.val / 128, by omega⟩ (j.val % 128)
def g19 (b : Fin 2) (s : Fin 16384) (j : Fin 256) : EReal := kvA m c b s ⟨(j.val / 64) * 128 + (64 + j.val % 64), by omega⟩
def g20 (b : Fin 2) (s : Fin 16384) (j : Fin 512) : EReal := cA m c b s ⟨1184 + j.val, by omega⟩ * ks
def g21 (b : Fin 2) (s : Fin 16384) (j : Fin 128) : EReal := cA m c b s ⟨1696 + j.val, by omega⟩
def g22 (b : Fin 2) (s : Fin 16384) (j : Fin 128) : EReal := cA m c b s ⟨1824 + j.val, by omega⟩

/-- The nine results. -/
def G14 : Vec Ideal S2x256x16384 .bf16 := fun x => g14 m c (x 0) (x 2) (x 1)
def G15 : Vec Ideal S2x16384x256 .bf16 := fun x => g15 m c (x 0) (x 1) (x 2)
def G16 : Vec Ideal S2x256x16384 .bf16 := fun x => g16 m c (x 0) (x 2) (x 1)
def G17 : Vec Ideal S2x512x16384 .bf16 := fun x => g17 m c (x 0) (x 2) (x 1)
def G18 : Vec Ideal S2x16384x512 .bf16 := fun x => g18 m c (x 0) (x 1) (x 2)
def G19 : Vec Ideal S2x256x16384 .bf16 := fun x => g19 m c (x 0) (x 2) (x 1)
def G20 : Vec Ideal S2x512x16384 .bf16 := fun x => g20 m c (x 0) (x 2) (x 1)
def G21 : Vec Ideal S2x16384x128 .bf16 := fun x => g21 m c (x 0) (x 1) (x 2)
def G22 : Vec Ideal S2x128x16384 .bf16 := fun x => g22 m c (x 0) (x 2) (x 1)

variable (t : Fin cfg0.N)

/-- What a point leaves in the blocks. -/
theorem at14 : (outsAt0 m c t).1 = k0_pay5 (iblk m c 0 t) (iblk m c 1 t) (iblk m c 3 t) := by
  unfold outsAt0
  dsimp only
  exact out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at15 : (outsAt0 m c t).2.1 = k0_pay9 (nP m c t) := by
  unfold outsAt0
  dsimp only
  exact out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at16 : (outsAt0 m c t).2.2.1 = k0_pay6 (iblk m c 0 t) (iblk m c 1 t) (iblk m c 3 t) := by
  unfold outsAt0
  dsimp only
  exact out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at18 : (outsAt0 m c t).2.2.2.2.1 = k0_pay13 (nP m c t) (iblk m c 5 t) (iblk m c 11 t) (iblk m c 8 t) (iblk m c 10 t) := by
  unfold outsAt0
  dsimp only
  exact out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at19 : (outsAt0 m c t).2.2.2.2.2.1 = k0_pay15 (k0_pay14 (nP m c t) (iblk m c 5 t) (iblk m c 9 t)) := by
  unfold outsAt0
  dsimp only
  exact out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at20 : (outsAt0 m c t).2.2.2.2.2.2.1 = k0_pay7 (uP m c t) := by
  unfold outsAt0
  dsimp only
  exact out20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at21 : (outsAt0 m c t).2.2.2.2.2.2.2.1 = k0_pay10 (nP m c t) := by
  unfold outsAt0
  dsimp only
  exact out21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
theorem at22 : (outsAt0 m c t).2.2.2.2.2.2.2.2 = k0_pay8 (uP m c t) := by
  unfold outsAt0
  dsimp only
  exact out22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- An index split into its group and its place in the group. -/
theorem split128 (j : Fin 512) : (⟨128 * (⟨j.val / 128, by omega⟩ : Fin 4).val + (⟨j.val % 128, by omega⟩ : Fin 128).val, by simp only []; omega⟩ : Fin 512) = j := Fin.ext (by simp only []; omega)
theorem split64 (j : Fin 256) : (⟨64 * (⟨j.val / 64, by omega⟩ : Fin 4).val + (⟨j.val % 64, by omega⟩ : Fin 64).val, by simp only []; omega⟩ : Fin 256) = j := Fin.ext (by simp only []; omega)

theorem at17 : (outsAt0 m c t).2.2.2.1 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  unfold outsAt0
  dsimp only

theorem p17 (r : Fin 512) (h : Fin 4) (l : Fin 128) : (outsAt0 m c t).2.2.2.1 (ix3 0 ⟨128 * h.val + l.val, by omega⟩ r)
    = qlanes (qA m c (bt t) (tok t r)) (csA m c (bt t) (tok t r)) (snA m c (bt t) (tok t r)) h l.val * km := by
  rw [at17]
  unfold qlanes
  refine head_ext _ _ _ _ (fun l : Fin 128 => out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 ⟨128 * h.val + l.val, by omega⟩ r)) km (fun l => ?_) (fun l => ?_) (fun l => ?_) l
  · exact (plain_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h l r).trans (plain_at m c t r h l)
  · exact (turn_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h l r).trans (turn_at m c t r h l)
  · exact (rest_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h l r).trans (restK_at r h l)

theorem v14 (r : Fin 512) (j : Fin 256) : (outsAt0 m c t).1 (ix3 0 j r) = g14 m c (bt t) (tok t r) j := by
  rw [at14]
  exact p14 m c t r j
theorem v15 (r : Fin 512) (j : Fin 256) : (outsAt0 m c t).2.1 (ix3 0 r j) = g15 m c (bt t) (tok t r) j := by
  rw [at15]
  exact p15 m c t r j
theorem v16 (r : Fin 512) (j : Fin 256) : (outsAt0 m c t).2.2.1 (ix3 0 j r) = g16 m c (bt t) (tok t r) j := by
  rw [at16]
  exact p16 m c t r j
theorem v17 (r : Fin 512) (j : Fin 512) : (outsAt0 m c t).2.2.2.1 (ix3 0 j r) = g17 m c (bt t) (tok t r) j := by
  have e := p17 m c t r ⟨j.val / 128, by omega⟩ ⟨j.val % 128, by omega⟩
  rw [split128] at e
  exact e
theorem v18 (r : Fin 512) (j : Fin 512) : (outsAt0 m c t).2.2.2.2.1 (ix3 0 r j) = g18 m c (bt t) (tok t r) j := by
  rw [at18]
  have e := p18 m c t r ⟨j.val / 128, by omega⟩ ⟨j.val % 128, by omega⟩
  rw [split128] at e
  exact e
theorem v19 (r : Fin 512) (j : Fin 256) : (outsAt0 m c t).2.2.2.2.2.1 (ix3 0 j r) = g19 m c (bt t) (tok t r) j := by
  rw [at19]
  have e := p19 m c t r ⟨j.val / 64, by omega⟩ ⟨j.val % 64, by omega⟩
  rw [split64] at e
  exact e
theorem v20 (r : Fin 512) (j : Fin 512) : (outsAt0 m c t).2.2.2.2.2.2.1 (ix3 0 j r) = g20 m c (bt t) (tok t r) j := by
  rw [at20]
  exact p20 m c t r j
theorem v21 (r : Fin 512) (j : Fin 128) : (outsAt0 m c t).2.2.2.2.2.2.2.1 (ix3 0 r j) = g21 m c (bt t) (tok t r) j := by
  rw [at21]
  exact p21 m c t r j
theorem v22 (r : Fin 512) (j : Fin 128) : (outsAt0 m c t).2.2.2.2.2.2.2.2 (ix3 0 j r) = g22 m c (bt t) (tok t r) j := by
  rw [at22]
  exact p22 m c t r j

end

section
variable (m : (ℓ : Loc nD τ sig) → Buf (Elt Ideal) ℓ) (c : Dev nD)

/-- The result arrays after the run. -/
theorem final14 : (dats m 0 c).arrAt 14 cfg0.N = G14 m c := by
  refine (dats m 0 c).arrAt_eq_of_covers 14 _ (by decide +kernel) fun t hf y => ?_
  blk_simp
  rw [after0_14]
  have hy : y = (ix3 0 (y 1) (y 2) : S1x256x512.Idx) := by
    funext a
    match a with
    | 0 => exact Fin.ext (by show (y 0).val = 0; have h : (y 0).val < 1 := (y 0).isLt; omega)
    | 1 => rfl
    | 2 => rfl
  have he : (win0_14.blk t).view.emb y = (ix3 (bt t) (y 1) (tok t (y 2)) : S2x256x16384.Idx) := by
    blk_ext [idx t, bt, tok]
  exact (congrArg (outsAt0 m c t).1 hy).trans ((v14 m c t (y 2) (y 1)).trans (congrArg (G14 m c) he).symm)
theorem final15 : (dats m 0 c).arrAt 15 cfg0.N = G15 m c := by
  refine (dats m 0 c).arrAt_eq_of_covers 15 _ (by decide +kernel) fun t hf y => ?_
  blk_simp
  rw [after0_15]
  have hy : y = (ix3 0 (y 1) (y 2) : S1x512x256.Idx) := by
    funext a
    match a with
    | 0 => exact Fin.ext (by show (y 0).val = 0; have h : (y 0).val < 1 := (y 0).isLt; omega)
    | 1 => rfl
    | 2 => rfl
  have he : (win0_15.blk t).view.emb y = (ix3 (bt t) (tok t (y 1)) (y 2) : S2x16384x256.Idx) := by
    blk_ext [idx t, bt, tok]
  exact (congrArg (outsAt0 m c t).2.1 hy).trans ((v15 m c t (y 1) (y 2)).trans (congrArg (G15 m c) he).symm)
theorem final16 : (dats m 0 c).arrAt 16 cfg0.N = G16 m c := by
  refine (dats m 0 c).arrAt_eq_of_covers 16 _ (by decide +kernel) fun t hf y => ?_
  blk_simp
  rw [after0_16]
  have hy : y = (ix3 0 (y 1) (y 2) : S1x256x512.Idx) := by
    funext a
    match a with
    | 0 => exact Fin.ext (by show (y 0).val = 0; have h : (y 0).val < 1 := (y 0).isLt; omega)
    | 1 => rfl
    | 2 => rfl
  have he : (win0_16.blk t).view.emb y = (ix3 (bt t) (y 1) (tok t (y 2)) : S2x256x16384.Idx) := by
    blk_ext [idx t, bt, tok]
  exact (congrArg (outsAt0 m c t).2.2.1 hy).trans ((v16 m c t (y 2) (y 1)).trans (congrArg (G16 m c) he).symm)
theorem final17 : (dats m 0 c).arrAt 17 cfg0.N = G17 m c := by
  refine (dats m 0 c).arrAt_eq_of_covers 17 _ (by decide +kernel) fun t hf y => ?_
  blk_simp
  rw [after0_17]
  have hy : y = (ix3 0 (y 1) (y 2) : S1x512x512.Idx) := by
    funext a
    match a with
    | 0 => exact Fin.ext (by show (y 0).val = 0; have h : (y 0).val < 1 := (y 0).isLt; omega)
    | 1 => rfl
    | 2 => rfl
  have he : (win0_17.blk t).view.emb y = (ix3 (bt t) (y 1) (tok t (y 2)) : S2x512x16384.Idx) := by
    blk_ext [idx t, bt, tok]
  exact (congrArg (outsAt0 m c t).2.2.2.1 hy).trans ((v17 m c t (y 2) (y 1)).trans (congrArg (G17 m c) he).symm)
theorem final18 : (dats m 0 c).arrAt 18 cfg0.N = G18 m c := by
  refine (dats m 0 c).arrAt_eq_of_covers 18 _ (by decide +kernel) fun t hf y => ?_
  blk_simp
  rw [after0_18]
  have hy : y = (ix3 0 (y 1) (y 2) : S1x512x512.Idx) := by
    funext a
    match a with
    | 0 => exact Fin.ext (by show (y 0).val = 0; have h : (y 0).val < 1 := (y 0).isLt; omega)
    | 1 => rfl
    | 2 => rfl
  have he : (win0_18.blk t).view.emb y = (ix3 (bt t) (tok t (y 1)) (y 2) : S2x16384x512.Idx) := by
    blk_ext [idx t, bt, tok]
  exact (congrArg (outsAt0 m c t).2.2.2.2.1 hy).trans ((v18 m c t (y 1) (y 2)).trans (congrArg (G18 m c) he).symm)
theorem final19 : (dats m 0 c).arrAt 19 cfg0.N = G19 m c := by
  refine (dats m 0 c).arrAt_eq_of_covers 19 _ (by decide +kernel) fun t hf y => ?_
  blk_simp
  rw [after0_19]
  have hy : y = (ix3 0 (y 1) (y 2) : S1x256x512.Idx) := by
    funext a
    match a with
    | 0 => exact Fin.ext (by show (y 0).val = 0; have h : (y 0).val < 1 := (y 0).isLt; omega)
    | 1 => rfl
    | 2 => rfl
  have he : (win0_19.blk t).view.emb y = (ix3 (bt t) (y 1) (tok t (y 2)) : S2x256x16384.Idx) := by
    blk_ext [idx t, bt, tok]
  exact (congrArg (outsAt0 m c t).2.2.2.2.2.1 hy).trans ((v19 m c t (y 2) (y 1)).trans (congrArg (G19 m c) he).symm)
theorem final20 : (dats m 0 c).arrAt 20 cfg0.N = G20 m c := by
  refine (dats m 0 c).arrAt_eq_of_covers 20 _ (by decide +kernel) fun t hf y => ?_
  blk_simp
  rw [after0_20]
  have hy : y = (ix3 0 (y 1) (y 2) : S1x512x512.Idx) := by
    funext a
    match a with
    | 0 => exact Fin.ext (by show (y 0).val = 0; have h : (y 0).val < 1 := (y 0).isLt; omega)
    | 1 => rfl
    | 2 => rfl
  have he : (win0_20.blk t).view.emb y = (ix3 (bt t) (y 1) (tok t (y 2)) : S2x512x16384.Idx) := by
    blk_ext [idx t, bt, tok]
  exact (congrArg (outsAt0 m c t).2.2.2.2.2.2.1 hy).trans ((v20 m c t (y 2) (y 1)).trans (congrArg (G20 m c) he).symm)
theorem final21 : (dats m 0 c).arrAt 21 cfg0.N = G21 m c := by
  refine (dats m 0 c).arrAt_eq_of_covers 21 _ (by decide +kernel) fun t hf y => ?_
  blk_simp
  rw [after0_21]
  have hy : y = (ix3 0 (y 1) (y 2) : S1x512x128.Idx) := by
    funext a
    match a with
    | 0 => exact Fin.ext (by show (y 0).val = 0; have h : (y 0).val < 1 := (y 0).isLt; omega)
    | 1 => rfl
    | 2 => rfl
  have he : (win0_21.blk t).view.emb y = (ix3 (bt t) (tok t (y 1)) (y 2) : S2x16384x128.Idx) := by
    blk_ext [idx t, bt, tok]
  exact (congrArg (outsAt0 m c t).2.2.2.2.2.2.2.1 hy).trans ((v21 m c t (y 1) (y 2)).trans (congrArg (G21 m c) he).symm)
theorem final22 : (dats m 0 c).arrAt 22 cfg0.N = G22 m c := by
  refine (dats m 0 c).arrAt_eq_of_covers 22 _ (by decide +kernel) fun t hf y => ?_
  blk_simp
  rw [after0_22]
  have hy : y = (ix3 0 (y 1) (y 2) : S1x128x512.Idx) := by
    funext a
    match a with
    | 0 => exact Fin.ext (by show (y 0).val = 0; have h : (y 0).val < 1 := (y 0).isLt; omega)
    | 1 => rfl
    | 2 => rfl
  have he : (win0_22.blk t).view.emb y = (ix3 (bt t) (y 1) (tok t (y 2)) : S2x128x16384.Idx) := by
    blk_ext [idx t, bt, tok]
  exact (congrArg (outsAt0 m c t).2.2.2.2.2.2.2.2 hy).trans ((v22 m c t (y 2) (y 1)).trans (congrArg (G22 m c) he).symm)

end

end Cert.ProjIdeal.Step

end
-- ==== Proof.ProjAgree.lean ====
/- The input projection's reference leaves the arrays the kernel does. -/
module

public import proofs.«01_k».proof.Proof.ProjRefResult
public import proofs.«01_k».proof.Proof.ProjResult

@[expose] public section

set_option maxRecDepth 16384

noncomputable section

namespace Cert.ProjAgree

open Idealize.ShloMosaic Idealize.ShloMosaic.TcCoe Idealize.SL.Sem Cert.ProjSpec
open Cert.ProjIdeal.Step (a0 a1 a2 a3 a4 a5 a6 a7 cA qA kvA csA snA angH split128 split64)
open Cert.ProjReferenceIdeal.Step (cR qR kvR angR cR_at qR_at kvR_at)

variable (m : (ℓ : Loc Cert.ProjIdeal.nD Cert.ProjIdeal.τ Cert.ProjIdeal.sig) → Buf (Elt Ideal) ℓ) (c : Dev Cert.ProjIdeal.nD)

/-- The reference's vectors at the kernel's arguments. -/
abbrev cV : FVec Ideal Cert.ProjReferenceIdeal.S2x16384x1952 .f32 := cR (a0 m c) (a2 m c) (a3 m c)
abbrev qV : FVec Ideal Cert.ProjReferenceIdeal.S2x16384x384 .f32 := qR (cV m c) (a4 m c) (a5 m c)
abbrev kvV : FVec Ideal Cert.ProjReferenceIdeal.S2x16384x512 .f32 := kvR (cV m c) (a6 m c) (a7 m c)
abbrev aV : FVec Ideal Cert.ProjReferenceIdeal.S2x16384x16 .f32 := angR (a1 m c)

theorem ang_eq : angR (a1 m c) = angH (a1 m c) := by
  unfold angR angH
  rfl

theorem c_eq (b : Fin 2) (s : Fin 16384) (j : Fin 1952) : cV m c (ix3 b s j) = cA m c b s j := by
  exact cR_at _ _ _ b s j

theorem q_eq (b : Fin 2) (s : Fin 16384) (j : Fin 384) : qV m c (ix3 b s j) = qA m c b s j := by
  unfold qA
  rw [← show (fun j => cV m c (ix3 b s j)) = cA m c b s from funext fun j => c_eq m c b s j]
  exact qR_at _ _ _ b s j

theorem kv_eq (b : Fin 2) (s : Fin 16384) (j : Fin 512) : kvV m c (ix3 b s j) = kvA m c b s j := by
  unfold kvA
  rw [← show (fun j => cV m c (ix3 b s j)) = cA m c b s from funext fun j => c_eq m c b s j]
  exact kvR_at _ _ _ b s j

theorem splitR (j : Fin 512) : (⟨(⟨j.val / 128, by omega⟩ : Fin 4).val * 128 + (⟨j.val % 128, by omega⟩ : Fin 128).val, by simp only []; omega⟩ : Fin 512) = j := Fin.ext (by simp only []; omega)

theorem r0 (b : Fin 2) (s : Fin 16384) (j : Fin 256) : Cert.ProjReferenceIdeal.Step.o0 (cV m c) (ix3 b j s) = Cert.ProjIdeal.Step.g14 m c b s j := by
  rw [Cert.ProjReferenceIdeal.Step.o0_at, c_eq]
  rfl
theorem r1 (b : Fin 2) (s : Fin 16384) (j : Fin 256) : Cert.ProjReferenceIdeal.Step.o1 (cV m c) (ix3 b s j) = Cert.ProjIdeal.Step.g15 m c b s j := by
  rw [Cert.ProjReferenceIdeal.Step.o1_at, c_eq]
  rfl
theorem r2 (b : Fin 2) (s : Fin 16384) (j : Fin 256) : Cert.ProjReferenceIdeal.Step.o2 (cV m c) (ix3 b j s) = Cert.ProjIdeal.Step.g16 m c b s j := by
  rw [Cert.ProjReferenceIdeal.Step.o2_at, c_eq]
  rfl
theorem r3 (b : Fin 2) (s : Fin 16384) (j : Fin 512) : Cert.ProjReferenceIdeal.Step.o3 (qV m c) (aV m c) (ix3 b j s) = Cert.ProjIdeal.Step.g17 m c b s j := by
  have e := Cert.ProjReferenceIdeal.Step.o3_at (aV m c) (qV m c) b s ⟨j.val / 128, by omega⟩ ⟨j.val % 128, by omega⟩
  rw [splitR, show (fun j => qV m c (ix3 b s j)) = qA m c b s from funext fun j => q_eq m c b s j] at e
  refine e.trans ?_
  rw [show aV m c = angH (a1 m c) from ang_eq m c]
  rfl
theorem r4 (b : Fin 2) (s : Fin 16384) (j : Fin 512) : Cert.ProjReferenceIdeal.Step.o4 (kvV m c) (cV m c) (aV m c) (ix3 b s j) = Cert.ProjIdeal.Step.g18 m c b s j := by
  have e := Cert.ProjReferenceIdeal.Step.o4_at (cV m c) (aV m c) (kvV m c) b s ⟨j.val / 128, by omega⟩ ⟨j.val % 128, by omega⟩
  rw [splitR, show (fun j => kvV m c (ix3 b s j)) = kvA m c b s from funext fun j => kv_eq m c b s j, show (fun j => cV m c (ix3 b s j)) = cA m c b s from funext fun j => c_eq m c b s j] at e
  refine e.trans ?_
  rw [show aV m c = angH (a1 m c) from ang_eq m c]
  rfl
theorem r5 (b : Fin 2) (s : Fin 16384) (j : Fin 256) : Cert.ProjReferenceIdeal.Step.o5 (kvV m c) (ix3 b j s) = Cert.ProjIdeal.Step.g19 m c b s j := by
  have e := Cert.ProjReferenceIdeal.Step.o5_at (kvV m c) b s ⟨j.val / 64, by omega⟩ ⟨j.val % 64, by omega⟩
  rw [split64, kv_eq] at e
  exact e
theorem r6 (b : Fin 2) (s : Fin 16384) (j : Fin 512) : Cert.ProjReferenceIdeal.Step.o6 (cV m c) (ix3 b j s) = Cert.ProjIdeal.Step.g20 m c b s j := by
  rw [Cert.ProjReferenceIdeal.Step.o6_at, c_eq]
  rfl
theorem r7 (b : Fin 2) (s : Fin 16384) (j : Fin 128) : Cert.ProjReferenceIdeal.Step.o7 (cV m c) (ix3 b s j) = Cert.ProjIdeal.Step.g21 m c b s j := by
  rw [Cert.ProjReferenceIdeal.Step.o7_at, c_eq]
  rfl
theorem r8 (b : Fin 2) (s : Fin 16384) (j : Fin 128) : Cert.ProjReferenceIdeal.Step.o8 (cV m c) (ix3 b j s) = Cert.ProjIdeal.Step.g22 m c b s j := by
  rw [Cert.ProjReferenceIdeal.Step.o8_at, c_eq]
  rfl

theorem R0 : Cert.ProjReferenceIdeal.Step.o0 (cV m c) = Cert.ProjIdeal.Step.G14 m c := by
  funext x
  have hx : x = (ix3 (x 0) (x 1) (x 2) : Cert.ProjIdeal.S2x256x16384.Idx) := funext fun a => by match a with | 0 => rfl | 1 => rfl | 2 => rfl
  exact (congrArg (Cert.ProjReferenceIdeal.Step.o0 (cV m c)) hx).trans (r0 m c (x 0) (x 2) (x 1))

theorem R1 : Cert.ProjReferenceIdeal.Step.o1 (cV m c) = Cert.ProjIdeal.Step.G15 m c := by
  funext x
  have hx : x = (ix3 (x 0) (x 1) (x 2) : Cert.ProjIdeal.S2x16384x256.Idx) := funext fun a => by match a with | 0 => rfl | 1 => rfl | 2 => rfl
  exact (congrArg (Cert.ProjReferenceIdeal.Step.o1 (cV m c)) hx).trans (r1 m c (x 0) (x 1) (x 2))

theorem R2 : Cert.ProjReferenceIdeal.Step.o2 (cV m c) = Cert.ProjIdeal.Step.G16 m c := by
  funext x
  have hx : x = (ix3 (x 0) (x 1) (x 2) : Cert.ProjIdeal.S2x256x16384.Idx) := funext fun a => by match a with | 0 => rfl | 1 => rfl | 2 => rfl
  exact (congrArg (Cert.ProjReferenceIdeal.Step.o2 (cV m c)) hx).trans (r2 m c (x 0) (x 2) (x 1))

theorem R3 : Cert.ProjReferenceIdeal.Step.o3 (qV m c) (aV m c) = Cert.ProjIdeal.Step.G17 m c := by
  funext x
  have hx : x = (ix3 (x 0) (x 1) (x 2) : Cert.ProjIdeal.S2x512x16384.Idx) := funext fun a => by match a with | 0 => rfl | 1 => rfl | 2 => rfl
  exact (congrArg (Cert.ProjReferenceIdeal.Step.o3 (qV m c) (aV m c)) hx).trans (r3 m c (x 0) (x 2) (x 1))

theorem R4 : Cert.ProjReferenceIdeal.Step.o4 (kvV m c) (cV m c) (aV m c) = Cert.ProjIdeal.Step.G18 m c := by
  funext x
  have hx : x = (ix3 (x 0) (x 1) (x 2) : Cert.ProjIdeal.S2x16384x512.Idx) := funext fun a => by match a with | 0 => rfl | 1 => rfl | 2 => rfl
  exact (congrArg (Cert.ProjReferenceIdeal.Step.o4 (kvV m c) (cV m c) (aV m c)) hx).trans (r4 m c (x 0) (x 1) (x 2))

theorem R5 : Cert.ProjReferenceIdeal.Step.o5 (kvV m c) = Cert.ProjIdeal.Step.G19 m c := by
  funext x
  have hx : x = (ix3 (x 0) (x 1) (x 2) : Cert.ProjIdeal.S2x256x16384.Idx) := funext fun a => by match a with | 0 => rfl | 1 => rfl | 2 => rfl
  exact (congrArg (Cert.ProjReferenceIdeal.Step.o5 (kvV m c)) hx).trans (r5 m c (x 0) (x 2) (x 1))

theorem R6 : Cert.ProjReferenceIdeal.Step.o6 (cV m c) = Cert.ProjIdeal.Step.G20 m c := by
  funext x
  have hx : x = (ix3 (x 0) (x 1) (x 2) : Cert.ProjIdeal.S2x512x16384.Idx) := funext fun a => by match a with | 0 => rfl | 1 => rfl | 2 => rfl
  exact (congrArg (Cert.ProjReferenceIdeal.Step.o6 (cV m c)) hx).trans (r6 m c (x 0) (x 2) (x 1))

theorem R7 : Cert.ProjReferenceIdeal.Step.o7 (cV m c) = Cert.ProjIdeal.Step.G21 m c := by
  funext x
  have hx : x = (ix3 (x 0) (x 1) (x 2) : Cert.ProjIdeal.S2x16384x128.Idx) := funext fun a => by match a with | 0 => rfl | 1 => rfl | 2 => rfl
  exact (congrArg (Cert.ProjReferenceIdeal.Step.o7 (cV m c)) hx).trans (r7 m c (x 0) (x 1) (x 2))

theorem R8 : Cert.ProjReferenceIdeal.Step.o8 (cV m c) = Cert.ProjIdeal.Step.G22 m c := by
  funext x
  have hx : x = (ix3 (x 0) (x 1) (x 2) : Cert.ProjIdeal.S2x128x16384.Idx) := funext fun a => by match a with | 0 => rfl | 1 => rfl | 2 => rfl
  exact (congrArg (Cert.ProjReferenceIdeal.Step.o8 (cV m c)) hx).trans (r8 m c (x 0) (x 2) (x 1))

end Cert.ProjAgree

end
-- ==== Proof.lean ====
/- The claims: the frames, generated but for the reference's (its run keeps its arguments), the named constants' values, and the
   equality of the idealized kernel's results with the reference's (Proof/Equal.lean, under the precondition of Proof/Finite.lean).
   Of the feed-forward part: the frames, and the equality of its result with its reference's, of any arguments.
   Of the mixing and cross attention: the frames, the named constant's value, and the equality of its result with its reference's,
   under the precondition of Proof/CrossFinite.lean.
   Of the input projection: the frames, the named constants' values, and the equality of its nine results with its reference's, of any arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossIdeal.Value
public import proofs.«01_k».proof.Proof.Gen.CrossReferenceIdeal
public import proofs.«01_k».proof.Proof.Gen.CrossReferenceIdeal.Run
public import proofs.«01_k».proof.Proof.Gen.Proj
public import proofs.«01_k».proof.Proof.ProjFrame
public import proofs.«01_k».proof.Proof.Gen.ProjIdeal
public import proofs.«01_k».proof.Proof.ProjIdealFrame
public import proofs.«01_k».proof.Proof.ProjIdealValue
public import proofs.«01_k».proof.Proof.Gen.ProjReferenceIdeal
public import proofs.«01_k».proof.Proof.Gen.ProjReferenceIdeal.Run
public import proofs.«01_k».proof.Proof.Equal
public import proofs.«01_k».proof.Proof.Finite
public import proofs.«01_k».proof.Proof.FfnResult
public import proofs.«01_k».proof.Proof.FfnRef
public import proofs.«01_k».proof.Proof.CrossResult
public import proofs.«01_k».proof.Proof.CrossRefResult
public import proofs.«01_k».proof.Proof.CrossFinite
public import proofs.«01_k».proof.Proof.ProjAgree
public import Idealize.ShloMosaic.Adequacy
public import Idealize.ShloMosaic.Init

@[expose] public section

noncomputable section

namespace Cert.Proof

open Idealize.ShloMosaic Idealize.SL.Sem

theorem frame_r : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem frame_r_finite : Cert.quiescent_ReferenceIdeal_pre_finite (hReferenceIdeal := Cert.ReferenceIdeal.Gen.facts) (hPre_finite := Cert.Pre_finite.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- Each named slope times log2(e) has the value the table gives it. -/
theorem preserves : Cert.preserves_Kernel_KernelIdeal :=
  ⟨IdealRules.named_const.statement Cert.KernelIdeal.κ "slope0_log2e" .f32 0x3CB8AA3B#32 _ rfl,
    IdealRules.named_const.statement Cert.KernelIdeal.κ "slope1_log2e" .f32 0x3C68A9CD#32 _ rfl,
    IdealRules.named_const.statement Cert.KernelIdeal.κ "slope2_log2e" .f32 0x3C129195#32 _ rfl,
    IdealRules.named_const.statement Cert.KernelIdeal.κ "slope3_log2e" .f32 0x3BB8AA3B#32 _ rfl⟩

/-- The kernel ends at the arrays `G11` and `G12` of its arguments; the reference, from arguments that agree, ends at the same arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, _, Cert.KernelIdeal.Value.run (F := Ideal) m ρ, ?_⟩
  refine (θ_run (Cert.ReferenceIdeal.defs (F := Ideal)) _ _).mono (fun _ h c => ⟨(h c).1.trans ?_, (h c).2.1.trans ?_, (h c).2.2⟩)
    (Cert.ReferenceIdeal.Value.run (F := Ideal) m' ρ')
  · obtain ⟨hf, f7, f9⟩ := Cert.Finite.args hpre c
    obtain ⟨e0, e1, e2, e3, e4, e5, e6, e7, e8, e9⟩ := hagree c
    rw [Cert.ReferenceIdeal.Step.out0_eq, e0, e1, e2, e6, e7, e8, e9]
    exact Cert.Equal.first hf f7 f9
  · obtain ⟨hf, f7, f9⟩ := Cert.Finite.args hpre c
    obtain ⟨e0, e1, e2, e3, e4, e5, e6, e7, e8, e9⟩ := hagree c
    rw [Cert.ReferenceIdeal.Step.out1_eq, e3, e4, e5]
    exact Cert.Equal.second hf

theorem frame_ffn_r : Cert.quiescent_FfnReferenceIdeal (hFfnReferenceIdeal := Cert.FfnReferenceIdeal.Gen.facts) := fun m ρ _ =>
  (θ_run (Cert.FfnReferenceIdeal.defs (F := Ideal)) _ _).mono (fun r h => ⟨fun c => (h c).2, sem_eq_zero_of_no_sems (by decide) r.2⟩)
    (Cert.FfnReferenceIdeal.Value.run (F := Ideal) m ρ)

/-- The feed-forward kernel ends at the array `G` of its arguments, and so does its reference. -/
theorem algebraic_ffn : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨fun c => Cert.FfnIdeal.Step.G m c, (θ_run (Cert.FfnIdeal.defs (F := Ideal)) _ _).mono
    (fun _ h c => ⟨(h c).1.trans (Cert.FfnIdeal.Step.final m c), (h c).2⟩) (Cert.FfnIdeal.Value.run_blocks (F := Ideal) m ρ), ?_⟩
  refine (θ_run (Cert.FfnReferenceIdeal.defs (F := Ideal)) _ _).mono (fun _ h c => ⟨(h c).1.trans ?_, (h c).2⟩)
    (Cert.FfnReferenceIdeal.Value.run (F := Ideal) m' ρ')
  obtain ⟨e0, e1, e2, e3, e4⟩ := hagree c
  rw [Cert.FfnReferenceIdeal.Step.out_eq, e0, e1, e2, e3, e4]
  funext x
  obtain ⟨b, s, e, rfl⟩ : ∃ (b : Fin 2) (s : Fin 16384) (e : Fin 1024), x = ix3 b s e :=
    ⟨x 0, x 1, x 2, funext fun a => by match a with | 0 => rfl | 1 => rfl | 2 => rfl⟩
  exact Cert.FfnReferenceIdeal.Step.result_at _ _ _ _ _ b s e

theorem frame_cross_r : Cert.quiescent_CrossReferenceIdeal (hCrossReferenceIdeal := Cert.CrossReferenceIdeal.Gen.facts) := fun m ρ _ =>
  (θ_run (Cert.CrossReferenceIdeal.defs (F := Ideal)) _ _).mono (fun r h => ⟨fun c => (h c).2, sem_eq_zero_of_no_sems (by decide) r.2⟩)
    (Cert.CrossReferenceIdeal.Value.run (F := Ideal) m ρ)

theorem frame_cross_r_finite : Cert.quiescent_CrossReferenceIdeal_pre_finite_keys (hCrossReferenceIdeal := Cert.CrossReferenceIdeal.Gen.facts)
    (hPre_finite_keys := Cert.Pre_finite_keys.Gen.facts) := fun m ρ _ =>
  (θ_run (Cert.CrossReferenceIdeal.defs (F := Ideal)) _ _).mono (fun r h => ⟨fun c => (h c).2, sem_eq_zero_of_no_sems (by decide) r.2⟩)
    (Cert.CrossReferenceIdeal.Value.run (F := Ideal) m ρ)

/-- A sixteenth times log2(e) has the value the table gives it. -/
theorem preserves_cross : Cert.preserves_Cross_CrossIdeal := IdealRules.named_const.statement Cert.CrossIdeal.κ "xscale_log2e" .f32 0x3DB8AA3B#32 _ rfl

/-- The mixing kernel ends at the array `G` of its arguments, and so does its reference. -/
theorem algebraic_cross : Cert.algebraic_CrossIdeal_CrossReferenceIdeal_pre_finite_keys (hCrossIdeal := Cert.CrossIdeal.Gen.facts)
    (hCrossReferenceIdeal := Cert.CrossReferenceIdeal.Gen.facts) (hPre_finite_keys := Cert.Pre_finite_keys.Gen.facts) := by
  intro m ρ m' ρ' hpre hagree
  refine ⟨fun c => Cert.CrossIdeal.Step.G m c, (θ_run (Cert.CrossIdeal.defs (F := Ideal)) _ _).mono
    (fun _ h c => ⟨(h c).1.trans (Cert.CrossIdeal.Step.final (Cert.Finite.keys hpre c)), (h c).2⟩) (Cert.CrossIdeal.Value.run_blocks (F := Ideal) m ρ), ?_⟩
  refine (θ_run (Cert.CrossReferenceIdeal.defs (F := Ideal)) _ _).mono
    (fun _ h c => ⟨((h c).1.trans (Cert.CrossReferenceIdeal.Step.out_eq m' c)).trans ?_, (h c).2⟩) (Cert.CrossReferenceIdeal.Value.run m' ρ')
  obtain ⟨hg, hw, hk⟩ := Cert.Finite.keys hpre c
  obtain ⟨e0, e1, e2, e3, e4, e5, e6, e7, e8, e9, e10⟩ := hagree c
  rw [e0, e1, e2, e3, e4, e5, e6, e7, e8, e9, e10]
  funext x
  obtain ⟨b, s, e, rfl⟩ : ∃ (b : Fin 2) (s : Fin 16384) (e : Fin 1024), x = ix3 b s e :=
    ⟨x 0, x 1, x 2, funext fun a => by match a with | 0 => rfl | 1 => rfl | 2 => rfl⟩
  exact Cert.CrossReferenceIdeal.Step.result_at _ _ _ _ _ _ _ _ _ _ _ (fun i => hg _) (fun i j => hw _) hk b s e

theorem frame_proj_r : Cert.quiescent_ProjReferenceIdeal (hProjReferenceIdeal := Cert.ProjReferenceIdeal.Gen.facts) := fun m ρ _ =>
  (θ_run (Cert.ProjReferenceIdeal.defs (F := Ideal)) _ _).mono (fun r h => ⟨fun c => (h c).2.2.2.2.2.2.2.2.2, sem_eq_zero_of_no_sems (by decide) r.2⟩)
    (Cert.ProjReferenceIdeal.Value.run (F := Ideal) m ρ)

set_option maxHeartbeats 16000000 in
/-- The input projection ends at the arrays `G14` to `G22` of its arguments, and so does its reference. -/
theorem algebraic_proj : Cert.algebraic_ProjIdeal_ProjReferenceIdeal (hProjIdeal := Cert.ProjIdeal.Gen.facts)
    (hProjReferenceIdeal := Cert.ProjReferenceIdeal.Gen.facts) := by
  intro m ρ m' ρ' _ hagree
  refine ⟨fun c => Cert.ProjIdeal.Step.G14 m c, fun c => Cert.ProjIdeal.Step.G15 m c, fun c => Cert.ProjIdeal.Step.G16 m c, fun c => Cert.ProjIdeal.Step.G17 m c, fun c => Cert.ProjIdeal.Step.G18 m c, fun c => Cert.ProjIdeal.Step.G19 m c, fun c => Cert.ProjIdeal.Step.G20 m c, fun c => Cert.ProjIdeal.Step.G21 m c, fun c => Cert.ProjIdeal.Step.G22 m c,
    (θ_run (Cert.ProjIdeal.defs (F := Ideal)) _ _).mono (fun _ h c => ?_) (Cert.ProjIdeal.Value.run_blocks (F := Ideal) m ρ),
    (θ_run (Cert.ProjReferenceIdeal.defs (F := Ideal)) _ _).mono (fun _ h c => ?_) (Cert.ProjReferenceIdeal.Value.run (F := Ideal) m' ρ')⟩
  · obtain ⟨h0, h1, h2, h3, h4, h5, h6, h7, h8, hk⟩ := h c
    exact ⟨h0.trans (Cert.ProjIdeal.Step.final14 m c), h1.trans (Cert.ProjIdeal.Step.final15 m c), h2.trans (Cert.ProjIdeal.Step.final16 m c), h3.trans (Cert.ProjIdeal.Step.final17 m c), h4.trans (Cert.ProjIdeal.Step.final18 m c), h5.trans (Cert.ProjIdeal.Step.final19 m c), h6.trans (Cert.ProjIdeal.Step.final20 m c), h7.trans (Cert.ProjIdeal.Step.final21 m c), h8.trans (Cert.ProjIdeal.Step.final22 m c), hk⟩
  · obtain ⟨h0, h1, h2, h3, h4, h5, h6, h7, h8, hk⟩ := h c
    obtain ⟨e0, e1, e2, e3, e4, e5, e6, e7⟩ := hagree c
    have ec : Cert.ProjReferenceIdeal.Step.cM m' c = Cert.ProjAgree.cV m c := by
      unfold Cert.ProjReferenceIdeal.Step.cM
      rw [e0, e2, e3]
    have eq : Cert.ProjReferenceIdeal.Step.qM m' c = Cert.ProjAgree.qV m c := by
      unfold Cert.ProjReferenceIdeal.Step.qM
      rw [ec, e4, e5]
    have ekv : Cert.ProjReferenceIdeal.Step.kvM m' c = Cert.ProjAgree.kvV m c := by
      unfold Cert.ProjReferenceIdeal.Step.kvM
      rw [ec, e6, e7]
    have ea : Cert.ProjReferenceIdeal.Step.aM m' c = Cert.ProjAgree.aV m c := by
      unfold Cert.ProjReferenceIdeal.Step.aM
      rw [e1]
    refine ⟨?_, ?_, ?_, ?_, ?_, ?_, ?_, ?_, ?_, hk⟩
    · refine h0.trans (Eq.trans ?_ ((congrArg Cert.ProjReferenceIdeal.Step.o0 ec).trans (Cert.ProjAgree.R0 m c)))
      unfold Cert.ProjReferenceIdeal.Step.o0 Cert.ProjReferenceIdeal.Step.lR Cert.ProjReferenceIdeal.Step.cM Cert.ProjReferenceIdeal.Step.cR Cert.ProjReferenceIdeal.Step.nR
      rfl
    · refine h1.trans (Eq.trans ?_ ((congrArg Cert.ProjReferenceIdeal.Step.o1 ec).trans (Cert.ProjAgree.R1 m c)))
      unfold Cert.ProjReferenceIdeal.Step.o1 Cert.ProjReferenceIdeal.Step.cM Cert.ProjReferenceIdeal.Step.cR Cert.ProjReferenceIdeal.Step.nR
      rfl
    · refine h2.trans (Eq.trans ?_ ((congrArg Cert.ProjReferenceIdeal.Step.o2 ec).trans (Cert.ProjAgree.R2 m c)))
      unfold Cert.ProjReferenceIdeal.Step.o2 Cert.ProjReferenceIdeal.Step.cM Cert.ProjReferenceIdeal.Step.cR Cert.ProjReferenceIdeal.Step.nR
      rfl
    · refine (h3.trans (Cert.ProjReferenceIdeal.Step.o3_eq m' c)).trans ?_
      rw [eq, ea]
      exact Cert.ProjAgree.R3 m c
    · refine (h4.trans (Cert.ProjReferenceIdeal.Step.o4_eq m' c)).trans ?_
      rw [ekv, ec, ea]
      exact Cert.ProjAgree.R4 m c
    · refine h5.trans (Eq.trans ?_ ((congrArg Cert.ProjReferenceIdeal.Step.o5 ekv).trans (Cert.ProjAgree.R5 m c)))
      unfold Cert.ProjReferenceIdeal.Step.o5 Cert.ProjReferenceIdeal.Step.kvM Cert.ProjReferenceIdeal.Step.kvR Cert.ProjReferenceIdeal.Step.nkvR Cert.ProjReferenceIdeal.Step.cM Cert.ProjReferenceIdeal.Step.cR Cert.ProjReferenceIdeal.Step.nR
      rfl
    · refine h6.trans (Eq.trans ?_ ((congrArg Cert.ProjReferenceIdeal.Step.o6 ec).trans (Cert.ProjAgree.R6 m c)))
      unfold Cert.ProjReferenceIdeal.Step.o6 Cert.ProjReferenceIdeal.Step.lR Cert.ProjReferenceIdeal.Step.cM Cert.ProjReferenceIdeal.Step.cR Cert.ProjReferenceIdeal.Step.nR
      rfl
    · refine h7.trans (Eq.trans ?_ ((congrArg Cert.ProjReferenceIdeal.Step.o7 ec).trans (Cert.ProjAgree.R7 m c)))
      unfold Cert.ProjReferenceIdeal.Step.o7 Cert.ProjReferenceIdeal.Step.cM Cert.ProjReferenceIdeal.Step.cR Cert.ProjReferenceIdeal.Step.nR
      rfl
    · refine h8.trans (Eq.trans ?_ ((congrArg Cert.ProjReferenceIdeal.Step.o8 ec).trans (Cert.ProjAgree.R8 m c)))
      unfold Cert.ProjReferenceIdeal.Step.o8 Cert.ProjReferenceIdeal.Step.cM Cert.ProjReferenceIdeal.Step.cR Cert.ProjReferenceIdeal.Step.nR
      rfl

theorem preserves_proj : Cert.preserves_Proj_ProjIdeal :=
  ⟨IdealRules.named_const.statement Cert.ProjIdeal.κ "diff_log2e" .f32 0x3E8293EE#32 _ rfl,
    IdealRules.named_const.statement Cert.ProjIdeal.κ "swa_log2e" .f32 0x3E38AA3B#32 _ rfl,
    IdealRules.named_const.statement Cert.ProjIdeal.κ "mla_log2e" .f32 0x3E16C740#32 _ rfl⟩

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Cross.Gen.facts, Cert.CrossIdeal.Gen.facts, Cert.CrossReferenceIdeal.Gen.facts,
    Cert.Proj.Gen.facts, Cert.ProjIdeal.Gen.facts, Cert.ProjReferenceIdeal.Gen.facts, Cert.Pre_finite.Gen.facts, Cert.Pre_finite_keys.Gen.facts,
    fun m ρ _ => Cert.Kernel.Gen.frame m ρ, fun m ρ _ => Cert.KernelIdeal.Gen.frame m ρ, fun m ρ _ => Cert.KernelIdeal.Gen.frame m ρ,
    frame_r, frame_r_finite, fun m ρ _ => Cert.Ffn.Gen.frame m ρ, fun m ρ _ => Cert.FfnIdeal.Gen.frame m ρ, frame_ffn_r,
    fun m ρ _ => Cert.Cross.Gen.frame m ρ, fun m ρ _ => Cert.CrossIdeal.Gen.frame m ρ, fun m ρ _ => Cert.CrossIdeal.Gen.frame m ρ,
    frame_cross_r, frame_cross_r_finite, fun m ρ _ => Cert.Proj.Gen.frame m ρ, fun m ρ _ => Cert.ProjIdeal.Gen.frame m ρ, frame_proj_r,
    preserves, algebraic, trivial, algebraic_ffn, preserves_cross, algebraic_cross, preserves_proj, algebraic_proj⟩

end Cert.Proof

end
